-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_log_base" .f32 0xC1135D8E#32 ((-(Real.log 10000) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 1024]⟩ ⟨3, ![2, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 1024]⟩ ⟨3, ![2, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S2x512x1024 .f32 := (extf .f32 · bitsLt_bf16_f32) main_arg0
  let main_v1 : FVec F S2x512x1024 .f32 := Host.absf main_v0
  let main_cst : FVec F S_ .f32 := constant S_ .f32 0x7F800000#32
  let main_v2 : FVec F S2x512x1024 .f32 := broadcastInDim S2x512x1024 ![] bcast_S_S2x512x1024 main_cst
  let main_v3 : IVec S2x512x1024 1 := cmpf .olt main_v1 main_v2
  let main_c : IVec S_ 1 := constantI S_ 1 1#1
  let main_v4 : IVec S_ 1 := (fun x v => Host.reduce IntOp.andi x v reducesTo_S2x512x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S1024x1024 .f32 := (extf .f32 · bitsLt_bf16_f32) main_arg2
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v4 main_v9
  let main_v16 : IVec S_ 1 := andi main_v15 main_v14
  main_v16
-- ==== Pre_finite_ReferenceIdeal.lean ====
abbrev S2x2048x1024 : Shape := ⟨3, ![2, 2048, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2x2048x1024 .bf16) (main_arg1 : FVec F S1024x4096 .bf16) (main_arg2 : FVec F S1024x4096 .bf16) (main_arg3 : FVec F S1024x4096 .bf16) (main_arg4 : FVec F S4096x1024 .bf16) : IVec S_ 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : FVec F S1024x4096 .f32 := (extf .f32 · bitsLt_bf16_f32) main_arg2
  let main_v11 : FVec F S1024x4096 .f32 := Host.absf main_v10
  let main_cst_2 : FVec F S_ .f32 := constant S_ .f32 0x7F800000#32
  let main_v12 : FVec F S1024x4096 .f32 := broadcastInDim S1024x4096 ![] bcast_S_S1024x4096 main_cst_2
  let main_v13 : IVec S1024x4096 1 := cmpf .olt main_v11 main_v12
  let main_c_3 : IVec S_ 1 := constantI S_ 1 1#1
  let main_v14 : IVec S_ 1 := (fun x v => Host.reduce IntOp.andi x v reducesTo_S1024x4096_S_d0_1 h_S_) main_v13 main_c_3
  let main_v15 : IVec S_ 1 := andi main_v4 main_v9
  let main_v16 : IVec S_ 1 := andi main_v15 main_v14
  main_v16
-- ==== Kernel.lean ====
abbrev S2x512x1024 : Shape := ⟨3, ![2, 512, 1024]⟩
abbrev S1024x1024 : Shape := ⟨2, ![1024, 1024]⟩
abbrev S3x2x512x1024 : Shape := ⟨4, ![3, 2, 512, 1024]⟩
abbrev S2x1024x2048 : Shape := ⟨3, ![2, 1024, 2048]⟩
abbrev S2x2048x1024 : Shape := ⟨3, ![2, 2048, 1024]⟩
abbrev S2x2x512x1024 : Shape := ⟨4, ![2, 2, 512, 1024]⟩
abbrev S3 : Shape := ⟨1, ![3]⟩
abbrev S_ : Shape := ⟨0, ![]⟩
abbrev S512x1024 : Shape := ⟨2, ![512, 1024]⟩
abbrev S1 : Shape := ⟨1, ![1]⟩
abbrev S1x2x512x1024 : Shape := ⟨4, ![1, 2, 512, 1024]⟩
abbrev S1x512x1024 : Shape := ⟨3, ![1, 512, 1024]⟩
abbrev S512x1023 : Shape := ⟨2, ![512, 1023]⟩
abbrev S512x1 : Shape := ⟨2, ![512, 1]⟩
abbrev S1024x512 : Shape := ⟨2, ![1024, 512]⟩
abbrev S1x1024x512 : Shape := ⟨3, ![1, 1024, 512]⟩
abbrev S1x1x512x1024 : Shape := ⟨4, ![1, 1, 512, 1024]⟩
abbrev S1x128x2048 : Shape := ⟨3, ![1, 128, 2048]⟩
abbrev S128x2048 : Shape := ⟨2, ![128, 2048]⟩
abbrev S1x2048x128 : Shape := ⟨3, ![1, 2048, 128]⟩
abbrev S2048x128 : Shape := ⟨2, ![2048, 128]⟩
abbrev S128x1024 : Shape := ⟨2, ![128, 1024]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S2x512x1024, .f32⟩
  | .local _ .vmem, ⟨0, _⟩ => ⟨S2x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S2x512x1024, .f32⟩
  | .local _ .vmem, ⟨6, _⟩ => ⟨S3x2x512x1024, .bf16⟩
  | .local _ .vmem, ⟨7, _⟩ => ⟨S2x1024x2048, .bf16⟩
  | .local _ .vmem, ⟨8, _⟩ => ⟨S2x2048x1024, .bf16⟩
  | .local _ .vmem, ⟨9, _⟩ => ⟨S2x512x1024, .bf16⟩
  | .local _ .vmem, ⟨10, _⟩ => ⟨S2x2x512x1024, .bf16⟩
  | .local _ .vmem, ⟨11, _⟩ => ⟨S3x2x512x1024, .bf16⟩
  | _, _ => ⟨S2x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v99 : BitVec 32 := Scalar.muli v13 c1_i32_44
  let v100 : BitVec 32 := Scalar.addi c0_i32_45 v99
  v100.toNat
def k0_off1 (d0 : Dev nD) : Fin 3 → Nat :=
  let c0_60 : Index := 0#32
  let c0_61 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v107 : BitVec 32 := Scalar.muli v2 c512_i32
  let v141 : Index := Scalar.indexCast v107
  ![0, 0, v141.toNat]
def k0_off2 (d0 : Dev nD) : Fin 3 → Nat :=
  let c0_62 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v107 : BitVec 32 := Scalar.muli v2 c512_i32
  let v146 : Index := Scalar.indexCast v107
  let c0_63 : Index := 0#32
  ![0, v146.toNat, 0]
def k0_off3 (d0 : Dev nD) : Fin 3 → Nat :=
  let c1_72 : Index := 1#32
  let c0_73 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v107 : BitVec 32 := Scalar.muli v2 c512_i32
  let v170 : Index := Scalar.indexCast v107
  ![1, 0, v170.toNat]
def k0_off4 (d0 : Dev nD) : Fin 3 → Nat :=
  let c1_74 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v107 : BitVec 32 := Scalar.muli v2 c512_i32
  let v175 : Index := Scalar.indexCast v107
  let c0_75 : Index := 0#32
  ![1, v175.toNat, 0]
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_95 : BitVec 32 := 1#32
  let v189 : BitVec 32 := Scalar.muli v13 c1_i32_95
  let v190 : BitVec 32 := Scalar.addi c0_i32_96 v189
  v190.toNat
def k0_off5 (d0 : Dev nD) (c1_i32_104 : BitVec 32) : Fin 3 → Nat :=
  let c0_125 : Index := 0#32
  let c0_126 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_103 : BitVec 32 := 4#32
  let v199 : BitVec 32 := Scalar.addi v2 c4_i32_103
  let v200 : BitVec 32 := Scalar.subi v199 c1_i32_104
  let c4_i32_105 : BitVec 32 := 4#32
  let c0_i32_106 : BitVec 32 := 0#32
  let v201 : BitVec 1 := Scalar.cmpi .eq c4_i32_105 c0_i32_106
  let c1_i32_107 : BitVec 32 := 1#32
  let v202 : BitVec 32 := Scalar.select v201 c1_i32_107 c4_i32_105
  let v203 : BitVec 32 := Scalar.remsi v200 v202
  let c0_i32_109 : BitVec 32 := 0#32
  let v205 : BitVec 1 := Scalar.cmpi .slt v203 c0_i32_109
  let c0_i32_110 : BitVec 32 := 0#32
  let v206 : BitVec 1 := Scalar.cmpi .slt v202 c0_i32_110
  let v207 : BitVec 1 := Scalar.xori v205 v206
  let c0_i32_108 : BitVec 32 := 0#32
  let v204 : BitVec 1 := Scalar.cmpi .ne v203 c0_i32_108
  let v208 : BitVec 1 := Scalar.andi v207 v204
  let v209 : BitVec 32 := Scalar.addi v203 v202
  let v210 : BitVec 32 := Scalar.select v208 v209 v203
  let c512_i32_111 : BitVec 32 := 512#32
  let v211 : BitVec 32 := Scalar.muli v210 c512_i32_111
  let v245 : Index := Scalar.indexCast v211
  ![0, 0, v245.toNat]
def k0_off6 (d0 : Dev nD) (c1_i32_104 : BitVec 32) : Fin 3 → Nat :=
  let c0_127 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_103 : BitVec 32 := 4#32
  let v199 : BitVec 32 := Scalar.addi v2 c4_i32_103
  let v200 : BitVec 32 := Scalar.subi v199 c1_i32_104
  let c4_i32_105 : BitVec 32 := 4#32
  let c0_i32_106 : BitVec 32 := 0#32
  let v201 : BitVec 1 := Scalar.cmpi .eq c4_i32_105 c0_i32_106
  let c1_i32_107 : BitVec 32 := 1#32
  let v202 : BitVec 32 := Scalar.select v201 c1_i32_107 c4_i32_105
  let v203 : BitVec 32 := Scalar.remsi v200 v202
  let c0_i32_109 : BitVec 32 := 0#32
  let v205 : BitVec 1 := Scalar.cmpi .slt v203 c0_i32_109
  let c0_i32_110 : BitVec 32 := 0#32
  let v206 : BitVec 1 := Scalar.cmpi .slt v202 c0_i32_110
  let v207 : BitVec 1 := Scalar.xori v205 v206
  let c0_i32_108 : BitVec 32 := 0#32
  let v204 : BitVec 1 := Scalar.cmpi .ne v203 c0_i32_108
  let v208 : BitVec 1 := Scalar.andi v207 v204
  let v209 : BitVec 32 := Scalar.addi v203 v202
  let v210 : BitVec 32 := Scalar.select v208 v209 v203
  let c512_i32_111 : BitVec 32 := 512#32
  let v211 : BitVec 32 := Scalar.muli v210 c512_i32_111
  let v250 : Index := Scalar.indexCast v211
  let c0_128 : Index := 0#32
  ![0, v250.toNat, 0]
def k0_off7 (d0 : Dev nD) (c1_i32_104 : BitVec 32) : Fin 3 → Nat :=
  let c1_139 : Index := 1#32
  let c0_140 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_103 : BitVec 32 := 4#32
  let v199 : BitVec 32 := Scalar.addi v2 c4_i32_103
  let v200 : BitVec 32 := Scalar.subi v199 c1_i32_104
  let c4_i32_105 : BitVec 32 := 4#32
  let c0_i32_106 : BitVec 32 := 0#32
  let v201 : BitVec 1 := Scalar.cmpi .eq c4_i32_105 c0_i32_106
  let c1_i32_107 : BitVec 32 := 1#32
  let v202 : BitVec 32 := Scalar.select v201 c1_i32_107 c4_i32_105
  let v203 : BitVec 32 := Scalar.remsi v200 v202
  let c0_i32_109 : BitVec 32 := 0#32
  let v205 : BitVec 1 := Scalar.cmpi .slt v203 c0_i32_109
  let c0_i32_110 : BitVec 32 := 0#32
  let v206 : BitVec 1 := Scalar.cmpi .slt v202 c0_i32_110
  let v207 : BitVec 1 := Scalar.xori v205 v206
  let c0_i32_108 : BitVec 32 := 0#32
  let v204 : BitVec 1 := Scalar.cmpi .ne v203 c0_i32_108
  let v208 : BitVec 1 := Scalar.andi v207 v204
  let v209 : BitVec 32 := Scalar.addi v203 v202
  let v210 : BitVec 32 := Scalar.select v208 v209 v203
  let c512_i32_111 : BitVec 32 := 512#32
  let v211 : BitVec 32 := Scalar.muli v210 c512_i32_111
  let v274 : Index := Scalar.indexCast v211
  ![1, 0, v274.toNat]
def k0_off8 (d0 : Dev nD) (c1_i32_104 : BitVec 32) : Fin 3 → Nat :=
  let c1_141 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_103 : BitVec 32 := 4#32
  let v199 : BitVec 32 := Scalar.addi v2 c4_i32_103
  let v200 : BitVec 32 := Scalar.subi v199 c1_i32_104
  let c4_i32_105 : BitVec 32 := 4#32
  let c0_i32_106 : BitVec 32 := 0#32
  let v201 : BitVec 1 := Scalar.cmpi .eq c4_i32_105 c0_i32_106
  let c1_i32_107 : BitVec 32 := 1#32
  let v202 : BitVec 32 := Scalar.select v201 c1_i32_107 c4_i32_105
  let v203 : BitVec 32 := Scalar.remsi v200 v202
  let c0_i32_109 : BitVec 32 := 0#32
  let v205 : BitVec 1 := Scalar.cmpi .slt v203 c0_i32_109
  let c0_i32_110 : BitVec 32 := 0#32
  let v206 : BitVec 1 := Scalar.cmpi .slt v202 c0_i32_110
  let v207 : BitVec 1 := Scalar.xori v205 v206
  let c0_i32_108 : BitVec 32 := 0#32
  let v204 : BitVec 1 := Scalar.cmpi .ne v203 c0_i32_108
  let v208 : BitVec 1 := Scalar.andi v207 v204
  let v209 : BitVec 32 := Scalar.addi v203 v202
  let v210 : BitVec 32 := Scalar.select v208 v209 v203
  let c512_i32_111 : BitVec 32 := 512#32
  let v211 : BitVec 32 := Scalar.muli v210 c512_i32_111
  let v279 : Index := Scalar.indexCast v211
  let c0_142 : Index := 0#32
  ![1, v279.toNat, 0]
def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_170 : BitVec 32 := 1#32
  let v297 : BitVec 32 := Scalar.muli v13 c1_i32_170
  let v298 : BitVec 32 := Scalar.addi c0_i32_171 v297
  v298.toNat
def k0_off9 (d0 : Dev nD) : Fin 3 → Nat :=
  let c0_261 : Index := 0#32
  let c0_262 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_241 : BitVec 32 := 1#32
  let v405 : BitVec 32 := Scalar.addi v2 c1_i32_241
  let c4_i32_242 : BitVec 32 := 4#32
  let c0_i32_243 : BitVec 32 := 0#32
  let v406 : BitVec 1 := Scalar.cmpi .eq c4_i32_242 c0_i32_243
  let c1_i32_244 : BitVec 32 := 1#32
  let v407 : BitVec 32 := Scalar.select v406 c1_i32_244 c4_i32_242
  let v408 : BitVec 32 := Scalar.remsi v405 v407
  let c0_i32_246 : BitVec 32 := 0#32
  let v410 : BitVec 1 := Scalar.cmpi .slt v408 c0_i32_246
  let c0_i32_247 : BitVec 32 := 0#32
  let v411 : BitVec 1 := Scalar.cmpi .slt v407 c0_i32_247
  let v412 : BitVec 1 := Scalar.xori v410 v411
  let c0_i32_245 : BitVec 32 := 0#32
  let v409 : BitVec 1 := Scalar.cmpi .ne v408 c0_i32_245
  let v413 : BitVec 1 := Scalar.andi v412 v409
  let v414 : BitVec 32 := Scalar.addi v408 v407
  let v415 : BitVec 32 := Scalar.select v413 v414 v408
  let c512_i32_248 : BitVec 32 := 512#32
  let v416 : BitVec 32 := Scalar.muli v415 c512_i32_248
  let v450 : Index := Scalar.indexCast v416
  ![0, 0, v450.toNat]
def k0_off10 (d0 : Dev nD) : Fin 3 → Nat :=
  let c0_263 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_241 : BitVec 32 := 1#32
  let v405 : BitVec 32 := Scalar.addi v2 c1_i32_241
  let c4_i32_242 : BitVec 32 := 4#32
  let c0_i32_243 : BitVec 32 := 0#32
  let v406 : BitVec 1 := Scalar.cmpi .eq c4_i32_242 c0_i32_243
  let c1_i32_244 : BitVec 32 := 1#32
  let v407 : BitVec 32 := Scalar.select v406 c1_i32_244 c4_i32_242
  let v408 : BitVec 32 := Scalar.remsi v405 v407
  let c0_i32_246 : BitVec 32 := 0#32
  let v410 : BitVec 1 := Scalar.cmpi .slt v408 c0_i32_246
  let c0_i32_247 : BitVec 32 := 0#32
  let v411 : BitVec 1 := Scalar.cmpi .slt v407 c0_i32_247
  let v412 : BitVec 1 := Scalar.xori v410 v411
  let c0_i32_245 : BitVec 32 := 0#32
  let v409 : BitVec 1 := Scalar.cmpi .ne v408 c0_i32_245
  let v413 : BitVec 1 := Scalar.andi v412 v409
  let v414 : BitVec 32 := Scalar.addi v408 v407
  let v415 : BitVec 32 := Scalar.select v413 v414 v408
  let c512_i32_248 : BitVec 32 := 512#32
  let v416 : BitVec 32 := Scalar.muli v415 c512_i32_248
  let v455 : Index := Scalar.indexCast v416
  let c0_264 : Index := 0#32
  ![0, v455.toNat, 0]
def k0_off11 (d0 : Dev nD) : Fin 3 → Nat :=
  let c1_275 : Index := 1#32
  let c0_276 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_241 : BitVec 32 := 1#32
  let v405 : BitVec 32 := Scalar.addi v2 c1_i32_241
  let c4_i32_242 : BitVec 32 := 4#32
  let c0_i32_243 : BitVec 32 := 0#32
  let v406 : BitVec 1 := Scalar.cmpi .eq c4_i32_242 c0_i32_243
  let c1_i32_244 : BitVec 32 := 1#32
  let v407 : BitVec 32 := Scalar.select v406 c1_i32_244 c4_i32_242
  let v408 : BitVec 32 := Scalar.remsi v405 v407
  let c0_i32_246 : BitVec 32 := 0#32
  let v410 : BitVec 1 := Scalar.cmpi .slt v408 c0_i32_246
  let c0_i32_247 : BitVec 32 := 0#32
  let v411 : BitVec 1 := Scalar.cmpi .slt v407 c0_i32_247
  let v412 : BitVec 1 := Scalar.xori v410 v411
  let c0_i32_245 : BitVec 32 := 0#32
  let v409 : BitVec 1 := Scalar.cmpi .ne v408 c0_i32_245
  let v413 : BitVec 1 := Scalar.andi v412 v409
  let v414 : BitVec 32 := Scalar.addi v408 v407
  let v415 : BitVec 32 := Scalar.select v413 v414 v408
  let c512_i32_248 : BitVec 32 := 512#32
  let v416 : BitVec 32 := Scalar.muli v415 c512_i32_248
  let v479 : Index := Scalar.indexCast v416
  ![1, 0, v479.toNat]
def k0_off12 (d0 : Dev nD) : Fin 3 → Nat :=
  let c1_277 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_241 : BitVec 32 := 1#32
  let v405 : BitVec 32 := Scalar.addi v2 c1_i32_241
  let c4_i32_242 : BitVec 32 := 4#32
  let c0_i32_243 : BitVec 32 := 0#32
  let v406 : BitVec 1 := Scalar.cmpi .eq c4_i32_242 c0_i32_243
  let c1_i32_244 : BitVec 32 := 1#32
  let v407 : BitVec 32 := Scalar.select v406 c1_i32_244 c4_i32_242
  let v408 : BitVec 32 := Scalar.remsi v405 v407
  let c0_i32_246 : BitVec 32 := 0#32
  let v410 : BitVec 1 := Scalar.cmpi .slt v408 c0_i32_246
  let c0_i32_247 : BitVec 32 := 0#32
  let v411 : BitVec 1 := Scalar.cmpi .slt v407 c0_i32_247
  let v412 : BitVec 1 := Scalar.xori v410 v411
  let c0_i32_245 : BitVec 32 := 0#32
  let v409 : BitVec 1 := Scalar.cmpi .ne v408 c0_i32_245
  let v413 : BitVec 1 := Scalar.andi v412 v409
  let v414 : BitVec 32 := Scalar.addi v408 v407
  let v415 : BitVec 32 := Scalar.select v413 v414 v408
  let c512_i32_248 : BitVec 32 := 512#32
  let v416 : BitVec 32 := Scalar.muli v415 c512_i32_248
  let v484 : Index := Scalar.indexCast v416
  let c0_278 : Index := 0#32
  ![1, v484.toNat, 0]
@[reducible] def k0_t1_loop : Scf.Loop 32 :=
  let c0_i32_314 : BitVec 32 := 0#32
  let c8_i32 : BitVec 32 := 8#32
  let v557 : BitVec 32 := Scalar.addi c0_i32_314 c8_i32
  let c1_i32_315 : BitVec 32 := 1#32
  ⟨c0_i32_314, v557, c1_i32_315⟩
def k0_off13 (k0_t1 : Fin k0_t1_loop.trips) : Fin 3 → Nat :=
  let c0_591 : Index := 0#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v899 : Index := Scalar.indexCast v898
  let c0_592 : Index := 0#32
  ![0, v899.toNat, 0]
def k0_off14 (k0_t1 : Fin k0_t1_loop.trips) : Fin 3 → Nat :=
  let c0_593 : Index := 0#32
  let c0_594 : Index := 0#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v902 : Index := Scalar.indexCast v898
  ![0, 0, v902.toNat]
def k0_off15 (k0_t1 : Fin k0_t1_loop.trips) : Fin 2 → Nat :=
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v905 : Index := Scalar.indexCast v898
  let c0_595 : Index := 0#32
  ![v905.toNat, 0]
def k0_off16 (k0_t1 : Fin k0_t1_loop.trips) : Fin 3 → Nat :=
  let c0_596 : Index := 0#32
  let c0_597 : Index := 0#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v908 : Index := Scalar.indexCast v898
  ![0, 0, v908.toNat]
def k0_off17 (k0_t1 : Fin k0_t1_loop.trips) : Fin 3 → Nat :=
  let c0_602 : Index := 0#32
  let c256 : Index := 256#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v921 : Index := Scalar.indexCast v898
  ![0, 256, v921.toNat]
def k0_off18 (k0_t1 : Fin k0_t1_loop.trips) : Fin 3 → Nat :=
  let c1_607 : Index := 1#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v936 : Index := Scalar.indexCast v898
  let c0_608 : Index := 0#32
  ![1, v936.toNat, 0]
def k0_off19 (k0_t1 : Fin k0_t1_loop.trips) : Fin 3 → Nat :=
  let c1_609 : Index := 1#32
  let c0_610 : Index := 0#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v939 : Index := Scalar.indexCast v898
  ![1, 0, v939.toNat]
def k0_off20 (k0_t1 : Fin k0_t1_loop.trips) : Fin 3 → Nat :=
  let c1_612 : Index := 1#32
  let c0_613 : Index := 0#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v945 : Index := Scalar.indexCast v898
  ![1, 0, v945.toNat]
def k0_off21 (k0_t1 : Fin k0_t1_loop.trips) : Fin 3 → Nat :=
  let c1_618 : Index := 1#32
  let c256_619 : Index := 256#32
  let c0_i32_314 : BitVec 32 := 0#32
  let c1_i32_315 : BitVec 32 := 1#32
  let arg16 : BitVec 32 := Scf.iv c0_i32_314 c1_i32_315 k0_t1
  let c128_i32_590 : BitVec 32 := 128#32
  let v898 : BitVec 32 := Scalar.muli arg16 c128_i32_590
  let v958 : Index := Scalar.indexCast v898
  ![1, 256, v958.toNat]
def k0_dev6 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_329 : BitVec 32 := 1#32
  let v567 : BitVec 32 := Scalar.muli v13 c1_i32_329
  let v568 : BitVec 32 := Scalar.addi c0_i32_330 v567
  v568.toNat
@[reducible] def k0_t2_loop : Scf.Loop 32 :=
  let c0_i32_372 : BitVec 32 := 0#32
  let c8_i32_373 : BitVec 32 := 8#32
  let v646 : BitVec 32 := Scalar.addi c0_i32_372 c8_i32_373
  let c1_i32_374 : BitVec 32 := 1#32
  ⟨c0_i32_372, v646, c1_i32_374⟩
def k0_off22 (k0_t2 : Fin k0_t2_loop.trips) : Fin 3 → Nat :=
  let c0_591 : Index := 0#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v899 : Index := Scalar.indexCast v898
  let c0_592 : Index := 0#32
  ![0, v899.toNat, 0]
def k0_off23 (k0_t2 : Fin k0_t2_loop.trips) : Fin 3 → Nat :=
  let c0_593 : Index := 0#32
  let c0_594 : Index := 0#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v902 : Index := Scalar.indexCast v898
  ![0, 0, v902.toNat]
def k0_off24 (k0_t2 : Fin k0_t2_loop.trips) : Fin 2 → Nat :=
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v905 : Index := Scalar.indexCast v898
  let c0_595 : Index := 0#32
  ![v905.toNat, 0]
def k0_off25 (k0_t2 : Fin k0_t2_loop.trips) : Fin 3 → Nat :=
  let c0_596 : Index := 0#32
  let c0_597 : Index := 0#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v908 : Index := Scalar.indexCast v898
  ![0, 0, v908.toNat]
def k0_off26 (k0_t2 : Fin k0_t2_loop.trips) : Fin 3 → Nat :=
  let c0_602 : Index := 0#32
  let c256 : Index := 256#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v921 : Index := Scalar.indexCast v898
  ![0, 256, v921.toNat]
def k0_off27 (k0_t2 : Fin k0_t2_loop.trips) : Fin 3 → Nat :=
  let c1_607 : Index := 1#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v936 : Index := Scalar.indexCast v898
  let c0_608 : Index := 0#32
  ![1, v936.toNat, 0]
def k0_off28 (k0_t2 : Fin k0_t2_loop.trips) : Fin 3 → Nat :=
  let c1_609 : Index := 1#32
  let c0_610 : Index := 0#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v939 : Index := Scalar.indexCast v898
  ![1, 0, v939.toNat]
def k0_off29 (k0_t2 : Fin k0_t2_loop.trips) : Fin 3 → Nat :=
  let c1_612 : Index := 1#32
  let c0_613 : Index := 0#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v945 : Index := Scalar.indexCast v898
  ![1, 0, v945.toNat]
def k0_off30 (k0_t2 : Fin k0_t2_loop.trips) : Fin 3 → Nat :=
  let c1_618 : Index := 1#32
  let c256_619 : Index := 256#32
  let c0_i32_372 : BitVec 32 := 0#32
  let c1_i32_374 : BitVec 32 := 1#32
  let arg16 : BitVec 32 := Scf.iv c0_i32_372 c1_i32_374 k0_t2
  let c128_i32_590 : BitVec 32 := 128#32
  let v898 : BitVec 32 := Scalar.muli arg16 c128_i32_590
  let v958 : Index := Scalar.indexCast v898
  ![1, 256, v958.toNat]
def k0_dev7 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_419 : BitVec 32 := 1#32
  let v678 : BitVec 32 := Scalar.muli v13 c1_i32_419
  let v679 : BitVec 32 := Scalar.addi c0_i32_420 v678
  v679.toNat
@[reducible] def k0_t3_loop : Scf.Loop 32 :=
  let c0_i32_462 : BitVec 32 := 0#32
  let c8_i32_463 : BitVec 32 := 8#32
  let v757 : BitVec 32 := Scalar.addi c0_i32_462 c8_i32_463
  let c1_i32_464 : BitVec 32 := 1#32
  ⟨c0_i32_462, v757, c1_i32_464⟩
def k0_off31 (k0_t3 : Fin k0_t3_loop.trips) : Fin 3 → Nat :=
  let c0_591 : Index := 0#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v899 : Index := Scalar.indexCast v898
  let c0_592 : Index := 0#32
  ![0, v899.toNat, 0]
def k0_off32 (k0_t3 : Fin k0_t3_loop.trips) : Fin 3 → Nat :=
  let c0_593 : Index := 0#32
  let c0_594 : Index := 0#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v902 : Index := Scalar.indexCast v898
  ![0, 0, v902.toNat]
def k0_off33 (k0_t3 : Fin k0_t3_loop.trips) : Fin 2 → Nat :=
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v905 : Index := Scalar.indexCast v898
  let c0_595 : Index := 0#32
  ![v905.toNat, 0]
def k0_off34 (k0_t3 : Fin k0_t3_loop.trips) : Fin 3 → Nat :=
  let c0_596 : Index := 0#32
  let c0_597 : Index := 0#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v908 : Index := Scalar.indexCast v898
  ![0, 0, v908.toNat]
def k0_off35 (k0_t3 : Fin k0_t3_loop.trips) : Fin 3 → Nat :=
  let c0_602 : Index := 0#32
  let c256 : Index := 256#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v921 : Index := Scalar.indexCast v898
  ![0, 256, v921.toNat]
def k0_off36 (k0_t3 : Fin k0_t3_loop.trips) : Fin 3 → Nat :=
  let c1_607 : Index := 1#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v936 : Index := Scalar.indexCast v898
  let c0_608 : Index := 0#32
  ![1, v936.toNat, 0]
def k0_off37 (k0_t3 : Fin k0_t3_loop.trips) : Fin 3 → Nat :=
  let c1_609 : Index := 1#32
  let c0_610 : Index := 0#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v939 : Index := Scalar.indexCast v898
  ![1, 0, v939.toNat]
def k0_off38 (k0_t3 : Fin k0_t3_loop.trips) : Fin 3 → Nat :=
  let c1_612 : Index := 1#32
  let c0_613 : Index := 0#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v945 : Index := Scalar.indexCast v898
  ![1, 0, v945.toNat]
def k0_off39 (k0_t3 : Fin k0_t3_loop.trips) : Fin 3 → Nat :=
  let c1_618 : Index := 1#32
  let c256_619 : Index := 256#32
  let c0_i32_462 : BitVec 32 := 0#32
  let c1_i32_464 : BitVec 32 := 1#32
  let arg16 : BitVec 32 := Scf.iv c0_i32_462 c1_i32_464 k0_t3
  let c128_i32_590 : BitVec 32 := 128#32
  let v898 : BitVec 32 := Scalar.muli arg16 c128_i32_590
  let v958 : Index := Scalar.indexCast v898
  ![1, 256, v958.toNat]
def k0_dev8 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_509 : BitVec 32 := 1#32
  let v789 : BitVec 32 := Scalar.muli v13 c1_i32_509
  let v790 : BitVec 32 := Scalar.addi c0_i32_510 v789
  v790.toNat
@[reducible] def k0_t4_loop : Scf.Loop 32 :=
  let c0_i32_549 : BitVec 32 := 0#32
  let c8_i32_550 : BitVec 32 := 8#32
  let v868 : BitVec 32 := Scalar.addi c0_i32_549 c8_i32_550
  let c1_i32_551 : BitVec 32 := 1#32
  ⟨c0_i32_549, v868, c1_i32_551⟩
def k0_off40 (k0_t4 : Fin k0_t4_loop.trips) : Fin 3 → Nat :=
  let c0_591 : Index := 0#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v899 : Index := Scalar.indexCast v898
  let c0_592 : Index := 0#32
  ![0, v899.toNat, 0]
def k0_off41 (k0_t4 : Fin k0_t4_loop.trips) : Fin 3 → Nat :=
  let c0_593 : Index := 0#32
  let c0_594 : Index := 0#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v902 : Index := Scalar.indexCast v898
  ![0, 0, v902.toNat]
def k0_off42 (k0_t4 : Fin k0_t4_loop.trips) : Fin 2 → Nat :=
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v905 : Index := Scalar.indexCast v898
  let c0_595 : Index := 0#32
  ![v905.toNat, 0]
def k0_off43 (k0_t4 : Fin k0_t4_loop.trips) : Fin 3 → Nat :=
  let c0_596 : Index := 0#32
  let c0_597 : Index := 0#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v908 : Index := Scalar.indexCast v898
  ![0, 0, v908.toNat]
def k0_off44 (k0_t4 : Fin k0_t4_loop.trips) : Fin 3 → Nat :=
  let c0_602 : Index := 0#32
  let c256 : Index := 256#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v921 : Index := Scalar.indexCast v898
  ![0, 256, v921.toNat]
def k0_off45 (k0_t4 : Fin k0_t4_loop.trips) : Fin 3 → Nat :=
  let c1_607 : Index := 1#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v936 : Index := Scalar.indexCast v898
  let c0_608 : Index := 0#32
  ![1, v936.toNat, 0]
def k0_off46 (k0_t4 : Fin k0_t4_loop.trips) : Fin 3 → Nat :=
  let c1_609 : Index := 1#32
  let c0_610 : Index := 0#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v939 : Index := Scalar.indexCast v898
  ![1, 0, v939.toNat]
def k0_off47 (k0_t4 : Fin k0_t4_loop.trips) : Fin 3 → Nat :=
  let c1_612 : Index := 1#32
  let c0_613 : Index := 0#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v945 : Index := Scalar.indexCast v898
  ![1, 0, v945.toNat]
def k0_off48 (k0_t4 : Fin k0_t4_loop.trips) : Fin 3 → Nat :=
  let c1_618 : Index := 1#32
  let c256_619 : Index := 256#32
  let c0_i32_549 : BitVec 32 := 0#32
  let c1_i32_551 : BitVec 32 := 1#32
  let arg16 : BitVec 32 := Scf.iv c0_i32_549 c1_i32_551 k0_t4
  let c128_i32_590 : BitVec 32 := 128#32
  let v898 : BitVec 32 := Scalar.muli arg16 c128_i32_590
  let v958 : Index := Scalar.indexCast v898
  ![1, 256, v958.toNat]
abbrev stage0_0 : Fin 1 → Memref sig .tc .vmem S2x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "neg_log_base" => some ((-(Real.log 10000) : ℝ) : EReal)
  | _ => none
-- ==== ReferenceIdeal.lean ====
abbrev S2x2048x1024 : Shape := ⟨3, ![2, 2048, 1024]⟩
abbrev S1024x4096 : Shape := ⟨2, ![1024, 4096]⟩
abbrev S4096x1024 : Shape := ⟨2, ![4096, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S2x2048x4096 : Shape := ⟨3, ![2, 2048, 4096]⟩
abbrev S2x2048x32x128 : Shape := ⟨4, ![2, 2048, 32, 128]⟩
abbrev S2x2048x32x64x2 : Shape := ⟨5, ![2, 2048, 32, 64, 2]⟩
abbrev S2x2048x32x64x1 : Shape := ⟨5, ![2, 2048, 32, 64, 1]⟩
abbrev S2x2048x32x64 : Shape := ⟨4, ![2, 2048, 32, 64]⟩
abbrev S1x2048x1x128 : Shape := ⟨4, ![1, 2048, 1, 128]⟩
abbrev S2x32x2048x2048 : Shape := ⟨4, ![2, 32, 2048, 2048]⟩
abbrev S2x32x2048 : Shape := ⟨3, ![2, 32, 2048]⟩
abbrev S2x32x2048x1 : Shape := ⟨4, ![2, 32, 2048, 1]⟩
abbrev S2x32x128x2048 : Shape := ⟨4, ![2, 32, 128, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S2x2048x1024, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S2048, .i32⟩
  | .hbm, ⟨28, _⟩ => ⟨S2048x1, .i32⟩
  | .hbm, ⟨29, _⟩ => ⟨S1x64, .f32⟩
  | .hbm, ⟨30, _⟩ => ⟨S2048x1, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x64x2, .f32⟩
  | .hbm, ⟨36, _⟩ => ⟨S2048x128, .f32⟩
  | .hbm, ⟨37, _⟩ => ⟨S2048x64, .f32⟩
  | .hbm, ⟨38, _⟩ => ⟨S2048x64x2, .f32⟩
  | .hbm, ⟨39, _⟩ => ⟨S2048x128, .f32⟩
  | .hbm, ⟨40, _⟩ => ⟨S2x2048x4096, .f32⟩
  | .hbm, ⟨41, _⟩ => ⟨S2x2048x32x128, .f32⟩
  | .hbm, ⟨42, _⟩ => ⟨S2x2048x32x64x2, .f32⟩
  | .hbm, ⟨43, _⟩ => ⟨S2x2048x32x64x1, .f32⟩
  | .hbm, ⟨44, _⟩ => ⟨S2x2048x32x64, .f32⟩
  | .hbm, ⟨45, _⟩ => ⟨S2x2048x32x64, .f32⟩
  | .hbm, ⟨46, _⟩ => ⟨S2x2048x32x64x1, .f32⟩
  | .hbm, ⟨47, _⟩ => ⟨S2x2048x32x64, .f32⟩
  | .hbm, ⟨48, _⟩ => ⟨S2x2048x32x64x1, .f32⟩
  | .hbm, ⟨49, _⟩ => ⟨S2x2048x32x64x1, .f32⟩
  | .hbm, ⟨50, _⟩ => ⟨S2x2048x32x64x2, .f32⟩
  | .hbm, ⟨51, _⟩ => ⟨S2x2048x32x128, .f32⟩
  | .hbm, ⟨52, _⟩ => ⟨S1x2048x1x128, .f32⟩
  | .hbm, ⟨53, _⟩ => ⟨S2x2048x32x128, .f32⟩
  | .hbm, ⟨54, _⟩ => ⟨S2x2048x32x128, .f32⟩
  | .hbm, ⟨55, _⟩ => ⟨S1x2048x1x128, .f32⟩
  | .hbm, ⟨56, _⟩ => ⟨S2x2048x32x128, .f32⟩
  | .hbm, ⟨57, _⟩ => ⟨S2x2048x32x128, .f32⟩
  | .hbm, ⟨58, _⟩ => ⟨S2x2048x32x128, .f32⟩
  | .hbm, ⟨59, _⟩ => ⟨S2x2048x4096, .f32⟩
  | .hbm, ⟨60, _⟩ => ⟨S2x2048x32x128, .f32⟩
  | .hbm, ⟨61, _⟩ => ⟨S2x2048x32x64x2, .f32⟩
  | .hbm, ⟨62, _⟩ => ⟨S2x2048x32x64x1, .f32⟩
  | .hbm, ⟨63, _⟩ => ⟨S2x2048x32x64, .f32⟩
  | .hbm, ⟨64, _⟩ => ⟨S2x2048x32x64, .f32⟩
  | .hbm, ⟨65, _⟩ => ⟨S2x2048x32x64x1, .f32⟩
  | .hbm, ⟨66, _⟩ => ⟨S2x2048x32x64, .f32⟩
  | .hbm, ⟨67, _⟩ => ⟨S2x2048x32x64x1, .f32⟩
  | .hbm, ⟨68, _⟩ => ⟨S2x2048x32x64x1, .f32⟩
  | .hbm, ⟨69, _⟩ => ⟨S2x2048x32x64x2, .f32⟩
  | .hbm, ⟨70, _⟩ => ⟨S2x2048x32x128, .f32⟩
  | .hbm, ⟨71, _⟩ => ⟨S1x2048x1x128, .f32⟩
  | .hbm, ⟨72, _⟩ => ⟨S2x2048x32x128, .f32⟩
  | .hbm, ⟨73, _⟩ => ⟨S2x2048x32x128, .f32⟩
  | .hbm, ⟨74, _⟩ => ⟨S1x2048x1x128, .f32⟩
  | .hbm, ⟨75, _⟩ => ⟨S2x2048x32x128, .f32⟩
  | .hbm, ⟨76, _⟩ => ⟨S2x2048x32x128, .f32⟩
  | .hbm, ⟨77, _⟩ => ⟨S2x2048x32x128, .f32⟩
  | .hbm, ⟨78, _⟩ => ⟨S2x2048x4096, .f32⟩
  | .hbm, ⟨79, _⟩ => ⟨S2x2048x32x128, .f32⟩
  | .hbm, ⟨80, _⟩ => ⟨S2x32x2048x2048, .f32⟩
  | .hbm, ⟨81, _⟩ => ⟨S_, .f32⟩
  | .hbm, ⟨82, _⟩ => ⟨S2x32x2048x2048, .f32⟩
  | .hbm, ⟨83, _⟩ => ⟨S2x32x2048x2048, .f32⟩
  | .hbm, ⟨84, _⟩ => ⟨S_, .f32⟩
  | .hbm, ⟨85, _⟩ => ⟨S2x32x2048, .f32⟩
  | .hbm, ⟨86, _⟩ => ⟨S2x32x2048x1, .f32⟩
  | .hbm, ⟨87, _⟩ => ⟨S2x32x2048x2048, .f32⟩
  | .hbm, ⟨88, _⟩ => ⟨S2x32x2048x2048, .f32⟩
  | .hbm, ⟨89, _⟩ => ⟨S2x32x2048x2048, .f32⟩
  | .hbm, ⟨90, _⟩ => ⟨S_, .f32⟩
  | .hbm, ⟨91, _⟩ => ⟨S2x32x2048, .f32⟩
  | .hbm, ⟨92, _⟩ => ⟨S2x32x2048x1, .f32⟩
  | .hbm, ⟨93, _⟩ => ⟨S2x32x2048x2048, .f32⟩
  | .hbm, ⟨94, _⟩ => ⟨S2x32x2048x2048, .f32⟩
  | .hbm, ⟨95, _⟩ => ⟨S2x32x128x2048, .f32⟩
  | .hbm, ⟨96, _⟩ => ⟨S2x2048x32x128, .f32⟩
  | .hbm, ⟨97, _⟩ => ⟨S2x2048x4096, .f32⟩
  | .hbm, ⟨98, _⟩ => ⟨S2x2048x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Vals.lean ====
module

public import proofs.«01_k».proof.Defs
public import proofs.«01_k».proof.Proof.Gen.KernelIdeal
public import proofs.«01_k».proof.Proof.Gen.KernelIdeal.Skeleton
public import Idealize.ShloMosaic.Lib.ValueLayout

@[expose] public section

/-!
# What the kernel computes, as functions of the blocks

The ring has four devices. Device `c` holds block `c` of the sequence (`X c`, 512 rows for each of the
two batch entries) and its own eight heads' columns of the weights. A *chunk* is a block of 512 rows.
Everything below is a function of `X` and of one device's weights; no memory is mentioned.
-/

noncomputable section

namespace Cert.RingProof

open Cert.KernelIdeal Cert.KernelIdeal.Gen
open Idealize.ShloMosaic Idealize.ShloMosaic.ValueIdx

variable {F : FTy → Type} [FloatOps F] [Named F]

/-! ## Neighbours on the ring -/

set_option backward.proofsInPublic true in
/-- The device every copy of device `c` goes to. -/
def nxt (c : Dev nD) : Dev nD := ⟨(c.val + 1) % 4, Nat.mod_lt _ (by decide)⟩
set_option backward.proofsInPublic true in
/-- The device every copy into device `c` comes from. -/
def prv (c : Dev nD) : Dev nD := ⟨(c.val + 3) % 4, Nat.mod_lt _ (by decide)⟩

/-- The device whose chunk lies in gather slot `h` of device `c`. -/
def src (c : Dev nD) : ℕ → Dev nD
  | 0 => prv c
  | h + 1 => src (prv c) h

theorem prv_nxt (c : Dev nD) : prv (nxt c) = c := by revert c; decide
theorem nxt_prv (c : Dev nD) : nxt (prv c) = c := by revert c; decide
theorem src_succ (c : Dev nD) (h : ℕ) : src c (h + 1) = src (prv c) h := rfl
theorem src_nxt_zero (c : Dev nD) : src (nxt c) 0 = c := prv_nxt c
theorem src_nxt_succ (c : Dev nD) (h : ℕ) : src (nxt c) (h + 1) = src c h := by
  rw [src_succ, prv_nxt]
/-- The four chunks a device works on are all of them. -/
theorem chunk_cases (c d : Dev nD) : d = c ∨ d = src c 0 ∨ d = src c 1 ∨ d = src c 2 := by
  revert c d; decide

/-! ## Rows of a block -/

/-- Batch entry `b` of a block of activations. -/
def xRow (X : Vec F S2x512x1024 .bf16) (b : Fin 2) : Vec F S512x1024 .bf16 :=
  fun j => X (ix3 b (j 0) (j 1))

/-! ## Rotary embedding -/

/-- Which lanes are even. -/
abbrev evenLane : IVec S512x1024 1 := k0_pay8

/-- The frequency of each lane. -/
def freq : FVec F S512x1024 .f32 := k0_pay11 (F := F) k0_pay7 2#32 k0_pay9 k0_pay10

/-- The row number a chunk begins at. -/
def rowWord (d : Dev nD) : BitVec 32 := BitVec.ofNat 32 (512 * d.val)

/-- The angles of a chunk's rows whose numbers begin at `w`. -/
def angle (w : BitVec 32) : FVec F S512x1024 .f32 :=
  mulf (sitofp .f32 (addi (iota .tc S512x1024 32 [0] iota_S512x1024_d0_w32) (broadcast S512x1024 w))) (freq (F := F))

def cosT (w : BitVec 32) : FVec F S512x1024 .bf16 := truncf .bf16 (cos (angle w)) bitsLt_bf16_f32

/-- Minus one on the even lanes, one on the odd. -/
def signT : FVec F S512x1024 .f32 :=
  select evenLane (broadcast S512x1024 (Scalar.ofBits .f32 0xBF800000#32))
    (broadcast S512x1024 (Scalar.ofBits .f32 0x3F800000#32))

def sinT (w : BitVec 32) : FVec F S512x1024 .bf16 :=
  truncf .bf16 (mulf (sin (angle w)) signT) bitsLt_bf16_f32

/-- Each lane replaced by its right neighbour, the last by the first. -/
def rollL (t : FVec F S512x1024 .bf16) : FVec F S512x1024 .bf16 :=
  concatenate S512x1024 1
    [⟨S512x1023, extractStridedSlice S512x1023 ![0, 1] t slices_S512x1024_o0_1_S512x1023⟩,
     ⟨S512x1, extractStridedSlice S512x1 ![0, 0] t slices_S512x1024_o0_0_S512x1⟩]
    concatenates_S512x1023_S512x1_S512x1024_d1

/-- Each lane replaced by its left neighbour, the first by the last. -/
def rollR (t : FVec F S512x1024 .bf16) : FVec F S512x1024 .bf16 :=
  concatenate S512x1024 1
    [⟨S512x1, extractStridedSlice S512x1 ![0, 1023] t slices_S512x1024_o0_1023_S512x1⟩,
     ⟨S512x1023, extractStridedSlice S512x1023 ![0, 0] t slices_S512x1024_o0_0_S512x1023⟩]
    concatenates_S512x1_S512x1023_S512x1024_d1

/-- The rotation of a tile at the chunk beginning at row `w`. -/
def rope (t : FVec F S512x1024 .bf16) (w : BitVec 32) : FVec F S512x1024 .bf16 :=
  addf (mulf t (cosT w)) (mulf (select evenLane (rollL t) (rollR t)) (sinT w))

/-! ## Projections -/

/-- A chunk's rows times a weight. -/
def proj (x : FVec F S512x1024 .bf16) (w : FVec F S1024x1024 .bf16) : FVec F S512x1024 .f32 :=
  matmul dot_S512x1024_S1024x1024_S512x1024_1_0_0_1_n_n none x w (constant S512x1024 .f32 0x00000000#32)

def kTile (x : FVec F S512x1024 .bf16) (w : FVec F S1024x1024 .bf16) (p : BitVec 32) : FVec F S1024x512 .bf16 :=
  transpose S1024x512 [1, 0] (rope (truncf .bf16 (proj x w) bitsLt_bf16_f32) p) transposes_S512x1024_p1_0_S1024x512

def vTile (x : FVec F S512x1024 .bf16) (w : FVec F S1024x1024 .bf16) : FVec F S512x1024 .bf16 :=
  truncf .bf16 (proj x w) bitsLt_bf16_f32

def qTile (x : FVec F S512x1024 .bf16) (w : FVec F S1024x1024 .bf16) (p : BitVec 32) : FVec F S512x1024 .bf16 :=
  rope (truncf .bf16 (mulf (proj x w) (broadcast S512x1024 (Scalar.ofBits .f32 0x3DB504F3#32))) bitsLt_bf16_f32) p

/-! ## Attention of one head on a half chunk, and its share of the output -/

def headHalf (q : FVec F S256x128 .bf16) (k : FVec F S128x2048 .bf16) (v : FVec F S2048x128 .bf16)
    (wo : FVec F S128x1024 .bf16) : FVec F S256x1024 .f32 :=
  let e : FVec F S256x2048 .f32 :=
    exp (matmul dot_S256x128_S128x2048_S256x2048_1_0_0_1_n_n none q k (constant S256x2048 .f32 0x00000000#32))
  let l : FVec F S256 .f32 := multiReduction .add [1] S256 e 0x00000000#32 reduces_S256x2048_S256 (.inl rfl) rfl
  let n : FVec F S256x128 .f32 :=
    matmul dot_S256x2048_S2048x128_S256x128_1_0_0_1_n_n none (truncf .bf16 e bitsLt_bf16_f32) v
      (constant S256x128 .f32 0x00000000#32)
  matmul dot_S256x128_S128x1024_S256x1024_1_0_0_1_n_n none
    (truncf .bf16 (divf n (broadcastTo S256x128 (shapeCast S256x1 l shapeCasts_S256_S256x1) broadcasts_S256x1_S256x128))
      bitsLt_bf16_f32) wo (constant S256x1024 .f32 0x00000000#32)

/-- One head added to the running sum. -/
def headStep (acc : FVec F S512x1024 .f32) (k : FVec F S128x2048 .bf16) (v : FVec F S2048x128 .bf16)
    (wo : FVec F S128x1024 .bf16) (qa qb : FVec F S256x128 .bf16) : FVec F S512x1024 .f32 :=
  addf acc (concatenate S512x1024 0 [⟨S256x1024, headHalf qa k v wo⟩, ⟨S256x1024, headHalf qb k v wo⟩]
    concatenates_S256x1024_S256x1024_S512x1024_d0)

/-! ## What the buffers come to hold -/

section Contents

variable (X : Dev nD → Vec F S2x512x1024 .bf16)
variable (Wq Wk Wv Wo : Dev nD → Vec F S1024x1024 .bf16)

/-- The chunk of a row number, and the row within it. -/
def chunkOf (r : Fin 2048) : Dev nD := ⟨r.val / 512, by have := r.isLt; show _ < 4; omega⟩
def rowOf (r : Fin 2048) : Fin 512 := ⟨r.val % 512, Nat.mod_lt _ (by decide)⟩

/-- The rotated keys, transposed. -/
def kAll (c : Dev nD) : Vec F S2x1024x2048 .bf16 := fun i =>
  kTile (xRow (X (chunkOf (i 2))) (i 0)) (Wk c) (rowWord (chunkOf (i 2))) (ix2 (i 1) (rowOf (i 2)))

/-- The values. -/
def vAll (c : Dev nD) : Vec F S2x2048x1024 .bf16 := fun i =>
  vTile (xRow (X (chunkOf (i 1))) (i 0)) (Wv c) (ix2 (rowOf (i 1)) (i 2))

/-- The scaled and rotated queries of chunk `d`. -/
def qAll (c d : Dev nD) : Vec F S2x512x1024 .bf16 := fun i =>
  qTile (xRow (X d) (i 0)) (Wq c) (rowWord d) (ix2 (i 1) (i 2))

/-- Head `h`'s pieces. -/
def kHead (K : Vec F S2x1024x2048 .bf16) (b : Fin 2) (h : Fin 8) : FVec F S128x2048 .bf16 := fun j =>
  K (ix3 b ⟨128 * h.val + (j 0).val, by have h1 := h.isLt; have h2 : (j 0).val < 128 := (j 0).isLt; show _ < 1024; omega⟩ (j 1))
def vHead (V : Vec F S2x2048x1024 .bf16) (b : Fin 2) (h : Fin 8) : FVec F S2048x128 .bf16 := fun j =>
  V (ix3 b (j 0) ⟨128 * h.val + (j 1).val, by have h1 := h.isLt; have h2 : (j 1).val < 128 := (j 1).isLt; show _ < 1024; omega⟩)
def oHead (W : Vec F S1024x1024 .bf16) (h : Fin 8) : FVec F S128x1024 .bf16 := fun j =>
  W (ix2 ⟨128 * h.val + (j 0).val, by have h1 := h.isLt; have h2 : (j 0).val < 128 := (j 0).isLt; show _ < 1024; omega⟩ (j 1))
def qHead (Q : Vec F S2x512x1024 .bf16) (b : Fin 2) (e : Fin 2) (h : Fin 8) : FVec F S256x128 .bf16 := fun j =>
  Q (ix3 b ⟨256 * e.val + (j 0).val, by have h1 := e.isLt; have h2 : (j 0).val < 256 := (j 0).isLt; show _ < 512; omega⟩
    ⟨128 * h.val + (j 1).val, by have h1 := h.isLt; have h2 : (j 1).val < 128 := (j 1).isLt; show _ < 1024; omega⟩)

/-- The running sum before head `h`. -/
def headSum (K : Vec F S2x1024x2048 .bf16) (V : Vec F S2x2048x1024 .bf16) (W : Vec F S1024x1024 .bf16)
    (Q : Vec F S2x512x1024 .bf16) (b : Fin 2) : ℕ → FVec F S512x1024 .f32
  | 0 => broadcast S512x1024 (Scalar.ofBits .f32 0x00000000#32)
  | h + 1 =>
    if hh : h < 8 then
      headStep (headSum K V W Q b h) (kHead K b ⟨h, hh⟩) (vHead V b ⟨h, hh⟩) (oHead W ⟨h, hh⟩)
        (qHead Q b 0 ⟨h, hh⟩) (qHead Q b 1 ⟨h, hh⟩)
    else headSum K V W Q b h

/-- Device `c`'s share of the output of chunk `d`. -/
def part (c d : Dev nD) (b : Fin 2) : FVec F S512x1024 .f32 :=
  headSum (kAll X Wk c) (vAll X Wv c) (Wo c) (qAll X Wq c d) b 8

/-- What device `c` sends at step `s` of the reduction: the sum over the devices the chunk has passed. -/
def sent : ℕ → Dev nD → Fin 2 → FVec F S512x1024 .bf16
  | 0, c, b => truncf .bf16 (part X Wq Wk Wv Wo c (src c 0) b) bitsLt_bf16_f32
  | s + 1, c, b =>
    truncf .bf16 (addf (part X Wq Wk Wv Wo c (src c (s + 1)) b) (extf .f32 (sent s (prv c) b) bitsLt_bf16_f32)) bitsLt_bf16_f32

/-- The result of device `c`, by batch entry. -/
def result (c : Dev nD) (b : Fin 2) : FVec F S512x1024 .f32 :=
  addf (part X Wq Wk Wv Wo c c b) (extf .f32 (sent X Wq Wk Wv Wo 2 (prv c) b) bitsLt_bf16_f32)

end Contents

end Cert.RingProof
-- ==== Proof.Proto.lean ====
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-!
# The protocol

Every device signals both neighbours at the barrier and waits for both; from then on the next device's
gather and reduction slots are its own to fill. It sends six blocks to the next device: three of the
gather (its own block of `x`, then each of the two it received first) and three of the reduction. Each
copy signals one counter on the sender and one on the receiver. There are thirteen counters a device:
the barrier's, and twelve of copies, numbered here `0..2` gather sends, `3..5` gather arrivals, `6..8`
reduction sends, `9..11` reduction arrivals.
-/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

def ring : Dev nD ≃ Dev nD := ⟨nxt, prv, prv_nxt, nxt_prv⟩
theorem nxt_ne_prv (c : Dev nD) : nxt c ≠ prv c := by revert c; decide

/-! ## The buffers -/

abbrev xM : Memref sig .tc .vmem S2x512x1024 .bf16 := Memref.whole cc0_stg0_0
abbrev wqM : Memref sig .tc .vmem S1024x1024 .bf16 := Memref.whole cc0_stg1_0
abbrev wkM : Memref sig .tc .vmem S1024x1024 .bf16 := Memref.whole cc0_stg2_0
abbrev wvM : Memref sig .tc .vmem S1024x1024 .bf16 := Memref.whole cc0_stg3_0
abbrev woM : Memref sig .tc .vmem S1024x1024 .bf16 := Memref.whole cc0_stg4_0
abbrev outM : Memref sig .tc .vmem S2x512x1024 .f32 := Memref.whole cc0_stg5_0
abbrev xgM : Memref sig .tc .vmem S3x2x512x1024 .bf16 := Memref.whole cc0_scratch0
abbrev kM : Memref sig .tc .vmem S2x1024x2048 .bf16 := Memref.whole cc0_scratch1
abbrev vM : Memref sig .tc .vmem S2x2048x1024 .bf16 := Memref.whole cc0_scratch2
abbrev qM : Memref sig .tc .vmem S2x512x1024 .bf16 := Memref.whole cc0_scratch3
abbrev sbM : Memref sig .tc .vmem S2x2x512x1024 .bf16 := Memref.whole cc0_scratch4
abbrev rbM : Memref sig .tc .vmem S3x2x512x1024 .bf16 := Memref.whole cc0_scratch5

/-- Slot `h` of a buffer of three blocks, and of the send buffer of two. -/
abbrev slot3 (M : Memref sig .tc .vmem S3x2x512x1024 .bf16) (h : ℕ)
    (hh : ∀ a, (![h, 0, 0, 0] : Fin 4 → ℕ) a + S1x2x512x1024.size a ≤ S3x2x512x1024.size a) :
    Memref sig .tc .vmem S2x512x1024 .bf16 :=
  (M.slice (Rect.unit (s := S3x2x512x1024) ![h, 0, 0, 0] S1x2x512x1024.size hh) (fun _ => rfl)).squeeze
    S2x512x1024 squeezes_S1x2x512x1024_S2x512x1024
abbrev slot2 (M : Memref sig .tc .vmem S2x2x512x1024 .bf16) (h : ℕ)
    (hh : ∀ a, (![h, 0, 0, 0] : Fin 4 → ℕ) a + S1x2x512x1024.size a ≤ S2x2x512x1024.size a) :
    Memref sig .tc .vmem S2x512x1024 .bf16 :=
  (M.slice (Rect.unit (s := S2x2x512x1024) ![h, 0, 0, 0] S1x2x512x1024.size hh) (fun _ => rfl)).squeeze
    S2x512x1024 squeezes_S1x2x512x1024_S2x512x1024

abbrev at0 := inb_S3x2x512x1024_S1x2x512x1024_0_0_0_0
abbrev at1 := inb_S3x2x512x1024_S1x2x512x1024_1_0_0_0
abbrev at2 := inb_S3x2x512x1024_S1x2x512x1024_2_0_0_0

/-- The elements of slot `h`. -/
def slotSet (n : ℕ) (h : ℕ) : Finset (⟨4, ![n, 2, 512, 1024]⟩ : Shape).Idx := Finset.univ.filter fun i => (i 0).val = h

theorem mem_slotSet {n h : ℕ} {i : (⟨4, ![n, 2, 512, 1024]⟩ : Shape).Idx} : Iff (i ∈ slotSet n h) ((i 0).val = h) := by
  unfold slotSet; rw [Finset.mem_filter]; exact ⟨fun h => h.2, fun h => ⟨Finset.mem_univ _, h⟩⟩

/-! ## The counters -/

/-- The runtime's barrier counter. -/
abbrev barS : Sem sig := (SemArray.scalar (sig.barrier 0 rfl) : Sems sig S_).sem

/-- Copy counter `k`. -/
def dq (k : Fin 12) : DmaSem sig := ⟨6 + k.val, by have := k.isLt; show _ < 18; omega⟩

abbrev barCell (c : Dev nD) : GSem nD τ sig := ((c : Thread nD τ), .reg barS)
abbrev dcell (c : Dev nD) (k : Fin 12) : GSem nD τ sig := ((c : Thread nD τ), .dma (dq k))

abbrev osem : Fin 12 → SemLoc sig := fun k => .dma (dq k)
def csem (k : Fin 13) : SemLoc sig := if h : k.val = 0 then .reg barS else .dma (dq ⟨k.val - 1, by have := k.isLt; omega⟩)
abbrev kcell (ck : Dev nD × Fin 13) : GSem nD τ sig := ((ck.1 : Thread nD τ), csem ck.2)

theorem kcell_bar (c : Dev nD) : kcell (c, 0) = barCell c := rfl
theorem kcell_dma (c : Dev nD) (k : Fin 12) : kcell (c, k.succ) = dcell c k := rfl

/-- Which copy counter a counter is, if it is one. -/
def ix (s : SemLoc sig) : Option (Fin 12) :=
  match s with
  | .dma q => if h : 6 ≤ q.val ∧ q.val < 18 then some ⟨q.val - 6, by omega⟩ else none
  | _ => none

theorem ix_dq (k : Fin 12) : ix (.dma (dq k)) = some k := by revert k; decide
theorem ix_bar : ix (.reg barS) = none := rfl
theorem dma_ne_bar (k : Fin 12) : (SemLoc.dma (dq k) : SemLoc sig) ≠ .reg barS := fun h => by cases h
theorem dq_injective : Function.Injective dq := by
  intro a b h
  have := congrArg (fun x : DmaSem sig => x.val) h
  exact Fin.ext (by simpa [dq] using this)

/-- The units one copy signals. -/
abbrev N : ℕ := (slot3 xgM 0 at0).view.dmaCredit
theorem N_pos : 0 < N := View.dmaCredit_pos _ (by decide)
theorem N_xg (h hh) : (slot3 xgM h hh).view.dmaCredit = N := rfl
theorem N_rb (h hh) : (slot3 rbM h hh).view.dmaCredit = N := rfl
theorem N_sb (h hh) : (slot2 sbM h hh).view.dmaCredit = N := rfl
theorem N_x : (xM : Memref sig .tc .vmem S2x512x1024 .bf16).view.dmaCredit = N := rfl

/-! ## What the buffers hold -/

/-- The staged blocks of every device. -/
structure Inp (F : FTy → Type) where
  X : Dev nD → Vec F S2x512x1024 .bf16
  Wq : Dev nD → Vec F S1024x1024 .bf16
  Wk : Dev nD → Vec F S1024x1024 .bf16
  Wv : Dev nD → Vec F S1024x1024 .bf16
  Wo : Dev nD → Vec F S1024x1024 .bf16

variable (I : Inp F)

abbrev Inp.sent (s : ℕ) (c : Dev nD) (b : Fin 2) : FVec F S512x1024 .bf16 := Cert.RingProof.sent I.X I.Wq I.Wk I.Wv I.Wo s c b
abbrev Inp.part (c d : Dev nD) (b : Fin 2) : FVec F S512x1024 .f32 := Cert.RingProof.part I.X I.Wq I.Wk I.Wv I.Wo c d b
abbrev Inp.result (c : Dev nD) (b : Fin 2) : FVec F S512x1024 .f32 := Cert.RingProof.result I.X I.Wq I.Wk I.Wv I.Wo c b

/-- The gather buffer, the reduction's landing buffer, and the send buffer's slot at step `s`. -/
def xgAll (c : Dev nD) : Vec F S3x2x512x1024 .bf16 := fun i => I.X (src c (i 0).val) (ix3 (i 1) (i 2) (i 3))
def rbAll (c : Dev nD) : Vec F S3x2x512x1024 .bf16 := fun i => I.sent (i 0).val (prv c) (i 1) (ix2 (i 2) (i 3))
def sbAll (s : ℕ) (c : Dev nD) : Vec F S2x2x512x1024 .bf16 := fun i => I.sent s c (i 1) (ix2 (i 2) (i 3))
/-- The result. -/
def outAt (c : Dev nD) : Vec F S2x512x1024 .f32 := fun i => I.result c (i 0) (ix2 (i 1) (i 2))

/-- The block of `x`, held at share `q`. -/
def xP (q : PosShare TreeShare) (c : Dev nD) : sProp 𝕄 := xM.view.loc (c : Thread nD τ) ↦[xM.view.set]{q} I.X c
/-- Slot `h` of the gather buffer, of the landing buffer (of contents `f`), of the send buffer. -/
def xgF (c : Dev nD) (h : ℕ) (q : PosShare TreeShare) (f : Vec F S3x2x512x1024 .bf16) : sProp 𝕄 :=
  xgM.view.loc (c : Thread nD τ) ↦[slotSet 3 h]{q} f
def rbF (c : Dev nD) (h : ℕ) (f : Vec F S3x2x512x1024 .bf16) : sProp 𝕄 :=
  rbM.view.loc (c : Thread nD τ) ↦[slotSet 3 h]{fullShare} f
def sbF (c : Dev nD) (h : ℕ) (f : Vec F S2x2x512x1024 .bf16) : sProp 𝕄 :=
  sbM.view.loc (c : Thread nD τ) ↦[slotSet 2 h]{fullShare} f

instance xP_storable (q : PosShare TreeShare) (c : Dev nD) : BI.Storable (upEmb : UEmb _ 𝕄) (xP I q c) := by unfold xP; infer_instance
omit [FloatOps F] [Named F] in
instance xgF_storable (c : Dev nD) (h : ℕ) (q : PosShare TreeShare) (f) : BI.Storable (upEmb : UEmb _ 𝕄) (xgF (F := F) c h q f) := by unfold xgF; infer_instance
omit [FloatOps F] [Named F] in
instance rbF_storable (c : Dev nD) (h : ℕ) (f) : BI.Storable (upEmb : UEmb _ 𝕄) (rbF (F := F) c h f) := by unfold rbF; infer_instance
omit [FloatOps F] [Named F] in
instance sbF_storable (c : Dev nD) (h : ℕ) (f) : BI.Storable (upEmb : UEmb _ 𝕄) (sbF (F := F) c h f) := by unfold sbF; infer_instance

/-! ## The schedule -/

/-- What the next device's barrier signal hands over: its six slots, of whatever contents. -/
def barPay (c : Dev nD) : sProp 𝕄 :=
  iprop((∃ f, xgF (nxt c) 0 fullShare f) ∗ (∃ f, xgF (nxt c) 1 fullShare f) ∗ (∃ f, xgF (nxt c) 2 fullShare f)
    ∗ (∃ f, rbF (nxt c) 0 f) ∗ (∃ f, rbF (nxt c) 1 f) ∗ (∃ f, rbF (nxt c) 2 f))

/-- What the copies' counters hand over: a send, its source back; an arrival, its slot filled. -/
def dmaPay (c : Dev nD) (k : Fin 12) : sProp 𝕄 :=
  match k with
  | 0 => xP I fullShare.left c
  | 1 => xgF c 0 fullShare.left (xgAll I c)
  | 2 => xgF c 1 fullShare.left (xgAll I c)
  | 3 => xgF c 0 fullShare (xgAll I c)
  | 4 => xgF c 1 fullShare (xgAll I c)
  | 5 => xgF c 2 fullShare (xgAll I c)
  | 6 => sbF c 0 (sbAll I 0 c)
  | 7 => sbF c 1 (sbAll I 1 c)
  | 8 => sbF c 0 (sbAll I 2 c)
  | 9 => rbF c 0 (rbAll I c)
  | 10 => rbF c 1 (rbAll I c)
  | 11 => rbF c 2 (rbAll I c)

set_option synthInstance.maxHeartbeats 400000 in
omit [FloatOps F] [Named F] in
instance barPay_storable (c : Dev nD) : BI.Storable (upEmb : UEmb _ 𝕄) (barPay (F := F) c) := by unfold barPay; infer_instance
instance dmaPay_storable (c : Dev nD) (k : Fin 12) : BI.Storable (upEmb : UEmb _ 𝕄) (dmaPay I c k) := by
  unfold dmaPay; split <;> infer_instance

/-- One round: two signals to a barrier counter, one copy's units to each of the others. -/
def ringRd : Rounds.Schedule (GSem nD τ sig) Bool 𝕄 where
  duties g r := if r = 0 ∧ g.1.2 = .tc then (if g.2 = .reg barS then Finset.univ else if (ix g.2).isSome then {false} else ∅) else ∅
  unitless _ := False
  amount g _ _ := if g.2 = .reg barS then 1 else N
  payload g _ d :=
    if g.2 = .reg barS then (if d then barPay g.1.1 else iprop(emp))
    else match ix g.2 with
      | some k => dmaPay I g.1.1 k
      | none => iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd I).payload g r d) := by
  show BI.Storable upEmb (if g.2 = .reg barS then (if d then barPay g.1.1 else iprop(emp))
    else match ix g.2 with
      | some k => dmaPay I g.1.1 k
      | none => iprop(emp))
  (repeat' split) <;> infer_instance

section Sched
variable (c : Dev nD) (k : Fin 12)

theorem duties_bar : (ringRd I).duties (barCell c) 0 = Finset.univ := by
  dsimp only [ringRd]; rw [if_pos ⟨rfl, rfl⟩, if_pos rfl]
theorem duties_dma : (ringRd I).duties (dcell c k) 0 = {false} := by
  dsimp only [ringRd]; rw [if_pos ⟨rfl, rfl⟩, if_neg (dma_ne_bar k), ix_dq]; rfl
theorem duties_later (g : GSem nD τ sig) : ∀ r, 1 ≤ r → (ringRd I).duties g r = ∅ :=
  fun r hr => by dsimp only [ringRd]; rw [if_neg fun h => by omega]
theorem amount_bar (d : Bool) : (ringRd I).amount (barCell c) 0 d = 1 := by dsimp only [ringRd]; exact if_pos rfl
theorem amount_dma (d : Bool) : (ringRd I).amount (dcell c k) 0 d = N := by dsimp only [ringRd]; exact if_neg (dma_ne_bar k)
theorem expect_bar : (ringRd I).expect (barCell c) 0 = 2 := by
  unfold Schedule.expect Schedule.amountOf
  rw [duties_bar, Finset.sum_congr rfl fun d _ => amount_bar I c d, Finset.sum_const, Finset.card_univ, Fintype.card_bool, smul_eq_mul]
theorem expect_dma : (ringRd I).expect (dcell c k) 0 = N := by
  unfold Schedule.expect Schedule.amountOf; rw [duties_dma, Finset.sum_singleton, amount_dma]
theorem payload_bar_true : (ringRd I).payload (barCell c) 0 true = barPay c := by
  dsimp only [ringRd]; rw [if_pos rfl, if_pos rfl]
theorem payload_bar_false : (ringRd I).payload (barCell c) 0 false = iprop(emp) := by
  dsimp only [ringRd]; rw [if_pos rfl]; exact if_neg Bool.false_ne_true
theorem payload_dma (d : Bool) : (ringRd I).payload (dcell c k) 0 d = dmaPay I c k := by
  dsimp only [ringRd]; rw [if_neg (dma_ne_bar k), ix_dq]
theorem rest_bar : bigSep ((ringRd I).duties (barCell c) 0 \ ∅) (fun d => (ringRd I).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_dma : bigSep ((ringRd I).duties (dcell c k) 0 \ ∅) (fun d => (ringRd I).payload (dcell c k) 0 d) = dmaPay I c k := by
  rw [Finset.sdiff_empty, duties_dma, bigSep_singleton, payload_dma]

end Sched

/-! ## What each device owes, and the order of the waits -/

/-- The arrivals a device owes the next one, the last first. -/
def rk : ℕ → Fin 12
  | 0 => 11 | 1 => 10 | 2 => 9 | 3 => 5 | 4 => 4 | _ => 3

/-- What a device owes while `n` of its six copies are still to be issued. -/
def owing (c : Dev nD) : ℕ → CellTallies nD τ sig Unit
  | 0 => 0
  | n + 1 => owing c n + tallyAt (dcell (nxt c) (rk n)) () N

/-- At launch: the six, and the two barrier signals, that to the device before given first. -/
def O₁ (c : Dev nD) : CellTallies nD τ sig Unit := owing c 6 + tallyAt (barCell (nxt c)) () 1
def O₀ (c : Dev nD) : CellTallies nD τ sig Unit := O₁ c + tallyAt (barCell (prv c)) () 1

def L (g : GSem nD τ sig) : Finset Unit := if g.1.2 = .tc then {()} else ∅

/-- The level of a copy counter: the arrivals in the order they are waited for, above the rest. -/
def lvl : Fin 12 → ℕ
  | 3 => 2 | 4 => 3 | 5 => 4 | 9 => 5 | 10 => 6 | 11 => 7 | _ => 0
def lv (g : GSem nD τ sig) (_ : Unit) : ℕ :=
  if g.2 = .reg barS then 1 else match ix g.2 with
    | some k => lvl k
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [if_pos rfl]
theorem lv_dma (c : Dev nD) (k : Fin 12) (u : Unit) : lv (dcell c k) u = lvl k := by
  dsimp only [lv]; rw [if_neg (dma_ne_bar k), ix_dq]
theorem lvl_rk (j : ℕ) (hj : j < 6) : lvl (rk j) = 7 - j := by interval_cases j <;> rfl

omit [FloatOps F] [Named F] in
theorem tally_pos {A : CellTallies nD τ sig Unit} {x g : GSem nD τ sig} {n : ℕ} {u : Unit}
    (h : 0 < (A + tallyAt x () n) g u) : g = x ∨ 0 < A g u := by
  rw [Pi.add_apply, Finsupp.add_apply, tallyAt_apply] at h
  by_cases hg : g = x
  · exact .inl hg
  · rw [if_neg (fun h' => hg h'.1), Nat.add_zero] at h
    exact .inr h

theorem owing_pos {c : Dev nD} {n : ℕ} {g : GSem nD τ sig} {u : Unit} (h : 0 < owing c n g u) :
    ∃ j, j < n ∧ g = dcell (nxt c) (rk j) := by
  induction n with
  | zero => exact absurd h (Nat.lt_irrefl 0)
  | succ n ih =>
    rcases tally_pos h with hg | h
    · exact ⟨n, Nat.lt_succ_self n, hg⟩
    · obtain ⟨j, hj, hj'⟩ := ih h
      exact ⟨j, Nat.lt_succ_of_lt hj, hj'⟩

theorem O₀_pos {c : Dev nD} {g : GSem nD τ sig} {u : Unit} (h : 0 < O₀ c g u) :
    (∃ j, j < 6 ∧ g = dcell (nxt c) (rk j)) ∨ g = barCell (nxt c) ∨ g = barCell (prv c) := by
  rcases tally_pos h with h | h
  · exact .inr (.inr h)
  · rcases tally_pos h with h | h
    · exact .inr (.inl h)
    · exact .inl (owing_pos h)

/-- A wait on a counter of level `e` is allowed while `n` copies are to be issued if all of theirs lie above. -/
theorem mayWait_owing (c : Dev nD) (s : SemLoc sig) (e n : ℕ) (hs : ∀ u, lv ((c : Thread nD τ), s) u ≤ e) (hn : n ≤ 6)
    (he : n = 0 ∨ n + e < 8) :
    (levAts L lv : sProp 𝕄) ⊢ MayWait (c : Thread nD τ) s () (owing c n) := by
  refine MayOwe.of_cut (L := L) (lev := lv) e
    (fun p hp => by rw [Finset.mem_singleton.mp hp, L_tc]; exact Finset.mem_singleton_self _)
    (fun g u hg => by obtain ⟨j, _, rfl⟩ := owing_pos hg; rw [L_tc]; exact Finset.mem_singleton_self _)
    (fun p hp => by rw [Finset.mem_singleton.mp hp]; exact hs _)
    (fun g u hg => by
      obtain ⟨j, hj, rfl⟩ := owing_pos hg
      rw [lv_dma, lvl_rk j (by omega)]
      omega)

/-- The staging's counters lie below everything owed. -/
theorem mayWait_stage (c : Dev nD) (q : DmaSem sig) (hq : ix (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨j, _, rfl⟩ | rfl | rfl <;> (rw [L_tc]; exact Finset.mem_singleton_self _))
      (fun p hp => by rw [Finset.mem_singleton.mp hp]; dsimp only [lv]; rw [if_neg (fun h => by cases h), hq])
      (fun g u hg => by
        rcases O₀_pos hg with ⟨j, hj, rfl⟩ | rfl | rfl
        · rw [lv_dma, lvl_rk j hj]; omega
        · rw [lv_bar]; decide
        · rw [lv_bar]; decide)
  · rw [MayWait_zero]; iintro -; iempintro

/-! ## What a device starts from and ends with -/

/-- Every counter's invariant, and that every counter is at its round. -/
def records (K : Dev nD × Fin 13 → ℕ) : sProp 𝕄 :=
  iprop((bigSep Finset.univ fun ck : Dev nD × Fin 13 => cellInv ER (ringRd I) (K ck) (kcell ck))
    ∗ bigSep Finset.univ fun ck : Dev nD × Fin 13 => reached ER (kcell ck) 0)

instance records_persistent (K : Dev nD × Fin 13 → ℕ) : BI.Persistent (records I K) := by unfold records; infer_instance

theorem inv_at (K : Dev nD × Fin 13 → ℕ) (ck : Dev nD × Fin 13) : records I K ⊢ cellInv ER (ringRd I) (K ck) (kcell ck) := by
  unfold records
  have h : (bigSep Finset.univ fun ck : Dev nD × Fin 13 => (cellInv ER (ringRd I) (K ck) (kcell ck) : sProp 𝕄)) ⊢
      cellInv ER (ringRd I) (K ck) (kcell ck) := bigSep_elim (Finset.mem_univ ck)
  iintro ⟨H, -⟩
  iapply h $$ H
theorem reached_at (K : Dev nD × Fin 13 → ℕ) (ck : Dev nD × Fin 13) : records I K ⊢ reached ER (kcell ck) 0 := by
  unfold records
  have h : (bigSep Finset.univ fun ck : Dev nD × Fin 13 => (reached ER (kcell ck) 0 : sProp 𝕄)) ⊢ reached ER (kcell ck) 0 :=
    bigSep_elim (Finset.mem_univ ck)
  iintro ⟨-, H⟩
  iapply h $$ H
theorem inv_bar (K : Dev nD × Fin 13 → ℕ) (c : Dev nD) : records I K ⊢ cellInv ER (ringRd I) (K (c, 0)) (barCell c) := inv_at I K (c, 0)
theorem inv_dma (K : Dev nD × Fin 13 → ℕ) (c : Dev nD) (k : Fin 12) :
    records I K ⊢ cellInv ER (ringRd I) (K (c, k.succ)) (dcell c k) := inv_at I K (c, k.succ)
theorem reached_bar (K : Dev nD × Fin 13 → ℕ) (c : Dev nD) : records I K ⊢ reached ER (barCell c) 0 := reached_at I K (c, 0)
theorem reached_dma (K : Dev nD × Fin 13 → ℕ) (c : Dev nD) (k : Fin 12) : records I K ⊢ reached ER (dcell c k) 0 := reached_at I K (c, k.succ)

/-- The device on which the duty of copy counter `k` that `c` discharges lies: its own for a send. -/
def payDev (c : Dev nD) (k : Fin 12) : Dev nD := if k.val / 3 = 0 ∨ k.val / 3 = 2 then c else nxt c

/-- Positions and tokens. -/
def linear (c : Dev nD) : sProp 𝕄 :=
  iprop((bigSep Finset.univ fun k : Fin 13 => atPos ER (kcell (c, k)) 0 ∅ 0)
    ∗ (bigSep Finset.univ fun k : Fin 12 => dutyTok ER (dcell (payDev c k) k) 0 false)
    ∗ dutyTok ER (barCell (nxt c)) 0 false ∗ dutyTok ER (barCell (prv c)) 0 true)

def ghost (K : Dev nD × Fin 13 → ℕ) (c : Dev nD) : sProp 𝕄 := iprop(records I K ∗ linear c)

/-- A wait's credit: the barrier's two units and the arrivals'. -/
def credits (c : Dev nD) : sProp 𝕄 :=
  iprop(cred (tallyAt (barCell c) () 2)
    ∗ cred (tallyAt (dcell c 3) () N) ∗ cred (tallyAt (dcell c 4) () N) ∗ cred (tallyAt (dcell c 5) () N)
    ∗ cred (tallyAt (dcell c 9) () N) ∗ cred (tallyAt (dcell c 10) () N) ∗ cred (tallyAt (dcell c 11) () N))

def start (c : Dev nD) : sProp 𝕄 := iprop((∃ K, ghost I K c) ∗ credits c ∗ levAts L lv)

/-- The scratch buffers, of whatever contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def Φ₀ (c : Dev nD) : sProp 𝕄 := iprop(start I c ∗ scratch c)
def Φ₁ (c : Dev nD) : sProp 𝕄 := iprop(scratch c ∗ (bigSep Finset.univ fun k : Fin 13 => semVal (kcell (c, k)) 0))

end Cert.RingProof
-- ==== Proof.Rules.lean ====
module

public import proofs.«01_k».proof.Proof.Proto

@[expose] public section

/-! # Rules for the kernel's loads, stores and copies, in the terms of the protocol -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Whole buffers read and written by rectangles -/

section Whole

variable {b : Ref sig .tc} {off size : Fin b.ty.shape.rank → ℕ} {inb : ∀ a, off a + size a ≤ b.ty.shape.size a}

theorem readAt_whole (r : LoadRect b.ty.shape) (f : b.ty.Contents (Elt F)) (x : r.shape.Idx) :
    (Memref.whole b : Memref sig .tc _ _ _).view.readAt (Elt F) r f x = f (r.idx x) := rfl

theorem write_whole_mem (r : Rect b.ty.shape) (f : b.ty.Contents (Elt F)) (w : r.shape.Idx → Elt F b.ty.elt) (x : r.shape.Idx) :
    ((Memref.whole b : Memref sig .tc _ _ _).access r).write (Elt F) f w Finset.univ (r.emb x) = w x :=
  View.write_emb_of_mem (v := ((Memref.whole b : Memref sig .tc _ _ _).access r)) f w (Finset.mem_univ x)

theorem write_whole_not (r : Rect b.ty.shape) (f : b.ty.Contents (Elt F)) (w : r.shape.Idx → Elt F b.ty.elt) {i : b.ty.shape.Idx}
    (hi : i ∉ r.set) : ((Memref.whole b : Memref sig .tc _ _ _).access r).write (Elt F) f w Finset.univ i = f i := by
  refine View.write_of_not_mem (v := ((Memref.whole b : Memref sig .tc _ _ _).access r)) f w Finset.univ ?_
  intro h
  obtain ⟨x, _, hx⟩ := Finset.mem_map.mp h
  exact hi (hx ▸ r.idx_mem x)

end Whole

/-! ## Buffers known up to a predicate -/

/-- Elements `S` of a buffer, of some contents with `P`. -/
def holds (ℓ : Loc nD τ sig) (S : Finset (BufTy.Idx ℓ.ty)) (P : Buf (Elt F) ℓ → Prop) : sProp 𝕄 :=
  iprop(∃ g : Buf (Elt F) ℓ, ⌜P g⌝ ∗ (ℓ ↦[S]{fullShare} g))

theorem holds_mono {ℓ : Loc nD τ sig} {S : Finset (BufTy.Idx ℓ.ty)} {P P' : Buf (Elt F) ℓ → Prop} (h : ∀ g, P g → P' g) :
    holds ℓ S P ⊢ holds ℓ S P' := by
  unfold holds
  iintro ⟨%g, %hg, H⟩
  iexists g
  isplitr
  · ipureintro; exact h g hg
  · iexact H

section Rules

variable (c : Dev nD) {sp : CoreSpace} {s : Shape} {e : EltTy} {M : Memref sig .tc sp s e} {α : Type}

theorem wp_load_holds {Q : α → sProp 𝕄} {r : LoadRect s} {hl : M.view.LoadsAt r}
    {k : (r.shape.Idx → Elt F e) → Prog (TpuEff nD τ sig (Elt F) Λ₀ .tc) α}
    {S : Finset (BufTy.Idx (M.view.loc (c : Thread nD τ)).ty)} {P : Buf (Elt F) (M.view.loc (c : Thread nD τ)) → Prop}
    (v : r.shape.Idx → Elt F e) (hS : M.view.setOn r.set ⊆ S) (hv : ∀ g, P g → M.view.readAt (Elt F) r g = v) :
    holds (M.view.loc (c : Thread nD τ)) S P
      ⊢ iprop((holds (M.view.loc (c : Thread nD τ)) S P -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  unfold holds
  iintro ⟨%g, %hg, H⟩ Hk
  iapply (wp_load 𝒱₀ (c : Thread nD τ) none Set.univ (m := M) hS) $$ H
  iintro H
  rw [hv g hg]
  iapply Hk
  iexists g
  isplitr
  · ipureintro; exact hg
  · iexact H

/-- A load whose value is not used. -/
theorem wp_load_any {Q : α → sProp 𝕄} {r : LoadRect s} {hl : M.view.LoadsAt r} {k : Prog (TpuEff nD τ sig (Elt F) Λ₀ .tc) α}
    {S : Finset (BufTy.Idx (M.view.loc (c : Thread nD τ)).ty)} {P : Buf (Elt F) (M.view.loc (c : Thread nD τ)) → Prop}
    (hS : M.view.setOn r.set ⊆ S) :
    holds (M.view.loc (c : Thread nD τ)) S P
      ⊢ iprop((holds (M.view.loc (c : Thread nD τ)) S P -∗ wp frame (wpE (defs₀ (F := F)) 𝒱₀ (c : Thread nD τ) none) Set.univ k Q)
          -∗ wp frame (wpE (defs₀ (F := F)) 𝒱₀ (c : Thread nD τ) none) Set.univ (.op (.load M r hl) fun _ => k) Q) := by
  unfold holds
  iintro ⟨%g, %hg, H⟩ Hk
  iapply (wp_load 𝒱₀ (c : Thread nD τ) none Set.univ (m := M) hS) $$ H
  iintro H
  iapply Hk
  iexists g
  isplitr
  · ipureintro; exact hg
  · iexact H

/-- A load of elements held at any share. -/
theorem wp_load_val {Q : α → sProp 𝕄} {r : LoadRect s} {hl : M.view.LoadsAt r}
    {k : (r.shape.Idx → Elt F e) → Prog (TpuEff nD τ sig (Elt F) Λ₀ .tc) α}
    {S : Finset (BufTy.Idx (M.view.loc (c : Thread nD τ)).ty)} {q : PosShare TreeShare} {f : Buf (Elt F) (M.view.loc (c : Thread nD τ))}
    (v : r.shape.Idx → Elt F e) (hS : M.view.setOn r.set ⊆ S) (hv : M.view.readAt (Elt F) r f = v) :
    (M.view.loc (c : Thread nD τ) ↦[S]{q} f)
      ⊢ iprop(((M.view.loc (c : Thread nD τ) ↦[S]{q} f) -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  subst hv
  exact wp_load 𝒱₀ (c : Thread nD τ) none Set.univ (m := M) hS

theorem wp_store_holds {Q : α → sProp 𝕄} {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α}
    {S : Finset (BufTy.Idx (M.view.loc (c : Thread nD τ)).ty)} {P : Buf (Elt F) (M.view.loc (c : Thread nD τ)) → Prop}
    (P' : Buf (Elt F) (M.view.loc (c : Thread nD τ)) → Prop) (hS : (M.access r).setOn Finset.univ ⊆ S)
    (hP : ∀ g, P g → P' ((M.access r).write (Elt F) g w Finset.univ)) :
    holds (M.view.loc (c : Thread nD τ)) S P
      ⊢ iprop((holds (M.view.loc (c : Thread nD τ)) S P' -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold holds
  iintro ⟨%g, %hg, H⟩ Hk
  iapply (wp_store 𝒱₀ (c : Thread nD τ) none Set.univ (m := M) (r := r) (Mk := Finset.univ) hS) $$ H
  iintro H
  iapply Hk
  iexists _
  isplitr
  · ipureintro; exact hP g hg
  · iexact H

end Rules

/-! ## The slots -/

theorem slot_emb {n h : ℕ} (hh : ∀ a, (![h, 0, 0, 0] : Fin 4 → ℕ) a + S1x2x512x1024.size a ≤ (⟨4, ![n, 2, 512, 1024]⟩ : Shape).size a)
    (hq : S2x512x1024.numel = S1x2x512x1024.numel) (hn : h < n) (j : S2x512x1024.Idx) :
    (Rect.unit (s := (⟨4, ![n, 2, 512, 1024]⟩ : Shape)) ![h, 0, 0, 0] S1x2x512x1024.size hh).emb (Shape.reshapeEquiv hq j)
      = ix4 (⟨h, hn⟩ : Fin n) (j 0) (j 1) (j 2) := by
  rw [eq_ix3 j]
  refine (congrArg _ (reshapeEquiv_ix3_1abc hq (j 0) (j 1) (j 2))).trans ?_
  funext a
  refine Fin.ext ?_
  rw [Rect.emb_apply]
  fin_cases a <;> simp [Rect.unit, ix4, ix3]

theorem slot_set {n h : ℕ} (hh : ∀ a, (![h, 0, 0, 0] : Fin 4 → ℕ) a + S1x2x512x1024.size a ≤ (⟨4, ![n, 2, 512, 1024]⟩ : Shape).size a) :
    (Rect.unit (s := (⟨4, ![n, 2, 512, 1024]⟩ : Shape)) ![h, 0, 0, 0] S1x2x512x1024.size hh).set = slotSet n h := by
  ext i
  rw [mem_slotSet, Rect.mem_set_unit]
  constructor
  · intro H
    have := H 0
    have e1 : (![h, 0, 0, 0] : Fin 4 → ℕ) 0 = h := rfl
    have e2 : S1x2x512x1024.size 0 = 1 := rfl
    rw [e1, e2] at this
    omega
  · intro H a
    have hb := (i a).isLt
    fin_cases a
    · show h ≤ (i 0).val ∧ (i 0).val < h + 1
      omega
    · exact ⟨Nat.zero_le _, by simpa using hb⟩
    · exact ⟨Nat.zero_le _, by simpa using hb⟩
    · exact ⟨Nat.zero_le _, by simpa using hb⟩

theorem xg_set (h : ℕ) (hh) : (slot3 xgM h hh).view.set = slotSet 3 h := by
  rw [← slot_set hh]
  exact (View.set_reshape _ _).trans ((View.set_slice _ _).trans Finset.map_refl)
theorem rb_set (h : ℕ) (hh) : (slot3 rbM h hh).view.set = slotSet 3 h := by
  rw [← slot_set hh]
  exact (View.set_reshape _ _).trans ((View.set_slice _ _).trans Finset.map_refl)
theorem sb_set (h : ℕ) (hh) : (slot2 sbM h hh).view.set = slotSet 2 h := by
  rw [← slot_set hh]
  exact (View.set_reshape _ _).trans ((View.set_slice _ _).trans Finset.map_refl)

end Cert.RingProof
-- ==== Proof.Comm.lean ====
module

public import proofs.«01_k».proof.Proof.Rules

@[expose] public section

/-! # The barrier, the six copies and the twelve waits -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The device owes `O`, whatever it has waited for. -/
def ow (c : Dev nD) (O : CellTallies nD τ sig Unit) : sProp 𝕄 := iprop(∃ W, owes (c : Thread nD τ) O W)

variable (I : Inp F) (K : Dev nD × Fin 13 → ℕ) (c : Dev nD)

/-! ## Waits -/

theorem wp_wait_copy {α : Type} {Q : α → sProp 𝕄} {kk : PUnit → Prog (TpuEff nD τ sig (Elt F) Λ₀ .tc) α} (k : Fin 12) (n : ℕ)
    {sm : DmaSem sig} (hsm : sm = dq k) {M₁ M₂ : Memref sig .tc .vmem S2x512x1024 .bf16} {h₁ : M₁.view.WordExact} {h₂ : M₂.view.WordExact}
    (hN : M₂.view.dmaCredit = N) (hn : n ≤ 6) (he : n = 0 ∨ n + lvl k < 8) :
    iprop(records I K ∗ levAts L lv ∗ cred (tallyAt (dcell c k) () N) ∗ ow c (owing c n) ∗ atPos ER (dcell c k) 0 ∅ 0)
      ⊢ iprop(((ow c (owing c n) ∗ dmaPay I c k ∗ semVal (dcell c k) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm M₁ M₂ h₁ h₂) kk) Q) := by
  subst hsm
  unfold ow
  iintro ⟨#HR, #Hlev, Hc, ⟨%W, HO⟩, Hat⟩ Hk
  ihave #HI := (inv_dma I K c k) $$ HR
  iapply (Rounds.wp_wait_rest_token 𝒱₀ ER (ringRd I) (c : Thread nD τ) none (κ := K (c, k.succ))
      (wpE_waitDma2_eq 𝒱₀ (c : Thread nD τ) none Set.univ) (Set.mem_univ _) () (O := owing c n) (W := W) (R := 0) (m := 0) (T := ∅)
      (by rw [Nat.zero_add, hN]; exact (expect_dma I c k).symm)) $$ [Hc HO Hat]
  · isplitr; · iexact HI
    isplitl [Hc]; · rw [hN]; iexact Hc
    isplitl [HO]; · iexact HO
    isplitr; · iapply (mayWait_owing c (.dma (dq k)) (lvl k) n (fun u => le_of_eq (lv_dma c k u)) hn he); iexact Hlev
    iexact Hat
  iintro ⟨HO, Hat, -, Hpay⟩
  ihave Hp := (Entails.of_eq (rest_dma I c k)) $$ Hpay
  imod (Rounds.cell_close ER (ringRd I) (Set.mem_univ (K (c, k.succ))) (fun h => h) (R := 0 + 1) (duties_later I (dcell c k))) $$ [Hat] with Hz
  · isplitr; · iexact HI
    iexact Hat
  iapply Hk
  isplitl [HO]; · iexists _; iexact HO
  isplitl [Hp]; · iexact Hp
  iexact Hz

/-! ## Copies -/

theorem wp_copy {α : Type} {Q : α → sProp 𝕄} {kk : PUnit → Prog (TpuEff nD τ sig (Elt F) Λ₀ .tc) α} (k k' : Fin 12) (n : ℕ)
    (hk' : rk n = k') (hk : payDev c k = c) (hkn : payDev c k' = nxt c) (t : Dev nD) (ht : t = nxt c) {s₁ s₂ : DmaSem sig} (h₁ : s₁ = dq k) (h₂ : s₂ = dq k')
    {M₁ M₂ : Memref sig .tc .vmem S2x512x1024 .bf16} {hsc : M₂.view.ref.isScScratch = false}
    {hsrc : M₁.view.WordExact} {hdst : M₂.view.WordExact}
    {hsem : DmaTarget.Typed .vmem (.dma s₂) (.remote (Dev.tc t : Thread nD τ) M₂ (.dma s₁) hsc)}
    (hN : M₂.view.dmaCredit = N) {q : PosShare TreeShare} {fs : Buf (Elt F) (M₁.view.loc (c : Thread nD τ))}
    {fd : Buf (Elt F) (M₂.view.loc (nxt c : Thread nD τ))}
    (hpay₁ : (M₁.view.loc (c : Thread nD τ) ↦[M₁.view.set]{q} fs) ⊢ dmaPay I c k)
    (hpay₂ : (M₂.view.loc (nxt c : Thread nD τ) ↦[M₂.view.set]{fullShare} (M₂.view.write (Elt F) fd (M₁.view.read (Elt F) fs) Finset.univ))
      ⊢ dmaPay I (nxt c) k') :
    iprop(records I K ∗ (M₁.view.loc (c : Thread nD τ) ↦[M₁.view.set]{q} fs) ∗ (M₂.view.loc (nxt c : Thread nD τ) ↦[M₂.view.set]{fullShare} fd)
        ∗ ow c (owing c (n + 1)) ∗ dutyTok ER (dcell (payDev c k) k) 0 false ∗ dutyTok ER (dcell (payDev c k') k') 0 false)
      ⊢ iprop(((cred (tallyAt (dcell c k) () N) ∗ ow c (owing c n))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma M₁ (.remote (Dev.tc t : Thread nD τ) M₂ (.dma s₁) hsc) (.dma s₂) hsrc hdst hsem) kk) Q) := by
  subst ht h₁ h₂ hk'
  rw [hk, hkn]
  unfold ow
  iintro ⟨#HR, Hs, Hd, ⟨%W, HO⟩, Ht, Htn⟩ Hk
  iapply (Rounds.wp_send_pointsTo 𝒱₀ ER (ringRd I) (c : Thread nD τ) none (κ₁ := K (c, k.succ)) (κ₂ := K (nxt c, (rk n).succ))
    (r₁ := 0) (r₂ := 0) (d₁ := false) (d₂ := false) (fd := fd)
    (by rw [duties_dma]; exact Finset.mem_singleton_self _) (by rw [duties_dma]; exact Finset.mem_singleton_self _)
    () () N (show M₂.view.amount (.dma (dq (rk n))) = N from hN) (amount_dma I c k false) (amount_dma I (nxt c) (rk n) false) (owing c n) rfl (W := W)
    (by rw [payload_dma]; exact hpay₁) (by rw [payload_dma]; exact hpay₂)) $$ [Hs Hd HO Ht Htn]
  · isplitr; · iapply (inv_dma I K c k); iexact HR
    isplitr; · iapply (inv_dma I K (nxt c) (rk n)); iexact HR
    isplitl [Hs]; · iexact Hs
    isplitl [Hd]; · iexact Hd
    isplitl [HO]; · iexact HO
    isplitl [Ht]; · iexact Ht
    isplitr; · iapply (reached_dma I K c k); iexact HR
    isplitl [Htn]; · iexact Htn
    iapply (reached_dma I K (nxt c) (rk n)); iexact HR
  iintro ⟨Hc, HO⟩
  iapply Hk
  isplitl [Hc]; · iexact Hc
  iexists W; iexact HO

/-! What lands in a slot. -/

theorem land_xg (d : Dev nD) (h : ℕ) (hn : h < 3) (hh) (fd : Buf (Elt F) ((slot3 xgM h hh).view.loc (d : Thread nD τ))) (w : S2x512x1024.Idx → Elt F .bf16)
    (hw : ∀ j, w j = I.X (src d h) j) :
    ((slot3 xgM h hh).view.loc (d : Thread nD τ) ↦[(slot3 xgM h hh).view.set]{fullShare} ((slot3 xgM h hh).view.write (Elt F) fd w Finset.univ) : sProp 𝕄)
      ⊢ xgF d h fullShare (xgAll I d) := by
  unfold xgF
  rw [xg_set]
  refine Entails.of_eq (pointsTo_congr fun i hi => ?_)
  have hi' := mem_slotSet.mp hi
  have e : (slot3 xgM h hh).view.emb (ix3 (i 1) (i 2) (i 3)) = i := by
    refine (slot_emb hh _ hn _).trans ?_
    conv_rhs => rw [eq_ix4 i]
    exact congrArg (fun z => ix4 z (i 1) (i 2) (i 3)) (Fin.ext hi'.symm)
  refine (congrArg _ e.symm).trans ((View.write_emb_of_mem _ _ (Finset.mem_univ _)).trans ?_)
  refine (hw _).trans ?_
  show _ = I.X (src d (i 0).val) _
  rw [hi']

theorem land_rb (d : Dev nD) (h : ℕ) (hn : h < 3) (hh) (fd : Buf (Elt F) ((slot3 rbM h hh).view.loc (d : Thread nD τ))) (w : S2x512x1024.Idx → Elt F .bf16)
    (hw : ∀ j, w j = I.sent h (prv d) (j 0) (ix2 (j 1) (j 2))) :
    ((slot3 rbM h hh).view.loc (d : Thread nD τ) ↦[(slot3 rbM h hh).view.set]{fullShare} ((slot3 rbM h hh).view.write (Elt F) fd w Finset.univ) : sProp 𝕄)
      ⊢ rbF d h (rbAll I d) := by
  unfold rbF
  rw [rb_set]
  refine Entails.of_eq (pointsTo_congr fun i hi => ?_)
  have hi' := mem_slotSet.mp hi
  have e : (slot3 rbM h hh).view.emb (ix3 (i 1) (i 2) (i 3)) = i := by
    refine (slot_emb hh _ hn _).trans ?_
    conv_rhs => rw [eq_ix4 i]
    exact congrArg (fun z => ix4 z (i 1) (i 2) (i 3)) (Fin.ext hi'.symm)
  refine (congrArg _ e.symm).trans ((View.write_emb_of_mem _ _ (Finset.mem_univ _)).trans ?_)
  refine (hw _).trans ?_
  show _ = I.sent (i 0).val (prv d) _ _
  rw [hi']

theorem read_xg (h : ℕ) (hn : h < 3) (hh) (j : S2x512x1024.Idx) :
    (slot3 xgM h hh).view.read (Elt F) (xgAll I c) j = I.X (src c h) j := by
  show xgAll I c ((Rect.unit (s := S3x2x512x1024) ![h, 0, 0, 0] S1x2x512x1024.size hh).emb (Shape.reshapeEquiv _ j)) = _
  rw [slot_emb hh _ hn, eq_ix3 j]
  rfl

theorem read_sb (s h : ℕ) (hn : h < 2) (hh) (j : S2x512x1024.Idx) :
    (slot2 sbM h hh).view.read (Elt F) (sbAll I s c) j = I.sent s c (j 0) (ix2 (j 1) (j 2)) := by
  show sbAll I s c ((Rect.unit (s := S2x2x512x1024) ![h, 0, 0, 0] S1x2x512x1024.size hh).emb (Shape.reshapeEquiv _ j)) = _
  rw [slot_emb hh _ hn, eq_ix3 j]
  rfl

/-! The copies of the gather. -/

theorem pay_own {k : Fin 12} (h : k.val / 3 = 0 ∨ k.val / 3 = 2) : payDev c k = c := if_pos h
theorem pay_nxt {k : Fin 12} (h : ¬ (k.val / 3 = 0 ∨ k.val / 3 = 2)) : payDev c k = nxt c := if_neg h

theorem wp_send_x {α : Type} {Q : α → sProp 𝕄} {kk : PUnit → Prog (TpuEff nD τ sig (Elt F) Λ₀ .tc) α}
    (t : Dev nD) (ht : t = nxt c) {s₁ s₂ : DmaSem sig} (h₁ : s₁ = dq 0) (h₂ : s₂ = dq 3)
    {hsc : (slot3 xgM 0 at0).view.ref.isScScratch = false}
    {hsrc : (xM : Memref sig .tc .vmem S2x512x1024 .bf16).view.WordExact} {hdst : (slot3 xgM 0 at0).view.WordExact}
    {hsem : DmaTarget.Typed .vmem (.dma s₂) (.remote (Dev.tc t : Thread nD τ) (slot3 xgM 0 at0) (.dma s₁) hsc)} :
    iprop(records I K ∗ xP I fullShare.left c ∗ (∃ f, xgF (nxt c) 0 fullShare f)
        ∗ ow c (owing c 6) ∗ dutyTok ER (dcell (payDev c 0) 0) 0 false ∗ dutyTok ER (dcell (payDev c 3) 3) 0 false)
      ⊢ iprop(((cred (tallyAt (dcell c 0) () N) ∗ ow c (owing c 5))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.remote (Dev.tc t : Thread nD τ) (slot3 xgM 0 at0) (.dma s₁) hsc) (.dma s₂) hsrc hdst hsem) kk) Q) := by
  unfold xgF
  iintro ⟨#HR, Hs, ⟨%f, Hd⟩, HO, Ht, Htn⟩
  have hp : dmaPay I c 0 = xP I fullShare.left c := rfl
  have hp' : dmaPay I (nxt c) 3 = xgF (nxt c) 0 fullShare (xgAll I (nxt c)) := rfl
  iapply (wp_copy I K c 0 3 5 rfl (pay_own c (by decide)) (pay_nxt c (by decide)) t ht h₁ h₂ (N_xg 0 at0) (fs := I.X c) (fd := f) (q := fullShare.left)
    (by rw [hp]; unfold xP; exact BI.Entails.refl _)
    (by rw [hp']; exact land_xg I (nxt c) 0 (by decide) at0 f _ (fun j => by rw [src_nxt_zero]; rfl))) $$ [Hs Hd HO Ht Htn]
  isplitr; · iexact HR
  isplitl [Hs]; · unfold xP; iexact Hs
  isplitl [Hd]; · rw [xg_set]; iexact Hd
  isplitl [HO]; · iexact HO
  isplitl [Ht]; · iexact Ht
  iexact Htn

theorem wp_send_xg {α : Type} {Q : α → sProp 𝕄} {kk : PUnit → Prog (TpuEff nD τ sig (Elt F) Λ₀ .tc) α} (h : ℕ) (hh hh')
    (k k' : Fin 12) (n : ℕ) (hl : h < 2) (hn : rk n = k') (hp : dmaPay I c k = xgF c h fullShare.left (xgAll I c))
    (hp' : dmaPay I (nxt c) k' = xgF (nxt c) (h + 1) fullShare (xgAll I (nxt c))) (hk : payDev c k = c) (hkn : payDev c k' = nxt c)
    (t : Dev nD) (ht : t = nxt c) {s₁ s₂ : DmaSem sig} (h₁ : s₁ = dq k) (h₂ : s₂ = dq k')
    {hsc : (slot3 xgM (h + 1) hh').view.ref.isScScratch = false}
    {hsrc : (slot3 xgM h hh).view.WordExact} {hdst : (slot3 xgM (h + 1) hh').view.WordExact}
    {hsem : DmaTarget.Typed .vmem (.dma s₂) (.remote (Dev.tc t : Thread nD τ) (slot3 xgM (h + 1) hh') (.dma s₁) hsc)} :
    iprop(records I K ∗ xgF c h fullShare.left (xgAll I c) ∗ (∃ f, xgF (nxt c) (h + 1) fullShare f)
        ∗ ow c (owing c (n + 1)) ∗ dutyTok ER (dcell (payDev c k) k) 0 false ∗ dutyTok ER (dcell (payDev c k') k') 0 false)
      ⊢ iprop(((cred (tallyAt (dcell c k) () N) ∗ ow c (owing c n))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot3 xgM h hh) (.remote (Dev.tc t : Thread nD τ) (slot3 xgM (h + 1) hh') (.dma s₁) hsc) (.dma s₂) hsrc hdst hsem) kk) Q) := by
  unfold xgF at hp hp' ⊢
  iintro ⟨#HR, Hs, ⟨%f, Hd⟩, HO, Ht, Htn⟩
  iapply (wp_copy I K c k k' n hn hk hkn t ht h₁ h₂ (N_xg (h + 1) hh') (fs := xgAll I c) (fd := f) (q := fullShare.left)
    (by rw [hp, xg_set])
    (by rw [hp']; exact land_xg I (nxt c) (h + 1) (by omega) hh' f _ (fun j => by rw [src_nxt_succ]; exact read_xg I c h (by omega) hh j))) $$ [Hs Hd HO Ht Htn]
  isplitr; · iexact HR
  isplitl [Hs]; · rw [xg_set]; iexact Hs
  isplitl [Hd]; · rw [xg_set]; iexact Hd
  isplitl [HO]; · iexact HO
  isplitl [Ht]; · iexact Ht
  iexact Htn

/-! The copies of the reduction. -/

theorem wp_send_rb {α : Type} {Q : α → sProp 𝕄} {kk : PUnit → Prog (TpuEff nD τ sig (Elt F) Λ₀ .tc) α} (s h : ℕ) (hh hh')
    (k k' : Fin 12) (n : ℕ) (hs : s < 3) (hl : h < 2) (hn : rk n = k') (hp : dmaPay I c k = sbF c h (sbAll I s c))
    (hp' : dmaPay I (nxt c) k' = rbF (nxt c) s (rbAll I (nxt c))) (hk : payDev c k = c) (hkn : payDev c k' = nxt c)
    (t : Dev nD) (ht : t = nxt c) {s₁ s₂ : DmaSem sig} (h₁ : s₁ = dq k) (h₂ : s₂ = dq k')
    {hsc : (slot3 rbM s hh').view.ref.isScScratch = false}
    {hsrc : (slot2 sbM h hh).view.WordExact} {hdst : (slot3 rbM s hh').view.WordExact}
    {hsem : DmaTarget.Typed .vmem (.dma s₂) (.remote (Dev.tc t : Thread nD τ) (slot3 rbM s hh') (.dma s₁) hsc)} :
    iprop(records I K ∗ sbF c h (sbAll I s c) ∗ (∃ f, rbF (nxt c) s f)
        ∗ ow c (owing c (n + 1)) ∗ dutyTok ER (dcell (payDev c k) k) 0 false ∗ dutyTok ER (dcell (payDev c k') k') 0 false)
      ⊢ iprop(((cred (tallyAt (dcell c k) () N) ∗ ow c (owing c n))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot2 sbM h hh) (.remote (Dev.tc t : Thread nD τ) (slot3 rbM s hh') (.dma s₁) hsc) (.dma s₂) hsrc hdst hsem) kk) Q) := by
  unfold sbF rbF at *
  iintro ⟨#HR, Hs, ⟨%f, Hd⟩, HO, Ht, Htn⟩
  iapply (wp_copy I K c k k' n hn hk hkn t ht h₁ h₂ (N_rb s hh') (fs := sbAll I s c) (fd := f) (q := fullShare)
    (by rw [hp, sb_set])
    (by rw [hp']; exact land_rb I (nxt c) s hs hh' f _ (fun j => by rw [prv_nxt]; exact read_sb I c s h hl hh j))) $$ [Hs Hd HO Ht Htn]
  isplitr; · iexact HR
  isplitl [Hs]; · rw [sb_set]; iexact Hs
  isplitl [Hd]; · rw [rb_set]; iexact Hd
  isplitl [HO]; · iexact HO
  isplitl [Ht]; · iexact Ht
  iexact Htn

/-! ## The barrier -/

/-- A device's own six slots, of whatever contents. -/
def slots : sProp 𝕄 :=
  iprop((∃ f, xgF c 0 fullShare f) ∗ (∃ f, xgF c 1 fullShare f) ∗ (∃ f, xgF c 2 fullShare f)
    ∗ (∃ f, rbF c 0 f) ∗ (∃ f, rbF c 1 f) ∗ (∃ f, rbF c 2 f))

/-- The two signals and the wait: the device's six slots go to the device before it, and those of the next come. -/
theorem wp_barrier {α : Type} {Q : α → sProp 𝕄} {kk : PUnit → Prog (TpuEff nD τ sig (Elt F) Λ₀ .tc) α}
    (t₁ t₂ : Dev nD) (ht₁ : t₁ = prv c) (ht₂ : t₂ = nxt c) :
    iprop(records I K ∗ levAts L lv ∗ cred (tallyAt (barCell c) () 2) ∗ ow c (O₀ c) ∗ atPos ER (barCell c) 0 ∅ 0
        ∗ dutyTok ER (barCell (nxt c)) 0 false ∗ dutyTok ER (barCell (prv c)) 0 true ∗ slots (F := F) c)
      ⊢ iprop(((ow c (owing c 6) ∗ barPay (F := F) c ∗ semVal (barCell c) 0)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (t₁ : Thread nD τ) barS (1#32).toInt) fun _ => .op (.semSignal (t₂ : Thread nD τ) barS (1#32).toInt) fun _ =>
                .op (.semWait barS (2#32).toInt) kk) Q) := by
  subst ht₁ ht₂
  unfold ow slots
  iintro ⟨#HR, #Hlev, Hc, ⟨%W, HO⟩, Hat, Ht1, Ht2, Hsl⟩ Hk
  iapply (Rounds.wp_signal 𝒱₀ ER (ringRd I) (c : Thread nD τ) none (dst := (prv c : Thread nD τ)) (κ := K (prv c, 0))
      (d := true) (by rw [duties_bar]; exact Finset.mem_univ _) ((amount_bar I (prv c) true).trans (by decide)) () (owing c 6 + tallyAt (barCell (nxt c)) () 1) rfl)
    $$ [HO Ht2 Hsl]
  · isplitr; · iapply (inv_bar I K (prv c)); iexact HR
    isplitl [HO]; · iexact HO
    isplitl [Ht2]; · iexact Ht2
    isplitl [Hsl]
    · rw [payload_bar_true]; unfold barPay; rw [nxt_prv]; iexact Hsl
    · iapply (reached_bar I K (prv c)); iexact HR
  iintro HO
  iapply (Rounds.wp_signal 𝒱₀ ER (ringRd I) (c : Thread nD τ) none (dst := (nxt c : Thread nD τ)) (κ := K (nxt c, 0))
      (d := false) (by rw [duties_bar]; exact Finset.mem_univ _) ((amount_bar I (nxt c) false).trans (by decide)) () (owing c 6) rfl)
    $$ [HO Ht1]
  · isplitr; · iapply (inv_bar I K (nxt c)); iexact HR
    isplitl [HO]; · iexact HO
    isplitl [Ht1]; · iexact Ht1
    isplitr; · rw [payload_bar_false]; iempintro
    iapply (reached_bar I K (nxt c)); iexact HR
  iintro HO
  iapply (Rounds.wp_wait_rest_token 𝒱₀ ER (ringRd I) (c : Thread nD τ) none (κ := K (c, 0))
      (wpE_semWait_eq 𝒱₀ (c : Thread nD τ) none Set.univ) (Set.mem_univ _) () (O := owing c 6) (W := W) (R := 0) (m := 0) (T := ∅)
      (by rw [expect_bar]; decide)) $$ [Hc HO Hat]
  · isplitr; · iapply (inv_bar I K c); iexact HR
    isplitl [Hc]; · iexact Hc
    isplitl [HO]; · iexact HO
    isplitr; · iapply (mayWait_owing c (.reg barS) 1 6 (fun u => le_of_eq (lv_bar c u)) (by decide) (.inr (by decide))); iexact Hlev
    iexact Hat
  iintro ⟨HO, Hat, -, Hpay⟩
  ihave Hp := (Entails.of_eq (rest_bar I c)) $$ Hpay
  icases Hp with ⟨-, Hp⟩
  imod (Rounds.cell_close ER (ringRd I) (Set.mem_univ (K (c, 0))) (fun h => h) (R := 0 + 1) (duties_later I (barCell c))) $$ [Hat] with Hz
  · isplitr; · iapply (inv_bar I K c); iexact HR
    iexact Hat
  iapply Hk
  isplitl [HO]; · iexists _; iexact HO
  isplitl [Hp]; · iexact Hp
  iexact Hz

end Cert.RingProof
-- ==== Proof.Pays.lean ====
module

public import proofs.«01_k».proof.Proof.Vals
public import Idealize.ShloMosaic.Lib.Pipeline.Value

@[expose] public section

/-! # The values the kernel stores, from what it has loaded -/

noncomputable section

namespace Cert.RingProof

open Cert.KernelIdeal Cert.KernelIdeal.Gen
open Idealize.ShloMosaic Idealize.ShloMosaic.ValueIdx

variable {F : FTy → Type} [FloatOps F] [Named F]

/-- What a load of batch entry `b` of a block reads, from a block and from a slot. -/
def xLoad (X : Vec F S2x512x1024 .bf16) (b : Fin 2) : Vec F S1x512x1024 .bf16 := fun j => X (ix3 b (j 1) (j 2))
def xLoad4 (X : Vec F S2x512x1024 .bf16) (b : Fin 2) : Vec F S1x1x512x1024 .bf16 := fun j => X (ix3 b (j 2) (j 3))
/-- The same from a slot whose batch entries are tiles. -/
def tLoad4 (t : Vec F S512x1024 .bf16) : Vec F S1x1x512x1024 .bf16 := fun j => t (ix2 (j 2) (j 3))

omit [FloatOps F] [Named F] in
theorem cast_xLoad (X : Vec F S2x512x1024 .bf16) (b : Fin 2) :
    shapeCast S512x1024 (xLoad X b) shapeCasts_S1x512x1024_S512x1024 = xRow X b := by
  funext j
  rw [eq_ix2 j]
  exact congrArg (xLoad X b) (reshapeEquiv_ix2_1ab _ (j 0) (j 1))
omit [FloatOps F] [Named F] in
theorem cast_xLoad4 (X : Vec F S2x512x1024 .bf16) (b : Fin 2) :
    shapeCast S512x1024 (xLoad4 X b) shapeCasts_S1x1x512x1024_S512x1024 = xRow X b := by
  funext j
  rw [eq_ix2 j]
  exact congrArg (xLoad4 X b) (reshapeEquiv_ix2_11ab _ (j 0) (j 1))
omit [FloatOps F] [Named F] in
theorem cast_tLoad4 (t : Vec F S512x1024 .bf16) :
    shapeCast S512x1024 (tLoad4 t) shapeCasts_S1x1x512x1024_S512x1024 = t := by
  funext j
  rw [eq_ix2 j]
  exact congrArg (tLoad4 t) (reshapeEquiv_ix2_11ab _ (j 0) (j 1))

/-! ## Row numbers -/

/-- The device's place on the ring, as the kernel works it out. -/
abbrev w2 (c : Dev nD) : BitVec 32 := Scalar.remsi (Scalar.divsi (Dev.word c) 1#32) 4#32
abbrev io : IVec S512x1024 32 := iota .tc S512x1024 32 [0] iota_S512x1024_d0_w32

/-- Row numbers and frequencies to angles. -/
def toAngle (w : BitVec 32) : FVec F S512x1024 .f32 :=
  mulf (sitofp .f32 (addi (iota .tc S512x1024 32 [0] iota_S512x1024_d0_w32) (broadcast S512x1024 w))) (freq (F := F))
theorem toAngle_eq (w : BitVec 32) : toAngle (F := F) w = angle w := rfl

variable (c : Dev nD)

theorem angle_12 : k0_pay12 (w2 c) k0_pay7 2#32 k0_pay9 k0_pay10 = angle (F := F) (rowWord (c)) := by
  refine congrArg (toAngle (F := F)) (?_ : _ = rowWord (c))
  revert c; decide
theorem angle_23 : k0_pay23 (w2 c) (freq (F := F)) io = angle (F := F) (rowWord (src c 0)) := by
  refine congrArg (toAngle (F := F)) (?_ : _ = rowWord (src c 0))
  revert c; decide
theorem angle_45 : k0_pay45 (w2 c) (freq (F := F)) io = angle (F := F) (rowWord (src c 2)) := by
  refine congrArg (toAngle (F := F)) (?_ : _ = rowWord (src c 2))
  revert c; decide
theorem angle_56 : k0_pay56 (w2 c) (freq (F := F)) io = angle (F := F) (rowWord (src c 0)) := by
  refine congrArg (toAngle (F := F)) (?_ : _ = rowWord (src c 0))
  revert c; decide
theorem angle_69 : k0_pay69 (w2 c) (freq (F := F)) io = angle (F := F) (rowWord (src c 1)) := by
  refine congrArg (toAngle (F := F)) (?_ : _ = rowWord (src c 1))
  revert c; decide
theorem angle_82 : k0_pay82 (w2 c) (freq (F := F)) io = angle (F := F) (rowWord (src c 2)) := by
  refine congrArg (toAngle (F := F)) (?_ : _ = rowWord (src c 2))
  revert c; decide
theorem angle_96 : k0_pay96 (freq (F := F)) io (Scalar.subi (Scalar.addi (w2 c) 4#32) 1#32) = angle (F := F) (rowWord (c)) := by
  refine congrArg (toAngle (F := F)) (?_ : _ = rowWord (c))
  revert c; decide
theorem angle_36 : k0_pay36 (freq (F := F)) (k0_pay35 (w2 c) io) = angle (F := F) (rowWord (src c 1)) := by
  refine congrArg (toAngle (F := F)) (?_ : _ = rowWord (src c 1))
  revert c; decide

/-! ## Tables -/

theorem cos_13 : k0_pay13 (F := F) (w2 c) k0_pay7 2#32 k0_pay9 k0_pay10 = cosT (F := F) (rowWord (c)) :=
  congrArg (fun t => truncf .bf16 (cos t) bitsLt_bf16_f32) (angle_12 c)
theorem sin_14 : k0_pay14 (F := F) (w2 c) k0_pay7 2#32 k0_pay9 k0_pay10 = sin (angle (F := F) (rowWord (c))) :=
  congrArg sin (angle_12 c)
theorem cos_24 : k0_pay24 (w2 c) (freq (F := F)) io = cosT (F := F) (rowWord (src c 0)) :=
  congrArg (fun t => truncf .bf16 (cos t) bitsLt_bf16_f32) (angle_23 c)
theorem sin_25 : k0_pay25 (w2 c) (freq (F := F)) io = sin (angle (F := F) (rowWord (src c 0))) :=
  congrArg sin (angle_23 c)
theorem cos_37 : k0_pay37 (freq (F := F)) (k0_pay35 (w2 c) io) = cosT (F := F) (rowWord (src c 1)) :=
  congrArg (fun t => truncf .bf16 (cos t) bitsLt_bf16_f32) (angle_36 c)
theorem sinT_38 : k0_pay38 k0_pay8 (freq (F := F)) (k0_pay35 (w2 c) io) = sinT (F := F) (rowWord (src c 1)) :=
  congrArg (fun t => truncf .bf16 (mulf (sin t) signT) bitsLt_bf16_f32) (angle_36 c)
theorem cos_46 : k0_pay46 (w2 c) (freq (F := F)) io = cosT (F := F) (rowWord (src c 2)) :=
  congrArg (fun t => truncf .bf16 (cos t) bitsLt_bf16_f32) (angle_45 c)
theorem sinT_47 : k0_pay47 (w2 c) k0_pay8 (freq (F := F)) io = sinT (F := F) (rowWord (src c 2)) :=
  congrArg (fun t => truncf .bf16 (mulf (sin t) signT) bitsLt_bf16_f32) (angle_45 c)
theorem cos_57 : k0_pay57 (w2 c) (freq (F := F)) io = cosT (F := F) (rowWord (src c 0)) :=
  congrArg (fun t => truncf .bf16 (cos t) bitsLt_bf16_f32) (angle_56 c)
theorem sin_58 : k0_pay58 (w2 c) (freq (F := F)) io = sin (angle (F := F) (rowWord (src c 0))) :=
  congrArg sin (angle_56 c)
theorem cos_70 : k0_pay70 (w2 c) (freq (F := F)) io = cosT (F := F) (rowWord (src c 1)) :=
  congrArg (fun t => truncf .bf16 (cos t) bitsLt_bf16_f32) (angle_69 c)
theorem sinT_71 : k0_pay71 (w2 c) k0_pay8 (freq (F := F)) io = sinT (F := F) (rowWord (src c 1)) :=
  congrArg (fun t => truncf .bf16 (mulf (sin t) signT) bitsLt_bf16_f32) (angle_69 c)
theorem cos_83 : k0_pay83 (w2 c) (freq (F := F)) io = cosT (F := F) (rowWord (src c 2)) :=
  congrArg (fun t => truncf .bf16 (cos t) bitsLt_bf16_f32) (angle_82 c)
theorem sin_84 : k0_pay84 (w2 c) (freq (F := F)) io = sin (angle (F := F) (rowWord (src c 2))) :=
  congrArg sin (angle_82 c)
theorem cos_97 : k0_pay97 (freq (F := F)) io (Scalar.subi (Scalar.addi (w2 c) 4#32) 1#32) = cosT (F := F) (rowWord (c)) :=
  congrArg (fun t => truncf .bf16 (cos t) bitsLt_bf16_f32) (angle_96 c)
theorem sinT_98 : k0_pay98 k0_pay8 (freq (F := F)) io (Scalar.subi (Scalar.addi (w2 c) 4#32) 1#32) = sinT (F := F) (rowWord (c)) :=
  congrArg (fun t => truncf .bf16 (mulf (sin t) signT) bitsLt_bf16_f32) (angle_96 c)
theorem sinT_15 (p : BitVec 32) : k0_pay15 k0_pay8 (sin (angle (F := F) p)) (Scalar.ofBits .f32 0xBF800000#32) = sinT (F := F) p := rfl
theorem sinT_27 (p : BitVec 32) : k0_pay27 (sin (angle (F := F) p)) (k0_pay26 k0_pay8) = sinT (F := F) p := rfl
theorem sinT_59 (p : BitVec 32) : k0_pay59 k0_pay8 (sin (angle (F := F) p)) (Scalar.ofBits .f32 0xBF800000#32) (Scalar.ofBits .f32 0x3F800000#32) = sinT (F := F) p := rfl
theorem sinT_85 (p : BitVec 32) : k0_pay85 k0_pay8 (sin (angle (F := F) p)) (Scalar.ofBits .f32 0xBF800000#32) = sinT (F := F) p := rfl

/-! ## Tiles -/

section Tiles
variable (p : BitVec 32) (X : Vec F S2x512x1024 .bf16) (b : Fin 2) (w : Vec F S1024x1024 .bf16)

theorem tile_17 : k0_pay17 k0_pay8 (cosT p) (sin (angle p)) (Scalar.ofBits .f32 0xBF800000#32) (xLoad X b) w = shapeCast S1x1024x512 (kTile (xRow X b) w p) shapeCasts_S1024x512_S1x1024x512 :=
  congrArg₂ (fun x u => shapeCast S1x1024x512 (kTile (x) u p) shapeCasts_S1024x512_S1x1024x512) (cast_xLoad X b) (shapeCast_self w shapeCasts_S1024x1024_S1024x1024)
theorem tile_18 : k0_pay18 (xLoad X b) w = shapeCast S1x512x1024 (vTile (xRow X b) w) shapeCasts_S512x1024_S1x512x1024 :=
  congrArg₂ (fun x u => shapeCast S1x512x1024 (vTile (x) u) shapeCasts_S512x1024_S1x512x1024) (cast_xLoad X b) (shapeCast_self w shapeCasts_S1024x1024_S1024x1024)
theorem tile_21 : k0_pay21 k0_pay8 (cosT p) (sinT p) (k0_pay19 (xLoad X b)) (k0_pay20 w) (constant S512x1024 .f32 0x00000000#32) = shapeCast S1x1024x512 (kTile (xRow X b) w p) shapeCasts_S1024x512_S1x1024x512 :=
  congrArg₂ (fun x u => shapeCast S1x1024x512 (kTile (x) u p) shapeCasts_S1024x512_S1x1024x512) (cast_xLoad X b) (shapeCast_self w shapeCasts_S1024x1024_S1024x1024)
theorem tile_22 : k0_pay22 (k0_pay19 (xLoad X b)) w = shapeCast S1x512x1024 (vTile (xRow X b) w) shapeCasts_S512x1024_S1x512x1024 :=
  congrArg₂ (fun x u => shapeCast S1x512x1024 (vTile (x) u) shapeCasts_S512x1024_S1x512x1024) (cast_xLoad X b) (shapeCast_self w shapeCasts_S1024x1024_S1024x1024)
theorem tile_29 : k0_pay29 k0_pay8 (cosT p) (sin (angle p)) (k0_pay26 k0_pay8) (xLoad4 X b) w = shapeCast S1x1024x512 (kTile (xRow X b) w p) shapeCasts_S1024x512_S1x1024x512 :=
  congrArg₂ (fun x u => shapeCast S1x1024x512 (kTile (x) u p) shapeCasts_S1024x512_S1x1024x512) (cast_xLoad4 X b) (shapeCast_self w shapeCasts_S1024x1024_S1024x1024)
theorem tile_30 : k0_pay30 (xLoad4 X b) w = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_33 : k0_pay33 k0_pay8 (cosT p) (sinT p) (k0_pay32 (xLoad4 X b) w) = shapeCast S1x1024x512 (kTile (xRow X b) w p) shapeCasts_S1024x512_S1x1024x512 :=
  congrArg₂ (fun x u => shapeCast S1x1024x512 (kTile (x) u p) shapeCasts_S1024x512_S1x1024x512) (cast_xLoad4 X b) (shapeCast_self w shapeCasts_S1024x1024_S1024x1024)
theorem tile_34 : k0_pay34 (k0_pay31 (xLoad4 X b)) w = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_40 : k0_pay40 k0_pay8 (freq (F := F)) (k0_pay35 (w2 c) io) (xLoad4 X b) w
    = shapeCast S1x1024x512 (kTile (xRow X b) w (rowWord (src c 1))) shapeCasts_S1024x512_S1x1024x512 := by
  have h1 := cos_37 (F := F) c
  have h2 := sinT_38 (F := F) c
  unfold k0_pay40
  simp only [h1, h2]
  exact congrArg₂ (fun x u => shapeCast S1x1024x512 (kTile x u (rowWord (src c 1))) shapeCasts_S1024x512_S1x1024x512)
    (cast_xLoad4 X b) (shapeCast_self w shapeCasts_S1024x1024_S1024x1024)
theorem tile_41 : k0_pay41 (xLoad4 X b) w = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_43 : k0_pay43 k0_pay8 (cosT p) (sinT p) (xLoad4 X b) w = shapeCast S1x1024x512 (kTile (xRow X b) w p) shapeCasts_S1024x512_S1x1024x512 :=
  congrArg₂ (fun x u => shapeCast S1x1024x512 (kTile (x) u p) shapeCasts_S1024x512_S1x1024x512) (cast_xLoad4 X b) (shapeCast_self w shapeCasts_S1024x1024_S1024x1024)
theorem tile_44 : k0_pay44 (xLoad4 X b) w = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_49 : k0_pay49 k0_pay8 (cosT p) (sinT p) (xLoad4 X b) w = shapeCast S1x1024x512 (kTile (xRow X b) w p) shapeCasts_S1024x512_S1x1024x512 :=
  congrArg₂ (fun x u => shapeCast S1x1024x512 (kTile (x) u p) shapeCasts_S1024x512_S1x1024x512) (cast_xLoad4 X b) (shapeCast_self w shapeCasts_S1024x1024_S1024x1024)
theorem tile_50 : k0_pay50 (xLoad4 X b) w = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_54 : k0_pay54 k0_pay8 (cosT p) (sinT p) (k0_pay52 (xLoad4 X b) w) = shapeCast S1x1024x512 (kTile (xRow X b) w p) shapeCasts_S1024x512_S1x1024x512 :=
  congrArg₂ (fun x u => shapeCast S1x1024x512 (kTile (x) u p) shapeCasts_S1024x512_S1x1024x512) (cast_xLoad4 X b) (shapeCast_self w shapeCasts_S1024x1024_S1024x1024)
theorem tile_55 : k0_pay55 (k0_pay53 (xLoad4 X b) w) = shapeCast S1x512x1024 (vTile (xRow X b) w) shapeCasts_S512x1024_S1x512x1024 :=
  congrArg₂ (fun x u => shapeCast S1x512x1024 (vTile (x) u) shapeCasts_S512x1024_S1x512x1024) (cast_xLoad4 X b) (shapeCast_self w shapeCasts_S1024x1024_S1024x1024)
theorem tile_60 : k0_pay60 k0_pay8 (cosT p) (sin (angle p)) (Scalar.ofBits .f32 0xBF800000#32) (Scalar.ofBits .f32 0x3F800000#32) (xLoad4 X b) w = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_64 : k0_pay64 k0_pay8 (cosT p) (sinT p) (k0_pay61 (xLoad4 X b) w) (k0_pay62 (xLoad4 X b) w) (k0_pay63 (xLoad4 X b) w) = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_75 : k0_pay75 k0_pay8 (cosT p) (sinT p) (k0_pay72 (xLoad4 X b) w) (k0_pay73 (xLoad4 X b) w) (k0_pay74 (xLoad4 X b) w) = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_76 : k0_pay76 k0_pay8 (cosT p) (sinT p) (xLoad4 X b) w = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_86 : k0_pay86 k0_pay8 (cosT p) (sin (angle p)) (Scalar.ofBits .f32 0xBF800000#32) (xLoad4 X b) w = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_91 : k0_pay91 k0_pay8 (cosT p) (sinT p) (k0_pay87 (xLoad4 X b) w) (k0_pay88 (xLoad4 X b) w) (k0_pay89 (xLoad4 X b) w) (k0_pay90 (xLoad4 X b) w) = shapeCast S1x512x1024 (qTile (xRow X b) w p) shapeCasts_S512x1024_S1x512x1024 :=
  congrArg₂ (fun x u => shapeCast S1x512x1024 (qTile (x) u p) shapeCasts_S512x1024_S1x512x1024) (cast_xLoad4 X b) (shapeCast_self w shapeCasts_S1024x1024_S1024x1024)
theorem tile_100 : k0_pay100 (k0_pay99 k0_pay8 (freq (F := F)) io (Scalar.subi (Scalar.addi (w2 c) 4#32) 1#32) (xLoad X b) w)
    = shapeCast S1x512x1024 (qTile (xRow X b) w (rowWord c)) shapeCasts_S512x1024_S1x512x1024 := by
  have h1 := cos_97 (F := F) c
  have h2 := sinT_98 (F := F) c
  unfold k0_pay100 k0_pay99
  simp only [h1, h2]
  exact congrArg₂ (fun x u => shapeCast S1x512x1024 (qTile x u (rowWord c)) shapeCasts_S512x1024_S1x512x1024)
    (cast_xLoad X b) (shapeCast_self w shapeCasts_S1024x1024_S1024x1024)
theorem tile_101 : k0_pay101 k0_pay8 (cosT p) (sinT p) (xLoad X b) w = shapeCast S1x512x1024 (qTile (xRow X b) w p) shapeCasts_S512x1024_S1x512x1024 :=
  congrArg₂ (fun x u => shapeCast S1x512x1024 (qTile (x) u p) shapeCasts_S512x1024_S1x512x1024) (cast_xLoad X b) (shapeCast_self w shapeCasts_S1024x1024_S1024x1024)

end Tiles

/-! ## Sums -/

section Sums
variable (a : FVec F S512x1024 .f32) (t : Vec F S512x1024 .bf16)

/-- The sum received added to the device's own. -/
def addR (a : FVec F S512x1024 .f32) (t : FVec F S512x1024 .bf16) : FVec F S512x1024 .f32 := addf a (extf .f32 t bitsLt_bf16_f32)
def toBf (a : FVec F S512x1024 .f32) : FVec F S512x1024 .bf16 := truncf .bf16 a bitsLt_bf16_f32

theorem sum_67 : k0_pay67 a = shapeCast S1x1x512x1024 (toBf a) shapeCasts_S512x1024_S1x1x512x1024 := rfl
theorem sum_68 : k0_pay68 a = shapeCast S1x1x512x1024 (toBf a) shapeCasts_S512x1024_S1x1x512x1024 := rfl
theorem sum_79 : k0_pay79 a (tLoad4 t) = shapeCast S1x1x512x1024 (toBf (addR a t)) shapeCasts_S512x1024_S1x1x512x1024 :=
  congrArg (fun u => shapeCast S1x1x512x1024 (toBf (addR a u)) shapeCasts_S512x1024_S1x1x512x1024) (cast_tLoad4 t)
theorem sum_81 : k0_pay81 (k0_pay80 a (tLoad4 t)) = shapeCast S1x1x512x1024 (toBf (addR a t)) shapeCasts_S512x1024_S1x1x512x1024 :=
  congrArg (fun u => shapeCast S1x1x512x1024 (toBf (addR a u)) shapeCasts_S512x1024_S1x1x512x1024) (cast_tLoad4 t)
theorem sum_94 : k0_pay94 a (tLoad4 t) = shapeCast S1x1x512x1024 (toBf (addR a t)) shapeCasts_S512x1024_S1x1x512x1024 :=
  congrArg (fun u => shapeCast S1x1x512x1024 (toBf (addR a u)) shapeCasts_S512x1024_S1x1x512x1024) (cast_tLoad4 t)
theorem sum_95 : k0_pay95 a (tLoad4 t) = shapeCast S1x1x512x1024 (toBf (addR a t)) shapeCasts_S512x1024_S1x1x512x1024 :=
  congrArg (fun u => shapeCast S1x1x512x1024 (toBf (addR a u)) shapeCasts_S512x1024_S1x1x512x1024) (cast_tLoad4 t)
theorem sum_1 : k0_pay1 (k0_pay104 a (tLoad4 t)) = shapeCast S1x512x1024 (addR a t) shapeCasts_S512x1024_S1x512x1024 :=
  congrArg (fun u => shapeCast S1x512x1024 (addR a u) shapeCasts_S512x1024_S1x512x1024) (cast_tLoad4 t)
theorem sum_2 : k0_pay2 a (tLoad4 t) = shapeCast S1x512x1024 (addR a t) shapeCasts_S512x1024_S1x512x1024 :=
  congrArg (fun u => shapeCast S1x512x1024 (addR a u) shapeCasts_S512x1024_S1x512x1024) (cast_tLoad4 t)

end Sums

/-! ## One head -/

section Head
variable (acc : FVec F S512x1024 .f32) (k : Vec F S1x128x2048 .bf16) (v : Vec F S1x2048x128 .bf16) (o : Vec F S128x1024 .bf16)
variable (qa qb : Vec F S1x256x128 .bf16)

/-- One head's step from what is loaded for it. -/
def headOf : FVec F S512x1024 .f32 :=
  headStep acc (shapeCast S128x2048 k shapeCasts_S1x128x2048_S128x2048) (shapeCast S2048x128 v shapeCasts_S1x2048x128_S2048x128) o
    (shapeCast S256x128 qa shapeCasts_S1x256x128_S256x128) (shapeCast S256x128 qb shapeCasts_S1x256x128_S256x128)

theorem head_3 : k0_pay3 acc k v o qa qb = headOf acc k v o qa qb :=
  (rfl : _ = headOf acc k v (shapeCast S128x1024 o shapeCasts_S128x1024_S128x1024) qa qb).trans (by rw [shapeCast_self])
theorem head_4 : k0_pay4 acc k v o qa qb = headOf acc k v o qa qb :=
  (rfl : _ = headOf acc k v (shapeCast S128x1024 o shapeCasts_S128x1024_S128x1024) qa qb).trans (by rw [shapeCast_self])
theorem head_5 : k0_pay5 acc k v o qa qb = headOf acc k v o qa qb :=
  (rfl : _ = headOf acc k v (shapeCast S128x1024 o shapeCasts_S128x1024_S128x1024) qa qb).trans (by rw [shapeCast_self])
theorem head_6 : k0_pay6 acc k v o qa qb = headOf acc k v o qa qb :=
  (rfl : _ = headOf acc k v (shapeCast S128x1024 o shapeCasts_S128x1024_S128x1024) qa qb).trans (by rw [shapeCast_self])
theorem head_66 : k0_pay66 acc k v o qa qb = headOf acc k v o qa qb :=
  (rfl : _ = headOf acc k v (shapeCast S128x1024 o shapeCasts_S128x1024_S128x1024) qa qb).trans (by rw [shapeCast_self])
theorem head_78 : k0_pay78 acc k v o qa qb = headOf acc k v o qa qb :=
  (rfl : _ = headOf acc k v (shapeCast S128x1024 o shapeCasts_S128x1024_S128x1024) qa qb).trans (by rw [shapeCast_self])
theorem head_93 : k0_pay93 acc k v o qa qb = headOf acc k v o qa qb :=
  (rfl : _ = headOf acc k v (shapeCast S128x1024 o shapeCasts_S128x1024_S128x1024) qa qb).trans (by rw [shapeCast_self])
theorem head_103 : k0_pay103 acc k v o qa qb = headOf acc k v o qa qb :=
  (rfl : _ = headOf acc k v (shapeCast S128x1024 o shapeCasts_S128x1024_S128x1024) qa qb).trans (by rw [shapeCast_self])

end Head

end Cert.RingProof
-- ==== Proof.Tiles.lean ====
module

public import proofs.«01_k».proof.Proof.Comm
public import proofs.«01_k».proof.Proof.Pays

@[expose] public section

/-! # The kernel's tiles: what has been stored so far, and what a load of it reads -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (c : Dev nD)

/-! ## What has been stored -/

/-- The keys of the listed chunks and batch entries are there. -/
def KOk (T : List (Dev nD × Fin 2)) (g : Vec F S2x1024x2048 .bf16) : Prop :=
  ∀ i, (chunkOf (i 2), (i 0 : Fin 2)) ∈ T → g i = kAll I.X I.Wk c i
def VOk (T : List (Dev nD × Fin 2)) (g : Vec F S2x2048x1024 .bf16) : Prop :=
  ∀ i, (chunkOf (i 1), (i 0 : Fin 2)) ∈ T → g i = vAll I.X I.Wv c i
/-- The queries of chunk `d`, by batch entry. -/
def QOk (d : Dev nD) (T : List (Fin 2)) (g : Vec F S2x512x1024 .bf16) : Prop :=
  ∀ i, (i 0 : Fin 2) ∈ T → g i = qAll I.X I.Wq c d i
/-- What is sent at step `s` from slot `h`. -/
def SOk (s h : ℕ) (T : List (Fin 2)) (g : Vec F S2x2x512x1024 .bf16) : Prop :=
  ∀ i, (i 0).val = h → (i 1 : Fin 2) ∈ T → g i = sbAll I s c i
def OOk (T : List (Fin 2)) (g : Vec F S2x512x1024 .f32) : Prop :=
  ∀ i, (i 0 : Fin 2) ∈ T → g i = outAt I c i

def kH (T : List (Dev nD × Fin 2)) : sProp 𝕄 := holds (kM.view.loc (c : Thread nD τ)) kM.view.set (KOk I c T)
def vH (T : List (Dev nD × Fin 2)) : sProp 𝕄 := holds (vM.view.loc (c : Thread nD τ)) vM.view.set (VOk I c T)
def qH (d : Dev nD) (T : List (Fin 2)) : sProp 𝕄 := holds (qM.view.loc (c : Thread nD τ)) qM.view.set (QOk I c d T)
def sH (s h : ℕ) (T : List (Fin 2)) : sProp 𝕄 := holds (sbM.view.loc (c : Thread nD τ)) (slotSet 2 h) (SOk I c s h T)
def oH (T : List (Fin 2)) : sProp 𝕄 := holds (outM.view.loc (c : Thread nD τ)) outM.view.set (OOk I c T)

/-- A weight block, and the part of `x` that stays while a copy reads it. -/
def wP (M : Memref sig .tc .vmem S1024x1024 .bf16) (W : Buf (Elt F) (M.view.loc (c : Thread nD τ))) : sProp 𝕄 :=
  M.view.loc (c : Thread nD τ) ↦[M.view.set]{fullShare} W

omit [FloatOps F] [Named F] in
theorem cast3 {e : EltTy} {a b : ℕ} (t : Vec F (⟨2, ![a, b]⟩ : Shape) e) (h : (⟨2, ![a, b]⟩ : Shape).ShapeCasts ⟨3, ![1, a, b]⟩)
    (j : (⟨3, ![1, a, b]⟩ : Shape).Idx) : shapeCast ⟨3, ![1, a, b]⟩ t h j = t (ix2 (j 1) (j 2)) := by
  refine (shapeCast_addUnit_apply ![a, b] t h j).trans (congrArg t ?_)
  funext x
  match x with
  | ⟨0, _⟩ => rfl
  | ⟨1, _⟩ => rfl

omit [FloatOps F] [Named F] in
theorem cast4 {e : EltTy} {a b : ℕ} (t : Vec F (⟨2, ![a, b]⟩ : Shape) e) (h : (⟨2, ![a, b]⟩ : Shape).ShapeCasts ⟨4, ![1, 1, a, b]⟩)
    (j : (⟨4, ![1, 1, a, b]⟩ : Shape).Idx) : shapeCast ⟨4, ![1, 1, a, b]⟩ t h j = t (ix2 (j 2) (j 3)) := by
  unfold shapeCast
  refine congrArg t ?_
  have h1 : (⟨2, ![a, b]⟩ : Shape).numel = (⟨4, ![1, 1, a, b]⟩ : Shape).numel := by simp [Shape.numel, Fin.prod_univ_succ]
  have h0 : (j 0 : Fin 1) = ⟨0, Nat.one_pos⟩ := Subsingleton.elim (α := Fin 1) _ _
  have h0' : (j 1 : Fin 1) = ⟨0, Nat.one_pos⟩ := Subsingleton.elim (α := Fin 1) _ _
  have h3 : Shape.reshapeEquiv h1 (ix2 (n0 := a) (n1 := b) (j 2) (j 3)) = j := by
    refine (reshapeEquiv_ix2_11ab h1 (j 2) (j 3)).trans ?_
    refine Eq.trans ?_ (eq_ix4 (n0 := 1) (n1 := 1) (n2 := a) (n3 := b) j).symm
    exact congrArg₂ (fun (x y : Fin 1) => ix4 x y (j 2) (j 3)) h0.symm h0'.symm
  refine (congrArg (Shape.reshapeEquiv _) h3.symm).trans ?_
  rw [Shape.reshapeEquiv_reshapeEquiv, Shape.reshapeEquiv_self]

omit [FloatOps F] [Named F] in
theorem castV {e : EltTy} (t : Vec F S512x1024 e) (j : S1x512x1024.Idx) :
    shapeCast S1x512x1024 t shapeCasts_S512x1024_S1x512x1024 j = t (ix2 (j 1) (j 2)) := cast3 (F := F) (e := e) (a := 512) (b := 1024) t _ j
omit [FloatOps F] [Named F] in
theorem castK {e : EltTy} (t : Vec F S1024x512 e) (j : S1x1024x512.Idx) :
    shapeCast S1x1024x512 t shapeCasts_S1024x512_S1x1024x512 j = t (ix2 (j 1) (j 2)) := cast3 (F := F) (e := e) (a := 1024) (b := 512) t _ j
omit [FloatOps F] [Named F] in
theorem castS {e : EltTy} (t : Vec F S512x1024 e) (j : S1x1x512x1024.Idx) :
    shapeCast S1x1x512x1024 t shapeCasts_S512x1024_S1x1x512x1024 j = t (ix2 (j 2) (j 3)) := cast4 (F := F) (e := e) (a := 512) (b := 1024) t _ j

/-! ## A tile stored -/

/-- A dead load and a store of the same rectangle. -/
theorem wp_put {sp : CoreSpace} {sh : Shape} {e : EltTy} (M : Memref sig .tc sp sh e) {α : Type} {Q : α → sProp 𝕄} {r : Rect sh}
    {hl : M.view.LoadsAt r.toLoadRect} {w : r.shape.Idx → Elt F e} {hx : (M.access r).Stores Finset.univ}
    {hm : (Finset.univ : Finset r.shape.Idx) = Finset.univ ∨ ∀ a, r.stride a = 1} {k : PUnit → Prog (TpuEff nD τ sig (Elt F) Λ₀ .tc) α}
    {P : Buf (Elt F) (M.view.loc (c : Thread nD τ)) → Prop} (P' : Buf (Elt F) (M.view.loc (c : Thread nD τ)) → Prop)
    (hP : ∀ g, P g → P' ((M.access r).write (Elt F) g w Finset.univ)) :
    holds (M.view.loc (c : Thread nD τ)) M.view.set P
      ⊢ iprop((holds (M.view.loc (c : Thread nD τ)) M.view.set P' -∗ wp frame (wpE (defs₀ (F := F)) 𝒱₀ (c : Thread nD τ) none) Set.univ (k ⟨⟩) Q)
          -∗ wp frame (wpE (defs₀ (F := F)) 𝒱₀ (c : Thread nD τ) none) Set.univ
            (.op (.load M r.toLoadRect hl) fun _ => .op (.store M r w Finset.univ hx hm) k) Q) := by
  iintro H Hk
  iapply (wp_load_any c (M.view.setOn_subset_set _)) $$ H
  iintro H
  iapply (wp_store_holds c P' (((M.access r).setOn_subset_set _).trans (M.view.set_slice_subset r)) hP) $$ H
  iexact Hk

/-- Where an element of a tile lies in it. -/
def inK (i : S2x1024x2048.Idx) : S1x1024x512.Idx := ix3 (0 : Fin 1) (i 1 : Fin 1024) (rowOf (i 2))
def inV (i : S2x2048x1024.Idx) : S1x512x1024.Idx := ix3 (0 : Fin 1) (rowOf (i 1)) (i 2 : Fin 1024)
def inQ (i : S2x512x1024.Idx) : S1x512x1024.Idx := ix3 (0 : Fin 1) (i 1 : Fin 512) (i 2 : Fin 1024)
def inS (i : S2x2x512x1024.Idx) : S1x1x512x1024.Idx := ix4 (0 : Fin 1) (0 : Fin 1) (i 2 : Fin 512) (i 3 : Fin 1024)

abbrev kR (off : Fin 3 → ℕ) (inb : ∀ a, off a + S1x1024x512.size a ≤ S2x1024x2048.size a) : Rect S2x1024x2048 :=
  Rect.unit (s := S2x1024x2048) off S1x1024x512.size inb
abbrev vR (off : Fin 3 → ℕ) (inb : ∀ a, off a + S1x512x1024.size a ≤ S2x2048x1024.size a) : Rect S2x2048x1024 :=
  Rect.unit (s := S2x2048x1024) off S1x512x1024.size inb
abbrev qR (off : Fin 3 → ℕ) (inb : ∀ a, off a + S1x512x1024.size a ≤ S2x512x1024.size a) : Rect S2x512x1024 :=
  Rect.unit (s := S2x512x1024) off S1x512x1024.size inb
abbrev sR (off : Fin 4 → ℕ) (inb : ∀ a, off a + S1x1x512x1024.size a ≤ S2x2x512x1024.size a) : Rect S2x2x512x1024 :=
  Rect.unit (s := S2x2x512x1024) off S1x1x512x1024.size inb

theorem kR_in {d : Dev nD} {b : Fin 2} (inb) (i : S2x1024x2048.Idx) (h1 : chunkOf (i 2) = d) (h2 : (i 0 : Fin 2) = b) :
    (kR ![b.val, 0, 512 * d.val] inb).emb (inK i) = i := by
  subst h1 h2
  funext a
  refine Fin.ext ((Rect.emb_apply _ _ _).trans ?_)
  match a with
  | ⟨0, _⟩ => exact (by omega : ∀ n : ℕ, n + 1 * 0 = n) _
  | ⟨1, _⟩ => exact (by omega : ∀ n : ℕ, 0 + 1 * n = n) _
  | ⟨2, _⟩ => exact (by omega : ∀ n : ℕ, 512 * (n / 512) + 1 * (n % 512) = n) _
theorem kR_out {d : Dev nD} {b : Fin 2} (inb) (i : S2x1024x2048.Idx) (h : ¬ (chunkOf (i 2), (i 0 : Fin 2)) = (d, b)) :
    i ∉ (kR ![b.val, 0, 512 * d.val] inb).set := by
  rw [Rect.mem_set_unit]
  intro H
  have H0 : b.val ≤ (i 0).val ∧ (i 0).val < b.val + 1 := H 0
  have H2 : 512 * d.val ≤ (i 2).val ∧ (i 2).val < 512 * d.val + 512 := H 2
  exact h (Prod.ext (Fin.ext (by show (i 2).val / 512 = d.val; omega)) (Fin.ext (by show (i 0).val = b.val; omega)))
theorem vR_in {d : Dev nD} {b : Fin 2} (inb) (i : S2x2048x1024.Idx) (h1 : chunkOf (i 1) = d) (h2 : (i 0 : Fin 2) = b) :
    (vR ![b.val, 512 * d.val, 0] inb).emb (inV i) = i := by
  subst h1 h2
  funext a
  refine Fin.ext ((Rect.emb_apply _ _ _).trans ?_)
  match a with
  | ⟨0, _⟩ => exact (by omega : ∀ n : ℕ, n + 1 * 0 = n) _
  | ⟨1, _⟩ => exact (by omega : ∀ n : ℕ, 512 * (n / 512) + 1 * (n % 512) = n) _
  | ⟨2, _⟩ => exact (by omega : ∀ n : ℕ, 0 + 1 * n = n) _
theorem vR_out {d : Dev nD} {b : Fin 2} (inb) (i : S2x2048x1024.Idx) (h : ¬ (chunkOf (i 1), (i 0 : Fin 2)) = (d, b)) :
    i ∉ (vR ![b.val, 512 * d.val, 0] inb).set := by
  rw [Rect.mem_set_unit]
  intro H
  have H0 : b.val ≤ (i 0).val ∧ (i 0).val < b.val + 1 := H 0
  have H2 : 512 * d.val ≤ (i 1).val ∧ (i 1).val < 512 * d.val + 512 := H 1
  exact h (Prod.ext (Fin.ext (by show (i 1).val / 512 = d.val; omega)) (Fin.ext (by show (i 0).val = b.val; omega)))
theorem qR_in {b : Fin 2} (inb) (i : S2x512x1024.Idx) (h2 : (i 0 : Fin 2) = b) : (qR ![b.val, 0, 0] inb).emb (inQ i) = i := by
  subst h2
  funext a
  refine Fin.ext ((Rect.emb_apply _ _ _).trans ?_)
  match a with
  | ⟨0, _⟩ => exact (by omega : ∀ n : ℕ, n + 1 * 0 = n) _
  | ⟨1, _⟩ => exact (by omega : ∀ n : ℕ, 0 + 1 * n = n) _
  | ⟨2, _⟩ => exact (by omega : ∀ n : ℕ, 0 + 1 * n = n) _
theorem qR_out {b : Fin 2} (inb) (i : S2x512x1024.Idx) (h : ¬ (i 0 : Fin 2) = b) : i ∉ (qR ![b.val, 0, 0] inb).set := by
  rw [Rect.mem_set_unit]
  intro H
  have H0 : b.val ≤ (i 0).val ∧ (i 0).val < b.val + 1 := H 0
  exact h (Fin.ext (by show (i 0).val = b.val; omega))
theorem sR_in {h : ℕ} {b : Fin 2} (inb) (i : S2x2x512x1024.Idx) (h1 : (i 0).val = h) (h2 : (i 1 : Fin 2) = b) :
    (sR ![h, b.val, 0, 0] inb).emb (inS i) = i := by
  subst h1 h2
  funext a
  refine Fin.ext ((Rect.emb_apply _ _ _).trans ?_)
  match a with
  | ⟨0, _⟩ => exact (by omega : ∀ n : ℕ, n + 1 * 0 = n) _
  | ⟨1, _⟩ => exact (by omega : ∀ n : ℕ, n + 1 * 0 = n) _
  | ⟨2, _⟩ => exact (by omega : ∀ n : ℕ, 0 + 1 * n = n) _
  | ⟨3, _⟩ => exact (by omega : ∀ n : ℕ, 0 + 1 * n = n) _
theorem sR_out {h : ℕ} {b : Fin 2} (inb) (i : S2x2x512x1024.Idx) (h2 : ¬ (i 1 : Fin 2) = b) : i ∉ (sR ![h, b.val, 0, 0] inb).set := by
  rw [Rect.mem_set_unit]
  intro H
  have H0 : b.val ≤ (i 1).val ∧ (i 1).val < b.val + 1 := H 1
  exact h2 (Fin.ext (by show (i 1).val = b.val; omega))
theorem sR_sub {h : ℕ} {b : Fin 2} (inb) {i : S2x2x512x1024.Idx} (hi : i ∈ (sR ![h, b.val, 0, 0] inb).set) : i ∈ slotSet 2 h := by
  have : h ≤ (i 0).val ∧ (i 0).val < h + 1 := (Rect.mem_set_unit.mp hi) 0
  exact mem_slotSet.mpr (by omega)

def wrK (R : Rect S2x1024x2048) (g : Vec F S2x1024x2048 .bf16) (w : R.shape.Idx → Elt F .bf16) : Vec F S2x1024x2048 .bf16 :=
  ((Memref.whole cc0_scratch1 : Memref sig .tc _ _ _).access R).write (Elt F) g w Finset.univ
theorem wrK_mem (R : Rect S2x1024x2048) (g : Vec F S2x1024x2048 .bf16) (w : R.shape.Idx → Elt F .bf16) (x : R.shape.Idx) : wrK R g w (R.emb x) = w x :=
  write_whole_mem (b := cc0_scratch1) R g w x
theorem wrK_not (R : Rect S2x1024x2048) (g : Vec F S2x1024x2048 .bf16) (w : R.shape.Idx → Elt F .bf16) {i : S2x1024x2048.Idx} (hi : i ∉ R.set) : wrK R g w i = g i :=
  write_whole_not (b := cc0_scratch1) R g w hi

theorem put_k_ok (T : List (Dev nD × Fin 2)) (d : Dev nD) (b : Fin 2) (inb) (w : S1x1024x512.Idx → Elt F .bf16) (hw : w = shapeCast S1x1024x512 (kTile (xRow (I.X d) b) (I.Wk c) (rowWord d)) shapeCasts_S1024x512_S1x1024x512) (g : Vec F S2x1024x2048 .bf16) (hg : KOk I c T g) :
    KOk I c ((d, b) :: T) (wrK (kR ![b.val, 0, 512 * d.val] inb) g w) := by
  intro i  hi
  by_cases hT : (chunkOf (i 2), (i 0 : Fin 2)) = (d, b)
  · have h1 := congrArg Prod.fst hT
    have h2 := congrArg Prod.snd hT
    dsimp only at h1 h2
    refine (congrArg (wrK (kR ![b.val, 0, 512 * d.val] inb) g w) (kR_in inb i h1 h2).symm).trans ((wrK_mem (kR ![b.val, 0, 512 * d.val] inb) g w (inK i)).trans ?_)
    rw [hw]
    refine (castK (F := F) (e := .bf16) _ _).trans ?_
    subst h1 h2
    rfl
  · exact (wrK_not (kR ![b.val, 0, 512 * d.val] inb) g w (kR_out inb i hT)).trans (hg i  ((List.mem_cons.mp hi).resolve_left hT))
def wrV (R : Rect S2x2048x1024) (g : Vec F S2x2048x1024 .bf16) (w : R.shape.Idx → Elt F .bf16) : Vec F S2x2048x1024 .bf16 :=
  ((Memref.whole cc0_scratch2 : Memref sig .tc _ _ _).access R).write (Elt F) g w Finset.univ
theorem wrV_mem (R : Rect S2x2048x1024) (g : Vec F S2x2048x1024 .bf16) (w : R.shape.Idx → Elt F .bf16) (x : R.shape.Idx) : wrV R g w (R.emb x) = w x :=
  write_whole_mem (b := cc0_scratch2) R g w x
theorem wrV_not (R : Rect S2x2048x1024) (g : Vec F S2x2048x1024 .bf16) (w : R.shape.Idx → Elt F .bf16) {i : S2x2048x1024.Idx} (hi : i ∉ R.set) : wrV R g w i = g i :=
  write_whole_not (b := cc0_scratch2) R g w hi

theorem put_v_ok (T : List (Dev nD × Fin 2)) (d : Dev nD) (b : Fin 2) (inb) (w : S1x512x1024.Idx → Elt F .bf16) (hw : w = shapeCast S1x512x1024 (vTile (xRow (I.X d) b) (I.Wv c)) shapeCasts_S512x1024_S1x512x1024) (g : Vec F S2x2048x1024 .bf16) (hg : VOk I c T g) :
    VOk I c ((d, b) :: T) (wrV (vR ![b.val, 512 * d.val, 0] inb) g w) := by
  intro i  hi
  by_cases hT : (chunkOf (i 1), (i 0 : Fin 2)) = (d, b)
  · have h1 := congrArg Prod.fst hT
    have h2 := congrArg Prod.snd hT
    dsimp only at h1 h2
    refine (congrArg (wrV (vR ![b.val, 512 * d.val, 0] inb) g w) (vR_in inb i h1 h2).symm).trans ((wrV_mem (vR ![b.val, 512 * d.val, 0] inb) g w (inV i)).trans ?_)
    rw [hw]
    refine (castV (F := F) (e := .bf16) _ _).trans ?_
    subst h1 h2
    rfl
  · exact (wrV_not (vR ![b.val, 512 * d.val, 0] inb) g w (vR_out inb i hT)).trans (hg i  ((List.mem_cons.mp hi).resolve_left hT))
def wrQ (R : Rect S2x512x1024) (g : Vec F S2x512x1024 .bf16) (w : R.shape.Idx → Elt F .bf16) : Vec F S2x512x1024 .bf16 :=
  ((Memref.whole cc0_scratch3 : Memref sig .tc _ _ _).access R).write (Elt F) g w Finset.univ
theorem wrQ_mem (R : Rect S2x512x1024) (g : Vec F S2x512x1024 .bf16) (w : R.shape.Idx → Elt F .bf16) (x : R.shape.Idx) : wrQ R g w (R.emb x) = w x :=
  write_whole_mem (b := cc0_scratch3) R g w x
theorem wrQ_not (R : Rect S2x512x1024) (g : Vec F S2x512x1024 .bf16) (w : R.shape.Idx → Elt F .bf16) {i : S2x512x1024.Idx} (hi : i ∉ R.set) : wrQ R g w i = g i :=
  write_whole_not (b := cc0_scratch3) R g w hi

theorem put_q_ok (d : Dev nD) (T : List (Fin 2)) (b : Fin 2) (inb) (w : S1x512x1024.Idx → Elt F .bf16) (hw : w = shapeCast S1x512x1024 (qTile (xRow (I.X d) b) (I.Wq c) (rowWord d)) shapeCasts_S512x1024_S1x512x1024) (g : Vec F S2x512x1024 .bf16) (hg : QOk I c d T g) :
    QOk I c d (b :: T) (wrQ (qR ![b.val, 0, 0] inb) g w) := by
  intro i  hi
  by_cases hT : (i 0 : Fin 2) = b
  · have h2 := hT
    refine (congrArg (wrQ (qR ![b.val, 0, 0] inb) g w) (qR_in inb i h2).symm).trans ((wrQ_mem (qR ![b.val, 0, 0] inb) g w (inQ i)).trans ?_)
    rw [hw]
    refine (castV (F := F) (e := .bf16) _ _).trans ?_
    subst h2
    rfl
  · exact (wrQ_not (qR ![b.val, 0, 0] inb) g w (qR_out inb i hT)).trans (hg i  ((List.mem_cons.mp hi).resolve_left hT))
def wrO (R : Rect S2x512x1024) (g : Vec F S2x512x1024 .f32) (w : R.shape.Idx → Elt F .f32) : Vec F S2x512x1024 .f32 :=
  ((Memref.whole cc0_stg5_0 : Memref sig .tc _ _ _).access R).write (Elt F) g w Finset.univ
theorem wrO_mem (R : Rect S2x512x1024) (g : Vec F S2x512x1024 .f32) (w : R.shape.Idx → Elt F .f32) (x : R.shape.Idx) : wrO R g w (R.emb x) = w x :=
  write_whole_mem (b := cc0_stg5_0) R g w x
theorem wrO_not (R : Rect S2x512x1024) (g : Vec F S2x512x1024 .f32) (w : R.shape.Idx → Elt F .f32) {i : S2x512x1024.Idx} (hi : i ∉ R.set) : wrO R g w i = g i :=
  write_whole_not (b := cc0_stg5_0) R g w hi

theorem put_o_ok (T : List (Fin 2)) (b : Fin 2) (inb) (w : S1x512x1024.Idx → Elt F .f32) (hw : w = shapeCast S1x512x1024 (I.result c b) shapeCasts_S512x1024_S1x512x1024) (g : Vec F S2x512x1024 .f32) (hg : OOk I c T g) :
    OOk I c (b :: T) (wrO (qR ![b.val, 0, 0] inb) g w) := by
  intro i  hi
  by_cases hT : (i 0 : Fin 2) = b
  · have h2 := hT
    refine (congrArg (wrO (qR ![b.val, 0, 0] inb) g w) (qR_in inb i h2).symm).trans ((wrO_mem (qR ![b.val, 0, 0] inb) g w (inQ i)).trans ?_)
    rw [hw]
    refine (castV (F := F) (e := .f32) _ _).trans ?_
    subst h2
    rfl
  · exact (wrO_not (qR ![b.val, 0, 0] inb) g w (qR_out inb i hT)).trans (hg i  ((List.mem_cons.mp hi).resolve_left hT))
def wrS (R : Rect S2x2x512x1024) (g : Vec F S2x2x512x1024 .bf16) (w : R.shape.Idx → Elt F .bf16) : Vec F S2x2x512x1024 .bf16 :=
  ((Memref.whole cc0_scratch4 : Memref sig .tc _ _ _).access R).write (Elt F) g w Finset.univ
theorem wrS_mem (R : Rect S2x2x512x1024) (g : Vec F S2x2x512x1024 .bf16) (w : R.shape.Idx → Elt F .bf16) (x : R.shape.Idx) : wrS R g w (R.emb x) = w x :=
  write_whole_mem (b := cc0_scratch4) R g w x
theorem wrS_not (R : Rect S2x2x512x1024) (g : Vec F S2x2x512x1024 .bf16) (w : R.shape.Idx → Elt F .bf16) {i : S2x2x512x1024.Idx} (hi : i ∉ R.set) : wrS R g w i = g i :=
  write_whole_not (b := cc0_scratch4) R g w hi

theorem put_s_ok (s h : ℕ) (T : List (Fin 2)) (b : Fin 2) (inb) (w : S1x1x512x1024.Idx → Elt F .bf16) (hw : w = shapeCast S1x1x512x1024 (I.sent s c b) shapeCasts_S512x1024_S1x1x512x1024) (g : Vec F S2x2x512x1024 .bf16) (hg : SOk I c s h T g) :
    SOk I c s h (b :: T) (wrS (sR ![h, b.val, 0, 0] inb) g w) := by
  intro i h1 hi
  by_cases hT : (i 1 : Fin 2) = b
  · have h2 := hT
    refine (congrArg (wrS (sR ![h, b.val, 0, 0] inb) g w) (sR_in inb i h1 h2).symm).trans ((wrS_mem (sR ![h, b.val, 0, 0] inb) g w (inS i)).trans ?_)
    rw [hw]
    refine (castS (F := F) (e := .bf16) _ _).trans ?_
    subst h2
    rfl
  · exact (wrS_not (sR ![h, b.val, 0, 0] inb) g w (sR_out inb i hT)).trans (hg i h1 ((List.mem_cons.mp hi).resolve_left hT))

theorem put_k {α : Type} {Q : α → sProp 𝕄} (T : List (Dev nD × Fin 2)) (d : Dev nD) (b : Fin 2) {off : Fin (S2x1024x2048 : Shape).rank → ℕ} (hoff : off = ![b.val, 0, 512 * d.val])
    {inb : ∀ a, off a + S1x1024x512.size a ≤ (S2x1024x2048 : Shape).size a} {hl : kM.view.LoadsAt (Rect.unit (s := S2x1024x2048) off S1x1024x512.size inb).toLoadRect}
    {w : S1x1024x512.Idx → Elt F .bf16} (hw : w = shapeCast S1x1024x512 (kTile (xRow (I.X d) b) (I.Wk c) (rowWord d)) shapeCasts_S1024x512_S1x1024x512)
    {hx : (kM.access (Rect.unit (s := S2x1024x2048) off S1x1024x512.size inb)).Stores Finset.univ}
    {hm : (Finset.univ : Finset (Rect.unit (s := S2x1024x2048) off S1x1024x512.size inb).shape.Idx) = Finset.univ ∨ ∀ a, (Rect.unit (s := S2x1024x2048) off S1x1024x512.size inb).stride a = 1}
    {k : PUnit → Prog (TpuEff nD τ sig (Elt F) Λ₀ .tc) α} :
    kH I c T ⊢ iprop((kH I c ((d, b) :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.load kM (Rect.unit (s := S2x1024x2048) off S1x1024x512.size inb).toLoadRect hl) fun _ =>
          .op (.store kM (Rect.unit (s := S2x1024x2048) off S1x1024x512.size inb) w Finset.univ hx hm) k) Q) := by
  subst hoff
  exact wp_put c kM (KOk I c ((d, b) :: T)) (put_k_ok I c T d b inb w hw)

theorem put_v {α : Type} {Q : α → sProp 𝕄} (T : List (Dev nD × Fin 2)) (d : Dev nD) (b : Fin 2) {off : Fin (S2x2048x1024 : Shape).rank → ℕ} (hoff : off = ![b.val, 512 * d.val, 0])
    {inb : ∀ a, off a + S1x512x1024.size a ≤ (S2x2048x1024 : Shape).size a} {hl : vM.view.LoadsAt (Rect.unit (s := S2x2048x1024) off S1x512x1024.size inb).toLoadRect}
    {w : S1x512x1024.Idx → Elt F .bf16} (hw : w = shapeCast S1x512x1024 (vTile (xRow (I.X d) b) (I.Wv c)) shapeCasts_S512x1024_S1x512x1024)
    {hx : (vM.access (Rect.unit (s := S2x2048x1024) off S1x512x1024.size inb)).Stores Finset.univ}
    {hm : (Finset.univ : Finset (Rect.unit (s := S2x2048x1024) off S1x512x1024.size inb).shape.Idx) = Finset.univ ∨ ∀ a, (Rect.unit (s := S2x2048x1024) off S1x512x1024.size inb).stride a = 1}
    {k : PUnit → Prog (TpuEff nD τ sig (Elt F) Λ₀ .tc) α} :
    vH I c T ⊢ iprop((vH I c ((d, b) :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.load vM (Rect.unit (s := S2x2048x1024) off S1x512x1024.size inb).toLoadRect hl) fun _ =>
          .op (.store vM (Rect.unit (s := S2x2048x1024) off S1x512x1024.size inb) w Finset.univ hx hm) k) Q) := by
  subst hoff
  exact wp_put c vM (VOk I c ((d, b) :: T)) (put_v_ok I c T d b inb w hw)

theorem put_q {α : Type} {Q : α → sProp 𝕄} (d : Dev nD) (T : List (Fin 2)) (b : Fin 2) {off : Fin (S2x512x1024 : Shape).rank → ℕ} (hoff : off = ![b.val, 0, 0])
    {inb : ∀ a, off a + S1x512x1024.size a ≤ (S2x512x1024 : Shape).size a} {hl : qM.view.LoadsAt (Rect.unit (s := S2x512x1024) off S1x512x1024.size inb).toLoadRect}
    {w : S1x512x1024.Idx → Elt F .bf16} (hw : w = shapeCast S1x512x1024 (qTile (xRow (I.X d) b) (I.Wq c) (rowWord d)) shapeCasts_S512x1024_S1x512x1024)
    {hx : (qM.access (Rect.unit (s := S2x512x1024) off S1x512x1024.size inb)).Stores Finset.univ}
    {hm : (Finset.univ : Finset (Rect.unit (s := S2x512x1024) off S1x512x1024.size inb).shape.Idx) = Finset.univ ∨ ∀ a, (Rect.unit (s := S2x512x1024) off S1x512x1024.size inb).stride a = 1}
    {k : PUnit → Prog (TpuEff nD τ sig (Elt F) Λ₀ .tc) α} :
    qH I c d T ⊢ iprop((qH I c d (b :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.load qM (Rect.unit (s := S2x512x1024) off S1x512x1024.size inb).toLoadRect hl) fun _ =>
          .op (.store qM (Rect.unit (s := S2x512x1024) off S1x512x1024.size inb) w Finset.univ hx hm) k) Q) := by
  subst hoff
  exact wp_put c qM (QOk I c d (b :: T)) (put_q_ok I c d T b inb w hw)

theorem put_o {α : Type} {Q : α → sProp 𝕄} (T : List (Fin 2)) (b : Fin 2) {off : Fin (S2x512x1024 : Shape).rank → ℕ} (hoff : off = ![b.val, 0, 0])
    {inb : ∀ a, off a + S1x512x1024.size a ≤ (S2x512x1024 : Shape).size a} {hl : outM.view.LoadsAt (Rect.unit (s := S2x512x1024) off S1x512x1024.size inb).toLoadRect}
    {w : S1x512x1024.Idx → Elt F .f32} (hw : w = shapeCast S1x512x1024 (I.result c b) shapeCasts_S512x1024_S1x512x1024)
    {hx : (outM.access (Rect.unit (s := S2x512x1024) off S1x512x1024.size inb)).Stores Finset.univ}
    {hm : (Finset.univ : Finset (Rect.unit (s := S2x512x1024) off S1x512x1024.size inb).shape.Idx) = Finset.univ ∨ ∀ a, (Rect.unit (s := S2x512x1024) off S1x512x1024.size inb).stride a = 1}
    {k : PUnit → Prog (TpuEff nD τ sig (Elt F) Λ₀ .tc) α} :
    oH I c T ⊢ iprop((oH I c (b :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.load outM (Rect.unit (s := S2x512x1024) off S1x512x1024.size inb).toLoadRect hl) fun _ =>
          .op (.store outM (Rect.unit (s := S2x512x1024) off S1x512x1024.size inb) w Finset.univ hx hm) k) Q) := by
  subst hoff
  exact wp_put c outM (OOk I c (b :: T)) (put_o_ok I c T b inb w hw)

theorem put_s {α : Type} {Q : α → sProp 𝕄} (s h : ℕ) (T : List (Fin 2)) (b : Fin 2) {off : Fin (S2x2x512x1024 : Shape).rank → ℕ} (hoff : off = ![h, b.val, 0, 0])
    {inb : ∀ a, off a + S1x1x512x1024.size a ≤ (S2x2x512x1024 : Shape).size a} {hl : sbM.view.LoadsAt (Rect.unit (s := S2x2x512x1024) off S1x1x512x1024.size inb).toLoadRect}
    {w : S1x1x512x1024.Idx → Elt F .bf16} (hw : w = shapeCast S1x1x512x1024 (I.sent s c b) shapeCasts_S512x1024_S1x1x512x1024)
    {hx : (sbM.access (Rect.unit (s := S2x2x512x1024) off S1x1x512x1024.size inb)).Stores Finset.univ}
    {hm : (Finset.univ : Finset (Rect.unit (s := S2x2x512x1024) off S1x1x512x1024.size inb).shape.Idx) = Finset.univ ∨ ∀ a, (Rect.unit (s := S2x2x512x1024) off S1x1x512x1024.size inb).stride a = 1}
    {k : PUnit → Prog (TpuEff nD τ sig (Elt F) Λ₀ .tc) α} :
    sH I c s h T ⊢ iprop((sH I c s h (b :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.load sbM (Rect.unit (s := S2x2x512x1024) off S1x1x512x1024.size inb).toLoadRect hl) fun _ =>
          .op (.store sbM (Rect.unit (s := S2x2x512x1024) off S1x1x512x1024.size inb) w Finset.univ hx hm) k) Q) := by
  subst hoff
  unfold sH
  iintro H Hk
  iapply (wp_load_any c (fun i hi => sR_sub inb (by obtain ⟨x, hx, rfl⟩ := Finset.mem_map.mp hi; exact hx))) $$ H
  iintro H
  iapply (wp_store_holds c (M := sbM) (r := sR ![h, b.val, 0, 0] inb) (w := w) (P := SOk I c s h T) (SOk I c s h (b :: T)) (fun i hi => sR_sub inb (by obtain ⟨x, _, rfl⟩ := Finset.mem_map.mp hi; exact LoadRect.idx_mem _ x)) (put_s_ok I c s h T b inb w hw)) $$ H
  iexact Hk

end Cert.RingProof
-- ==== Proof.Reads.lean ====
module

public import proofs.«01_k».proof.Proof.Tiles

@[expose] public section

/-! # What the kernel's loads read -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (c : Dev nD)

theorem val0 (x : Fin 1) : x.val = 0 := by have := x.isLt; omega
/-- Lane `x` of head `h`, row `x` of half `e`. -/
def at128 (h : Fin 8) (x : Fin 128) : Fin 1024 := ⟨128 * h.val + x.val, by have h1 := h.isLt; have h2 := x.isLt; omega⟩
def at256 (e : Fin 2) (x : Fin 256) : Fin 512 := ⟨256 * e.val + x.val, by have h1 := e.isLt; have h2 := x.isLt; omega⟩

/-! ## Contents held exactly -/

def wqP : sProp 𝕄 := wqM.view.loc (c : Thread nD τ) ↦[wqM.view.set]{fullShare} I.Wq c
def wkP : sProp 𝕄 := wkM.view.loc (c : Thread nD τ) ↦[wkM.view.set]{fullShare} I.Wk c
def wvP : sProp 𝕄 := wvM.view.loc (c : Thread nD τ) ↦[wvM.view.set]{fullShare} I.Wv c
def woP : sProp 𝕄 := woM.view.loc (c : Thread nD τ) ↦[woM.view.set]{fullShare} I.Wo c
/-- The keys and values, complete; the queries of chunk `d`. -/
def kE : sProp 𝕄 := kM.view.loc (c : Thread nD τ) ↦[kM.view.set]{fullShare} kAll I.X I.Wk c
def vE : sProp 𝕄 := vM.view.loc (c : Thread nD τ) ↦[vM.view.set]{fullShare} vAll I.X I.Wv c
def qE (d : Dev nD) : sProp 𝕄 := qM.view.loc (c : Thread nD τ) ↦[qM.view.set]{fullShare} qAll I.X I.Wq c d

theorem kH_full (T : List (Dev nD × Fin 2)) (hT : ∀ d b, (d, b) ∈ T) : kH I c T ⊢ kE I c := by
  unfold kH kE holds
  iintro ⟨%g, %hg, H⟩
  have e : g = kAll I.X I.Wk c := funext fun i => hg i (hT _ _)
  subst e
  iexact H
theorem vH_full (T : List (Dev nD × Fin 2)) (hT : ∀ d b, (d, b) ∈ T) : vH I c T ⊢ vE I c := by
  unfold vH vE holds
  iintro ⟨%g, %hg, H⟩
  have e : g = vAll I.X I.Wv c := funext fun i => hg i (hT _ _)
  subst e
  iexact H
theorem qH_full (d : Dev nD) : qH I c d [1, 0] ⊢ qE I c d := by
  unfold qH qE holds
  iintro ⟨%g, %hg, H⟩
  have e : g = qAll I.X I.Wq c d := funext fun i => hg i ((by decide : ∀ b : Fin 2, b ∈ [(1 : Fin 2), 0]) _)
  subst e
  iexact H
theorem qE_any (d d' : Dev nD) : qE I c d ⊢ qH I c d' [] := by
  unfold qH qE holds
  iintro H
  iexists qAll I.X I.Wq c d
  isplitr
  · ipureintro; exact fun i hi => absurd hi List.not_mem_nil
  · iexact H
theorem sH_full (s h : ℕ) : sH I c s h [1, 0] ⊢ sbF c h (sbAll I s c) := by
  unfold sH sbF holds
  iintro ⟨%g, %hg, H⟩
  iapply (Entails.of_eq (pointsTo_congr (f := g) (g := sbAll I s c) fun i hi =>
    hg i (mem_slotSet.mp hi) ((by decide : ∀ b : Fin 2, b ∈ [(1 : Fin 2), 0]) _))) $$ H
theorem sbF_any (s h : ℕ) (f : Vec F S2x2x512x1024 .bf16) : sbF c h f ⊢ sH I c s h [] := by
  unfold sH sbF holds
  iintro H
  iexists f
  isplitr
  · ipureintro; exact fun i _ hi => absurd hi List.not_mem_nil
  · iexact H

/-! ## Loads -/

theorem get_x {α : Type} {Q : α → sProp 𝕄} (q : PosShare TreeShare) (b : Fin 2) {off : Fin (S2x512x1024 : Shape).rank → ℕ} (hoff : off = ![b.val, 0, 0])
    {inb : ∀ a, off a + S1x512x1024.size a ≤ (S2x512x1024 : Shape).size a} {hl : xM.view.LoadsAt (Rect.unit (s := S2x512x1024) off S1x512x1024.size inb).toLoadRect}
    {k : (S1x512x1024.Idx → Elt F .bf16) → Prog (TpuEff nD τ sig (Elt F) Λ₀ .tc) α} :
    xP I q c ⊢ iprop((xP I q c -∗ wp frame (wpE (defs₀ (F := F)) 𝒱₀ (c : Thread nD τ) none) Set.univ (k (xLoad (I.X c) b)) Q)
      -∗ wp frame (wpE (defs₀ (F := F)) 𝒱₀ (c : Thread nD τ) none) Set.univ (.op (.load xM (Rect.unit (s := S2x512x1024) off S1x512x1024.size inb).toLoadRect hl) k) Q) := by
  subst hoff
  refine wp_load_val c (M := xM) (r := (Rect.unit (s := S2x512x1024) ![b.val, 0, 0] S1x512x1024.size inb).toLoadRect) (xLoad (I.X c) b) (xM.view.setOn_subset_set _) (funext fun j => ?_)
  refine congrArg (I.X c) (a₂ := ix3 b (j 1) (j 2)) (funext fun a => Fin.ext ?_)
  refine (LoadRect.idx_apply _ j a).trans ?_
  match a with
  | ⟨0, _⟩ => exact (congrArg (fun n => b.val + 1 * n) (val0 (j 0))).trans rfl
  | ⟨1, _⟩ => exact (by omega : ∀ n : ℕ, 0 + 1 * n = n) _
  | ⟨2, _⟩ => exact (by omega : ∀ n : ℕ, 0 + 1 * n = n) _

theorem get_wq {α : Type} {Q : α → sProp 𝕄}  {off : Fin (S1024x1024 : Shape).rank → ℕ} (hoff : off = ![0, 0])
    {inb : ∀ a, off a + S1024x1024.size a ≤ (S1024x1024 : Shape).size a} {hl : wqM.view.LoadsAt (Rect.unit (s := S1024x1024) off S1024x1024.size inb).toLoadRect}
    {k : (S1024x1024.Idx → Elt F .bf16) → Prog (TpuEff nD τ sig (Elt F) Λ₀ .tc) α} :
    wqP I c ⊢ iprop((wqP I c -∗ wp frame (wpE (defs₀ (F := F)) 𝒱₀ (c : Thread nD τ) none) Set.univ (k (I.Wq c)) Q)
      -∗ wp frame (wpE (defs₀ (F := F)) 𝒱₀ (c : Thread nD τ) none) Set.univ (.op (.load wqM (Rect.unit (s := S1024x1024) off S1024x1024.size inb).toLoadRect hl) k) Q) := by
  subst hoff
  refine wp_load_val c (M := wqM) (r := (Rect.unit (s := S1024x1024) ![0, 0] S1024x1024.size inb).toLoadRect) (I.Wq c) (wqM.view.setOn_subset_set _) (funext fun j => ?_)
  refine congrArg (I.Wq c) (a₂ := j) (funext fun a => Fin.ext ?_)
  refine (LoadRect.idx_apply _ j a).trans ?_
  match a with
  | ⟨0, _⟩ => exact (by omega : ∀ n : ℕ, 0 + 1 * n = n) _
  | ⟨1, _⟩ => exact (by omega : ∀ n : ℕ, 0 + 1 * n = n) _

theorem get_wk {α : Type} {Q : α → sProp 𝕄}  {off : Fin (S1024x1024 : Shape).rank → ℕ} (hoff : off = ![0, 0])
    {inb : ∀ a, off a + S1024x1024.size a ≤ (S1024x1024 : Shape).size a} {hl : wkM.view.LoadsAt (Rect.unit (s := S1024x1024) off S1024x1024.size inb).toLoadRect}
    {k : (S1024x1024.Idx → Elt F .bf16) → Prog (TpuEff nD τ sig (Elt F) Λ₀ .tc) α} :
    wkP I c ⊢ iprop((wkP I c -∗ wp frame (wpE (defs₀ (F := F)) 𝒱₀ (c : Thread nD τ) none) Set.univ (k (I.Wk c)) Q)
      -∗ wp frame (wpE (defs₀ (F := F)) 𝒱₀ (c : Thread nD τ) none) Set.univ (.op (.load wkM (Rect.unit (s := S1024x1024) off S1024x1024.size inb).toLoadRect hl) k) Q) := by
  subst hoff
  refine wp_load_val c (M := wkM) (r := (Rect.unit (s := S1024x1024) ![0, 0] S1024x1024.size inb).toLoadRect) (I.Wk c) (wkM.view.setOn_subset_set _) (funext fun j => ?_)
  refine congrArg (I.Wk c) (a₂ := j) (funext fun a => Fin.ext ?_)
  refine (LoadRect.idx_apply _ j a).trans ?_
  match a with
  | ⟨0, _⟩ => exact (by omega : ∀ n : ℕ, 0 + 1 * n = n) _
  | ⟨1, _⟩ => exact (by omega : ∀ n : ℕ, 0 + 1 * n = n) _

theorem get_wv {α : Type} {Q : α → sProp 𝕄}  {off : Fin (S1024x1024 : Shape).rank → ℕ} (hoff : off = ![0, 0])
    {inb : ∀ a, off a + S1024x1024.size a ≤ (S1024x1024 : Shape).size a} {hl : wvM.view.LoadsAt (Rect.unit (s := S1024x1024) off S1024x1024.size inb).toLoadRect}
    {k : (S1024x1024.Idx → Elt F .bf16) → Prog (TpuEff nD τ sig (Elt F) Λ₀ .tc) α} :
    wvP I c ⊢ iprop((wvP I c -∗ wp frame (wpE (defs₀ (F := F)) 𝒱₀ (c : Thread nD τ) none) Set.univ (k (I.Wv c)) Q)
      -∗ wp frame (wpE (defs₀ (F := F)) 𝒱₀ (c : Thread nD τ) none) Set.univ (.op (.load wvM (Rect.unit (s := S1024x1024) off S1024x1024.size inb).toLoadRect hl) k) Q) := by
  subst hoff
  refine wp_load_val c (M := wvM) (r := (Rect.unit (s := S1024x1024) ![0, 0] S1024x1024.size inb).toLoadRect) (I.Wv c) (wvM.view.setOn_subset_set _) (funext fun j => ?_)
  refine congrArg (I.Wv c) (a₂ := j) (funext fun a => Fin.ext ?_)
  refine (LoadRect.idx_apply _ j a).trans ?_
  match a with
  | ⟨0, _⟩ => exact (by omega : ∀ n : ℕ, 0 + 1 * n = n) _
  | ⟨1, _⟩ => exact (by omega : ∀ n : ℕ, 0 + 1 * n = n) _

theorem get_xg {α : Type} {Q : α → sProp 𝕄} (q : PosShare TreeShare) (h : ℕ) (hh : h < 3) (b : Fin 2) {off : Fin (S3x2x512x1024 : Shape).rank → ℕ} (hoff : off = ![h, b.val, 0, 0])
    {inb : ∀ a, off a + S1x1x512x1024.size a ≤ (S3x2x512x1024 : Shape).size a} {hl : xgM.view.LoadsAt (Rect.unit (s := S3x2x512x1024) off S1x1x512x1024.size inb).toLoadRect}
    {k : (S1x1x512x1024.Idx → Elt F .bf16) → Prog (TpuEff nD τ sig (Elt F) Λ₀ .tc) α} :
    xgF c h q (xgAll I c) ⊢ iprop((xgF c h q (xgAll I c) -∗ wp frame (wpE (defs₀ (F := F)) 𝒱₀ (c : Thread nD τ) none) Set.univ (k (xLoad4 (I.X (src c h)) b)) Q)
      -∗ wp frame (wpE (defs₀ (F := F)) 𝒱₀ (c : Thread nD τ) none) Set.univ (.op (.load xgM (Rect.unit (s := S3x2x512x1024) off S1x1x512x1024.size inb).toLoadRect hl) k) Q) := by
  subst hoff
  unfold xgF
  refine wp_load_val c (M := xgM) (r := (Rect.unit (s := S3x2x512x1024) ![h, b.val, 0, 0] S1x1x512x1024.size inb).toLoadRect) (xLoad4 (I.X (src c h)) b) (fun i hi => mem_slotSet.mpr (by
    have hi' : i ∈ (Rect.unit (s := S3x2x512x1024) ![h, b.val, 0, 0] S1x1x512x1024.size inb).set := by
      obtain ⟨x, hx, rfl⟩ := Finset.mem_map.mp hi
      exact hx
    have : h ≤ (i 0).val ∧ (i 0).val < h + 1 := (Rect.mem_set_unit.mp hi') 0
    omega)) (funext fun j => ?_)
  have e : (Rect.unit (s := S3x2x512x1024) ![h, b.val, 0, 0] S1x1x512x1024.size inb).toLoadRect.idx j = ix4 (⟨h, hh⟩ : Fin 3) b (j 2) (j 3) := by
    have h0 := val0 (j 0)
    have h1 := val0 (j 1)
    funext a
    refine Fin.ext ((LoadRect.idx_apply _ j a).trans ?_)
    match a with
    | ⟨0, _⟩ => exact (congrArg (fun n => h + 1 * n) h0).trans rfl
    | ⟨1, _⟩ => exact (congrArg (fun n => b.val + 1 * n) h1).trans rfl
    | ⟨2, _⟩ => exact (by omega : ∀ n : ℕ, 0 + 1 * n = n) _
    | ⟨3, _⟩ => exact (by omega : ∀ n : ℕ, 0 + 1 * n = n) _
  exact congrArg (xgAll I c) e

theorem get_rb {α : Type} {Q : α → sProp 𝕄} (h : ℕ) (hh : h < 3) (b : Fin 2) {off : Fin (S3x2x512x1024 : Shape).rank → ℕ} (hoff : off = ![h, b.val, 0, 0])
    {inb : ∀ a, off a + S1x1x512x1024.size a ≤ (S3x2x512x1024 : Shape).size a} {hl : rbM.view.LoadsAt (Rect.unit (s := S3x2x512x1024) off S1x1x512x1024.size inb).toLoadRect}
    {k : (S1x1x512x1024.Idx → Elt F .bf16) → Prog (TpuEff nD τ sig (Elt F) Λ₀ .tc) α} :
    rbF c h (rbAll I c) ⊢ iprop((rbF c h (rbAll I c) -∗ wp frame (wpE (defs₀ (F := F)) 𝒱₀ (c : Thread nD τ) none) Set.univ (k (tLoad4 (I.sent h (prv c) b))) Q)
      -∗ wp frame (wpE (defs₀ (F := F)) 𝒱₀ (c : Thread nD τ) none) Set.univ (.op (.load rbM (Rect.unit (s := S3x2x512x1024) off S1x1x512x1024.size inb).toLoadRect hl) k) Q) := by
  subst hoff
  unfold rbF
  refine wp_load_val c (M := rbM) (r := (Rect.unit (s := S3x2x512x1024) ![h, b.val, 0, 0] S1x1x512x1024.size inb).toLoadRect) (tLoad4 (I.sent h (prv c) b)) (fun i hi => mem_slotSet.mpr (by
    have hi' : i ∈ (Rect.unit (s := S3x2x512x1024) ![h, b.val, 0, 0] S1x1x512x1024.size inb).set := by
      obtain ⟨x, hx, rfl⟩ := Finset.mem_map.mp hi
      exact hx
    have : h ≤ (i 0).val ∧ (i 0).val < h + 1 := (Rect.mem_set_unit.mp hi') 0
    omega)) (funext fun j => ?_)
  have e : (Rect.unit (s := S3x2x512x1024) ![h, b.val, 0, 0] S1x1x512x1024.size inb).toLoadRect.idx j = ix4 (⟨h, hh⟩ : Fin 3) b (j 2) (j 3) := by
    have h0 := val0 (j 0)
    have h1 := val0 (j 1)
    funext a
    refine Fin.ext ((LoadRect.idx_apply _ j a).trans ?_)
    match a with
    | ⟨0, _⟩ => exact (congrArg (fun n => h + 1 * n) h0).trans rfl
    | ⟨1, _⟩ => exact (congrArg (fun n => b.val + 1 * n) h1).trans rfl
    | ⟨2, _⟩ => exact (by omega : ∀ n : ℕ, 0 + 1 * n = n) _
    | ⟨3, _⟩ => exact (by omega : ∀ n : ℕ, 0 + 1 * n = n) _
  exact congrArg (rbAll I c) e

/-! One head's pieces. -/

/-- What is loaded of them. -/
def kLoad (K : Vec F S2x1024x2048 .bf16) (b : Fin 2) (h : Fin 8) : Vec F S1x128x2048 .bf16 := fun j =>
  K (ix3 b (at128 h (j 1)) (j 2))
def vLoad (V : Vec F S2x2048x1024 .bf16) (b : Fin 2) (h : Fin 8) : Vec F S1x2048x128 .bf16 := fun j =>
  V (ix3 b (j 1) (at128 h (j 2)))
def qLoad (Q : Vec F S2x512x1024 .bf16) (b : Fin 2) (e : Fin 2) (h : Fin 8) : Vec F S1x256x128 .bf16 := fun j =>
  Q (ix3 b (at256 e (j 1))
    (at128 h (j 2)))

theorem headOf_load (acc : FVec F S512x1024 .f32) (K : Vec F S2x1024x2048 .bf16) (V : Vec F S2x2048x1024 .bf16) (W : Vec F S1024x1024 .bf16)
    (Q : Vec F S2x512x1024 .bf16) (b : Fin 2) (h : Fin 8) :
    headOf acc (kLoad K b h) (vLoad V b h) (oHead W h) (qLoad Q b 0 h) (qLoad Q b 1 h)
      = headStep acc (kHead K b h) (vHead V b h) (oHead W h) (qHead Q b 0 h) (qHead Q b 1 h) := by
  have e1 : shapeCast S128x2048 (kLoad K b h) shapeCasts_S1x128x2048_S128x2048 = kHead K b h := by
    funext j; rw [eq_ix2 j]; exact congrArg (kLoad K b h) (reshapeEquiv_ix2_1ab _ (j 0) (j 1))
  have e2 : shapeCast S2048x128 (vLoad V b h) shapeCasts_S1x2048x128_S2048x128 = vHead V b h := by
    funext j; rw [eq_ix2 j]; exact congrArg (vLoad V b h) (reshapeEquiv_ix2_1ab _ (j 0) (j 1))
  have e3 : ∀ e : Fin 2, shapeCast S256x128 (qLoad Q b e h) shapeCasts_S1x256x128_S256x128 = qHead Q b e h := by
    intro e; funext j; rw [eq_ix2 j]; exact congrArg (qLoad Q b e h) (reshapeEquiv_ix2_1ab _ (j 0) (j 1))
  unfold headOf
  exact congr (congr (congr (congr (congrArg (headStep acc) e1) e2) rfl) (e3 0)) (e3 1)

theorem get_k {α : Type} {Q : α → sProp 𝕄} (b : Fin 2) (t : Fin 8) {off : Fin (S2x1024x2048 : Shape).rank → ℕ} (hoff : off = ![b.val, 128 * t.val, 0])
    {inb : ∀ a, off a + S1x128x2048.size a ≤ (S2x1024x2048 : Shape).size a} {hl : kM.view.LoadsAt (Rect.unit (s := S2x1024x2048) off S1x128x2048.size inb).toLoadRect}
    {k : (S1x128x2048.Idx → Elt F .bf16) → Prog (TpuEff nD τ sig (Elt F) Λ₀ .tc) α} :
    kE I c ⊢ iprop((kE I c -∗ wp frame (wpE (defs₀ (F := F)) 𝒱₀ (c : Thread nD τ) none) Set.univ (k (kLoad (kAll I.X I.Wk c) b t)) Q)
      -∗ wp frame (wpE (defs₀ (F := F)) 𝒱₀ (c : Thread nD τ) none) Set.univ (.op (.load kM (Rect.unit (s := S2x1024x2048) off S1x128x2048.size inb).toLoadRect hl) k) Q) := by
  subst hoff
  refine wp_load_val c (M := kM) (r := (Rect.unit (s := S2x1024x2048) ![b.val, 128 * t.val, 0] S1x128x2048.size inb).toLoadRect) (kLoad (kAll I.X I.Wk c) b t) (kM.view.setOn_subset_set _) (funext fun j => ?_)
  refine congrArg (kAll I.X I.Wk c) (a₂ := ix3 b (at128 t (j 1)) (j 2)) (funext fun a => Fin.ext ?_)
  refine (LoadRect.idx_apply _ j a).trans ?_
  match a with
  | ⟨0, _⟩ => exact (congrArg (fun n => b.val + 1 * n) (val0 (j 0))).trans rfl
  | ⟨1, _⟩ => exact (by omega : ∀ m n : ℕ, m + 1 * n = m + n) _ _
  | ⟨2, _⟩ => exact (by omega : ∀ n : ℕ, 0 + 1 * n = n) _

theorem get_v {α : Type} {Q : α → sProp 𝕄} (b : Fin 2) (t : Fin 8) {off : Fin (S2x2048x1024 : Shape).rank → ℕ} (hoff : off = ![b.val, 0, 128 * t.val])
    {inb : ∀ a, off a + S1x2048x128.size a ≤ (S2x2048x1024 : Shape).size a} {hl : vM.view.LoadsAt (Rect.unit (s := S2x2048x1024) off S1x2048x128.size inb).toLoadRect}
    {k : (S1x2048x128.Idx → Elt F .bf16) → Prog (TpuEff nD τ sig (Elt F) Λ₀ .tc) α} :
    vE I c ⊢ iprop((vE I c -∗ wp frame (wpE (defs₀ (F := F)) 𝒱₀ (c : Thread nD τ) none) Set.univ (k (vLoad (vAll I.X I.Wv c) b t)) Q)
      -∗ wp frame (wpE (defs₀ (F := F)) 𝒱₀ (c : Thread nD τ) none) Set.univ (.op (.load vM (Rect.unit (s := S2x2048x1024) off S1x2048x128.size inb).toLoadRect hl) k) Q) := by
  subst hoff
  refine wp_load_val c (M := vM) (r := (Rect.unit (s := S2x2048x1024) ![b.val, 0, 128 * t.val] S1x2048x128.size inb).toLoadRect) (vLoad (vAll I.X I.Wv c) b t) (vM.view.setOn_subset_set _) (funext fun j => ?_)
  refine congrArg (vAll I.X I.Wv c) (a₂ := ix3 b (j 1) (at128 t (j 2))) (funext fun a => Fin.ext ?_)
  refine (LoadRect.idx_apply _ j a).trans ?_
  match a with
  | ⟨0, _⟩ => exact (congrArg (fun n => b.val + 1 * n) (val0 (j 0))).trans rfl
  | ⟨1, _⟩ => exact (by omega : ∀ n : ℕ, 0 + 1 * n = n) _
  | ⟨2, _⟩ => exact (by omega : ∀ m n : ℕ, m + 1 * n = m + n) _ _

theorem get_o {α : Type} {Q : α → sProp 𝕄} (t : Fin 8) {off : Fin (S1024x1024 : Shape).rank → ℕ} (hoff : off = ![128 * t.val, 0])
    {inb : ∀ a, off a + S128x1024.size a ≤ (S1024x1024 : Shape).size a} {hl : woM.view.LoadsAt (Rect.unit (s := S1024x1024) off S128x1024.size inb).toLoadRect}
    {k : (S128x1024.Idx → Elt F .bf16) → Prog (TpuEff nD τ sig (Elt F) Λ₀ .tc) α} :
    woP I c ⊢ iprop((woP I c -∗ wp frame (wpE (defs₀ (F := F)) 𝒱₀ (c : Thread nD τ) none) Set.univ (k (oHead (I.Wo c) t)) Q)
      -∗ wp frame (wpE (defs₀ (F := F)) 𝒱₀ (c : Thread nD τ) none) Set.univ (.op (.load woM (Rect.unit (s := S1024x1024) off S128x1024.size inb).toLoadRect hl) k) Q) := by
  subst hoff
  refine wp_load_val c (M := woM) (r := (Rect.unit (s := S1024x1024) ![128 * t.val, 0] S128x1024.size inb).toLoadRect) (oHead (I.Wo c) t) (woM.view.setOn_subset_set _) (funext fun j => ?_)
  refine congrArg (I.Wo c) (a₂ := ix2 (at128 t (j 0)) (j 1)) (funext fun a => Fin.ext ?_)
  refine (LoadRect.idx_apply _ j a).trans ?_
  match a with
  | ⟨0, _⟩ => exact (by omega : ∀ m n : ℕ, m + 1 * n = m + n) _ _
  | ⟨1, _⟩ => exact (by omega : ∀ n : ℕ, 0 + 1 * n = n) _

theorem get_q {α : Type} {Q : α → sProp 𝕄} (d : Dev nD) (b e : Fin 2) (t : Fin 8) {off : Fin (S2x512x1024 : Shape).rank → ℕ} (hoff : off = ![b.val, 256 * e.val, 128 * t.val])
    {inb : ∀ a, off a + S1x256x128.size a ≤ (S2x512x1024 : Shape).size a} {hl : qM.view.LoadsAt (Rect.unit (s := S2x512x1024) off S1x256x128.size inb).toLoadRect}
    {k : (S1x256x128.Idx → Elt F .bf16) → Prog (TpuEff nD τ sig (Elt F) Λ₀ .tc) α} :
    qE I c d ⊢ iprop((qE I c d -∗ wp frame (wpE (defs₀ (F := F)) 𝒱₀ (c : Thread nD τ) none) Set.univ (k (qLoad (qAll I.X I.Wq c d) b e t)) Q)
      -∗ wp frame (wpE (defs₀ (F := F)) 𝒱₀ (c : Thread nD τ) none) Set.univ (.op (.load qM (Rect.unit (s := S2x512x1024) off S1x256x128.size inb).toLoadRect hl) k) Q) := by
  subst hoff
  refine wp_load_val c (M := qM) (r := (Rect.unit (s := S2x512x1024) ![b.val, 256 * e.val, 128 * t.val] S1x256x128.size inb).toLoadRect) (qLoad (qAll I.X I.Wq c d) b e t) (qM.view.setOn_subset_set _) (funext fun j => ?_)
  refine congrArg (qAll I.X I.Wq c d) (a₂ := ix3 b (at256 e (j 1)) (at128 t (j 2))) (funext fun a => Fin.ext ?_)
  refine (LoadRect.idx_apply _ j a).trans ?_
  match a with
  | ⟨0, _⟩ => exact (congrArg (fun n => b.val + 1 * n) (val0 (j 0))).trans rfl
  | ⟨1, _⟩ => exact (by omega : ∀ m n : ℕ, m + 1 * n = m + n) _ _
  | ⟨2, _⟩ => exact (by omega : ∀ m n : ℕ, m + 1 * n = m + n) _ _

end Cert.RingProof
-- ==== Proof.Heads.lean ====
module

public import proofs.«01_k».proof.Proof.Reads

@[expose] public section

/-! # The four loops over the heads -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (c : Dev nD)

/-- The sums before head `n`. -/
abbrev sums (d : Dev nD) (b : Fin 2) (n : ℕ) : FVec F S512x1024 .f32 :=
  headSum (kAll I.X I.Wk c) (vAll I.X I.Wv c) (I.Wo c) (qAll I.X I.Wq c d) b n

theorem sums_succ (d : Dev nD) (b : Fin 2) (t : Fin 8) :
    headOf (sums I c d b t.val) (kLoad (kAll I.X I.Wk c) b t) (vLoad (vAll I.X I.Wv c) b t) (oHead (I.Wo c) t)
      (qLoad (qAll I.X I.Wq c d) b 0 t) (qLoad (qAll I.X I.Wq c d) b 1 t) = sums I c d b (t.val + 1) := by
  rw [headOf_load]
  show _ = headSum _ _ _ _ _ (t.val + 1)
  rw [headSum, dif_pos t.isLt]

/-- What a loop holds. -/
def loopR (d : Dev nD) : sProp 𝕄 := iprop(kE I c ∗ vE I c ∗ woP I c ∗ qE I c d)
def loopI (d : Dev nD) (n : ℕ) (acc : FVec F S512x1024 .f32 × FVec F S512x1024 .f32) : sProp 𝕄 :=
  iprop(⌜acc = (sums I c d 0 n, sums I c d 1 n)⌝ ∗ loopR I c d)

theorem trips1 : k0_t1_loop.trips = 8 := by decide +kernel

theorem trip1 (d : Dev nD) (d0 : Dev nD) (v13 : BitVec 32) (v65 : IVec S512x1024 1) (v507 v513 v542 v545 v548 : FVec F S512x1024 .bf16) (t : Fin k0_t1_loop.trips) (acc : FVec F S512x1024 .f32 × FVec F S512x1024 .f32) :
    loopI I c d t.val acc ⊢ wp frame (wpE (defs₀ (F := F)) 𝒱₀ (c : Thread nD τ) none) Set.univ
      (k0_t1_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 d0 v13 v65 v507 v513 v542 v545 v548 t acc) (loopI I c d (t.val + 1)) := by
  unfold loopI loopR
  iintro ⟨%hacc, HK, HV, HW, HQ⟩
  subst hacc
  have ht : t.val < 8 := trips1 ▸ t.isLt
  unfold k0_t1_body
  simp only [k0_part1_eq_skeleton]
  unfold k0_part1_skel
  simp only [Prog.lift, Prog.bind_op, Prog.bind_ret, Prog.pure_eq_ret]
  iapply (get_k I c 0 ⟨t.val, ht⟩ (k0_off13_eq t)) $$ HK; iintro HK
  iapply (get_v I c 0 ⟨t.val, ht⟩ (k0_off14_eq t)) $$ HV; iintro HV
  iapply (get_o I c ⟨t.val, ht⟩ (k0_off15_eq t)) $$ HW; iintro HW
  iapply (get_q I c d 0 0 ⟨t.val, ht⟩ (k0_off16_eq t)) $$ HQ; iintro HQ
  iapply (get_q I c d 0 1 ⟨t.val, ht⟩ (k0_off17_eq t)) $$ HQ; iintro HQ
  iapply (get_k I c 1 ⟨t.val, ht⟩ (k0_off18_eq t)) $$ HK; iintro HK
  iapply (get_v I c 1 ⟨t.val, ht⟩ (k0_off19_eq t)) $$ HV; iintro HV
  iapply (get_o I c ⟨t.val, ht⟩ (k0_off15_eq t)) $$ HW; iintro HW
  iapply (get_q I c d 1 0 ⟨t.val, ht⟩ (k0_off20_eq t)) $$ HQ; iintro HQ
  iapply (get_q I c d 1 1 ⟨t.val, ht⟩ (k0_off21_eq t)) $$ HQ; iintro HQ
  rw [wp_ret]
  imodintro
  isplitr
  · ipureintro
    exact congrArg₂ Prod.mk ((head_3 _ _ _ _ _ _).trans (sums_succ I c d 0 ⟨t.val, ht⟩))
      ((head_66 _ _ _ _ _ _).trans (sums_succ I c d 1 ⟨t.val, ht⟩))
  · isplitl [HK]; · iexact HK
    isplitl [HV]; · iexact HV
    isplitl [HW]; · iexact HW
    iexact HQ

theorem wp_loop1 (d : Dev nD) (d0 : Dev nD) (v13 : BitVec 32) (v65 : IVec S512x1024 1) (v507 v513 v542 v545 v548 : FVec F S512x1024 .bf16) {α : Type} {Q : α → sProp 𝕄}
    {kk : FVec F S512x1024 .f32 × FVec F S512x1024 .f32 → Prog (TpuEff nD τ sig (Elt F) Λ₀ .tc) α} :
    loopR I c d ⊢ iprop((loopR I c d -∗ wp frame (wpE (defs₀ (F := F)) 𝒱₀ (c : Thread nD τ) none) Set.univ (kk (I.part c d 0, I.part c d 1)) Q)
      -∗ wp frame (wpE (defs₀ (F := F)) 𝒱₀ (c : Thread nD τ) none) Set.univ
        (Scf.Loop.for k0_t1_loop k0_t1_ok (k0_pay65 (F := F), k0_pay65 (F := F)) (k0_t1_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 d0 v13 v65 v507 v513 v542 v545 v548) >>= kk) Q) := by
  iintro H Hk
  have h0 : loopR I c d ⊢ loopI I c d 0 (k0_pay65 (F := F), k0_pay65 (F := F)) := by
    unfold loopI
    iintro H
    isplitr
    · ipureintro; rfl
    · iexact H
  ihave H := h0 $$ H
  iapply (Scf.wp_for_bind frame (wpE (defs₀ (F := F)) 𝒱₀ (c : Thread nD τ) none) Set.univ _ _ _ k0_t1_ok _ _ (loopI I c d)
    (trip1 I c d d0 v13 v65 v507 v513 v542 v545 v548)) $$ H
  iintro %acc H
  have e : loopI I c d (Scf.trips k0_t1_loop.lb k0_t1_loop.ub k0_t1_loop.st) acc ⊢ iprop(⌜acc = (I.part c d 0, I.part c d 1)⌝ ∗ loopR I c d) := by
    rw [show Scf.trips k0_t1_loop.lb k0_t1_loop.ub k0_t1_loop.st = 8 from trips1]
    exact BI.Entails.refl _
  ihave H := e $$ H
  icases H with ⟨%h, H⟩
  subst h
  iapply Hk $$ H

theorem trips2 : k0_t2_loop.trips = 8 := by decide +kernel

theorem trip2 (d : Dev nD) (v13 : BitVec 32) (v65 : IVec S512x1024 1) (v596 v602 v610 v613 v616 : FVec F S512x1024 .bf16) (t : Fin k0_t2_loop.trips) (acc : FVec F S512x1024 .f32 × FVec F S512x1024 .f32) :
    loopI I c d t.val acc ⊢ wp frame (wpE (defs₀ (F := F)) 𝒱₀ (c : Thread nD τ) none) Set.univ
      (k0_t2_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v596 v602 v610 v613 v616 t acc) (loopI I c d (t.val + 1)) := by
  unfold loopI loopR
  iintro ⟨%hacc, HK, HV, HW, HQ⟩
  subst hacc
  have ht : t.val < 8 := trips2 ▸ t.isLt
  unfold k0_t2_body
  simp only [k0_part2_eq_skeleton]
  unfold k0_part2_skel
  simp only [Prog.lift, Prog.bind_op, Prog.bind_ret, Prog.pure_eq_ret]
  iapply (get_k I c 0 ⟨t.val, ht⟩ (k0_off22_eq t)) $$ HK; iintro HK
  iapply (get_v I c 0 ⟨t.val, ht⟩ (k0_off23_eq t)) $$ HV; iintro HV
  iapply (get_o I c ⟨t.val, ht⟩ (k0_off24_eq t)) $$ HW; iintro HW
  iapply (get_q I c d 0 0 ⟨t.val, ht⟩ (k0_off25_eq t)) $$ HQ; iintro HQ
  iapply (get_q I c d 0 1 ⟨t.val, ht⟩ (k0_off26_eq t)) $$ HQ; iintro HQ
  iapply (get_k I c 1 ⟨t.val, ht⟩ (k0_off27_eq t)) $$ HK; iintro HK
  iapply (get_v I c 1 ⟨t.val, ht⟩ (k0_off28_eq t)) $$ HV; iintro HV
  iapply (get_o I c ⟨t.val, ht⟩ (k0_off24_eq t)) $$ HW; iintro HW
  iapply (get_q I c d 1 0 ⟨t.val, ht⟩ (k0_off29_eq t)) $$ HQ; iintro HQ
  iapply (get_q I c d 1 1 ⟨t.val, ht⟩ (k0_off30_eq t)) $$ HQ; iintro HQ
  rw [wp_ret]
  imodintro
  isplitr
  · ipureintro
    exact congrArg₂ Prod.mk ((head_4 _ _ _ _ _ _).trans (sums_succ I c d 0 ⟨t.val, ht⟩))
      ((head_78 _ _ _ _ _ _).trans (sums_succ I c d 1 ⟨t.val, ht⟩))
  · isplitl [HK]; · iexact HK
    isplitl [HV]; · iexact HV
    isplitl [HW]; · iexact HW
    iexact HQ

theorem wp_loop2 (d : Dev nD) (v13 : BitVec 32) (v65 : IVec S512x1024 1) (v596 v602 v610 v613 v616 : FVec F S512x1024 .bf16) {α : Type} {Q : α → sProp 𝕄}
    {kk : FVec F S512x1024 .f32 × FVec F S512x1024 .f32 → Prog (TpuEff nD τ sig (Elt F) Λ₀ .tc) α} :
    loopR I c d ⊢ iprop((loopR I c d -∗ wp frame (wpE (defs₀ (F := F)) 𝒱₀ (c : Thread nD τ) none) Set.univ (kk (I.part c d 0, I.part c d 1)) Q)
      -∗ wp frame (wpE (defs₀ (F := F)) 𝒱₀ (c : Thread nD τ) none) Set.univ
        (Scf.Loop.for k0_t2_loop k0_t2_ok (k0_pay77 (F := F), k0_pay77 (F := F)) (k0_t2_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v596 v602 v610 v613 v616) >>= kk) Q) := by
  iintro H Hk
  have h0 : loopR I c d ⊢ loopI I c d 0 (k0_pay77 (F := F), k0_pay77 (F := F)) := by
    unfold loopI
    iintro H
    isplitr
    · ipureintro; rfl
    · iexact H
  ihave H := h0 $$ H
  iapply (Scf.wp_for_bind frame (wpE (defs₀ (F := F)) 𝒱₀ (c : Thread nD τ) none) Set.univ _ _ _ k0_t2_ok _ _ (loopI I c d)
    (trip2 I c d v13 v65 v596 v602 v610 v613 v616)) $$ H
  iintro %acc H
  have e : loopI I c d (Scf.trips k0_t2_loop.lb k0_t2_loop.ub k0_t2_loop.st) acc ⊢ iprop(⌜acc = (I.part c d 0, I.part c d 1)⌝ ∗ loopR I c d) := by
    rw [show Scf.trips k0_t2_loop.lb k0_t2_loop.ub k0_t2_loop.st = 8 from trips2]
    exact BI.Entails.refl _
  ihave H := e $$ H
  icases H with ⟨%h, H⟩
  subst h
  iapply Hk $$ H

theorem trips3 : k0_t3_loop.trips = 8 := by decide +kernel

theorem trip3 (d : Dev nD) (v13 : BitVec 32) (v65 : IVec S512x1024 1) (v707 v713 v742 v745 : FVec F S512x1024 .bf16) (v746 : FVec F S512x1 .bf16) (v747 : FVec F S512x1023 .bf16) (t : Fin k0_t3_loop.trips) (acc : FVec F S512x1024 .f32 × FVec F S512x1024 .f32) :
    loopI I c d t.val acc ⊢ wp frame (wpE (defs₀ (F := F)) 𝒱₀ (c : Thread nD τ) none) Set.univ
      (k0_t3_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v707 v713 v742 v745 v746 v747 t acc) (loopI I c d (t.val + 1)) := by
  unfold loopI loopR
  iintro ⟨%hacc, HK, HV, HW, HQ⟩
  subst hacc
  have ht : t.val < 8 := trips3 ▸ t.isLt
  unfold k0_t3_body
  simp only [k0_part3_eq_skeleton]
  unfold k0_part3_skel
  simp only [Prog.lift, Prog.bind_op, Prog.bind_ret, Prog.pure_eq_ret]
  iapply (get_k I c 0 ⟨t.val, ht⟩ (k0_off31_eq t)) $$ HK; iintro HK
  iapply (get_v I c 0 ⟨t.val, ht⟩ (k0_off32_eq t)) $$ HV; iintro HV
  iapply (get_o I c ⟨t.val, ht⟩ (k0_off33_eq t)) $$ HW; iintro HW
  iapply (get_q I c d 0 0 ⟨t.val, ht⟩ (k0_off34_eq t)) $$ HQ; iintro HQ
  iapply (get_q I c d 0 1 ⟨t.val, ht⟩ (k0_off35_eq t)) $$ HQ; iintro HQ
  iapply (get_k I c 1 ⟨t.val, ht⟩ (k0_off36_eq t)) $$ HK; iintro HK
  iapply (get_v I c 1 ⟨t.val, ht⟩ (k0_off37_eq t)) $$ HV; iintro HV
  iapply (get_o I c ⟨t.val, ht⟩ (k0_off33_eq t)) $$ HW; iintro HW
  iapply (get_q I c d 1 0 ⟨t.val, ht⟩ (k0_off38_eq t)) $$ HQ; iintro HQ
  iapply (get_q I c d 1 1 ⟨t.val, ht⟩ (k0_off39_eq t)) $$ HQ; iintro HQ
  rw [wp_ret]
  imodintro
  isplitr
  · ipureintro
    exact congrArg₂ Prod.mk ((head_5 _ _ _ _ _ _).trans (sums_succ I c d 0 ⟨t.val, ht⟩))
      ((head_93 _ _ _ _ _ _).trans (sums_succ I c d 1 ⟨t.val, ht⟩))
  · isplitl [HK]; · iexact HK
    isplitl [HV]; · iexact HV
    isplitl [HW]; · iexact HW
    iexact HQ

theorem wp_loop3 (d : Dev nD) (v13 : BitVec 32) (v65 : IVec S512x1024 1) (v707 v713 v742 v745 : FVec F S512x1024 .bf16) (v746 : FVec F S512x1 .bf16) (v747 : FVec F S512x1023 .bf16) {α : Type} {Q : α → sProp 𝕄}
    {kk : FVec F S512x1024 .f32 × FVec F S512x1024 .f32 → Prog (TpuEff nD τ sig (Elt F) Λ₀ .tc) α} :
    loopR I c d ⊢ iprop((loopR I c d -∗ wp frame (wpE (defs₀ (F := F)) 𝒱₀ (c : Thread nD τ) none) Set.univ (kk (I.part c d 0, I.part c d 1)) Q)
      -∗ wp frame (wpE (defs₀ (F := F)) 𝒱₀ (c : Thread nD τ) none) Set.univ
        (Scf.Loop.for k0_t3_loop k0_t3_ok (k0_pay92 (F := F), k0_pay92 (F := F)) (k0_t3_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v707 v713 v742 v745 v746 v747) >>= kk) Q) := by
  iintro H Hk
  have h0 : loopR I c d ⊢ loopI I c d 0 (k0_pay92 (F := F), k0_pay92 (F := F)) := by
    unfold loopI
    iintro H
    isplitr
    · ipureintro; rfl
    · iexact H
  ihave H := h0 $$ H
  iapply (Scf.wp_for_bind frame (wpE (defs₀ (F := F)) 𝒱₀ (c : Thread nD τ) none) Set.univ _ _ _ k0_t3_ok _ _ (loopI I c d)
    (trip3 I c d v13 v65 v707 v713 v742 v745 v746 v747)) $$ H
  iintro %acc H
  have e : loopI I c d (Scf.trips k0_t3_loop.lb k0_t3_loop.ub k0_t3_loop.st) acc ⊢ iprop(⌜acc = (I.part c d 0, I.part c d 1)⌝ ∗ loopR I c d) := by
    rw [show Scf.trips k0_t3_loop.lb k0_t3_loop.ub k0_t3_loop.st = 8 from trips3]
    exact BI.Entails.refl _
  ihave H := e $$ H
  icases H with ⟨%h, H⟩
  subst h
  iapply Hk $$ H

theorem trips4 : k0_t4_loop.trips = 8 := by decide +kernel

theorem trip4 (d : Dev nD) (v13 : BitVec 32) (v65 : IVec S512x1024 1) (v818 v824 v842 : FVec F S512x1024 .bf16) (t : Fin k0_t4_loop.trips) (acc : FVec F S512x1024 .f32 × FVec F S512x1024 .f32) :
    loopI I c d t.val acc ⊢ wp frame (wpE (defs₀ (F := F)) 𝒱₀ (c : Thread nD τ) none) Set.univ
      (k0_t4_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v818 v824 v842 t acc) (loopI I c d (t.val + 1)) := by
  unfold loopI loopR
  iintro ⟨%hacc, HK, HV, HW, HQ⟩
  subst hacc
  have ht : t.val < 8 := trips4 ▸ t.isLt
  unfold k0_t4_body
  simp only [k0_part4_eq_skeleton]
  unfold k0_part4_skel
  simp only [Prog.lift, Prog.bind_op, Prog.bind_ret, Prog.pure_eq_ret]
  iapply (get_k I c 0 ⟨t.val, ht⟩ (k0_off40_eq t)) $$ HK; iintro HK
  iapply (get_v I c 0 ⟨t.val, ht⟩ (k0_off41_eq t)) $$ HV; iintro HV
  iapply (get_o I c ⟨t.val, ht⟩ (k0_off42_eq t)) $$ HW; iintro HW
  iapply (get_q I c d 0 0 ⟨t.val, ht⟩ (k0_off43_eq t)) $$ HQ; iintro HQ
  iapply (get_q I c d 0 1 ⟨t.val, ht⟩ (k0_off44_eq t)) $$ HQ; iintro HQ
  iapply (get_k I c 1 ⟨t.val, ht⟩ (k0_off45_eq t)) $$ HK; iintro HK
  iapply (get_v I c 1 ⟨t.val, ht⟩ (k0_off46_eq t)) $$ HV; iintro HV
  iapply (get_o I c ⟨t.val, ht⟩ (k0_off42_eq t)) $$ HW; iintro HW
  iapply (get_q I c d 1 0 ⟨t.val, ht⟩ (k0_off47_eq t)) $$ HQ; iintro HQ
  iapply (get_q I c d 1 1 ⟨t.val, ht⟩ (k0_off48_eq t)) $$ HQ; iintro HQ
  rw [wp_ret]
  imodintro
  isplitr
  · ipureintro
    exact congrArg₂ Prod.mk ((head_6 _ _ _ _ _ _).trans (sums_succ I c d 0 ⟨t.val, ht⟩))
      ((head_103 _ _ _ _ _ _).trans (sums_succ I c d 1 ⟨t.val, ht⟩))
  · isplitl [HK]; · iexact HK
    isplitl [HV]; · iexact HV
    isplitl [HW]; · iexact HW
    iexact HQ

theorem wp_loop4 (d : Dev nD) (v13 : BitVec 32) (v65 : IVec S512x1024 1) (v818 v824 v842 : FVec F S512x1024 .bf16) {α : Type} {Q : α → sProp 𝕄}
    {kk : FVec F S512x1024 .f32 × FVec F S512x1024 .f32 → Prog (TpuEff nD τ sig (Elt F) Λ₀ .tc) α} :
    loopR I c d ⊢ iprop((loopR I c d -∗ wp frame (wpE (defs₀ (F := F)) 𝒱₀ (c : Thread nD τ) none) Set.univ (kk (I.part c d 0, I.part c d 1)) Q)
      -∗ wp frame (wpE (defs₀ (F := F)) 𝒱₀ (c : Thread nD τ) none) Set.univ
        (Scf.Loop.for k0_t4_loop k0_t4_ok (k0_pay102 (F := F), k0_pay102 (F := F)) (k0_t4_body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 v65 v818 v824 v842) >>= kk) Q) := by
  iintro H Hk
  have h0 : loopR I c d ⊢ loopI I c d 0 (k0_pay102 (F := F), k0_pay102 (F := F)) := by
    unfold loopI
    iintro H
    isplitr
    · ipureintro; rfl
    · iexact H
  ihave H := h0 $$ H
  iapply (Scf.wp_for_bind frame (wpE (defs₀ (F := F)) 𝒱₀ (c : Thread nD τ) none) Set.univ _ _ _ k0_t4_ok _ _ (loopI I c d)
    (trip4 I c d v13 v65 v818 v824 v842)) $$ H
  iintro %acc H
  have e : loopI I c d (Scf.trips k0_t4_loop.lb k0_t4_loop.ub k0_t4_loop.st) acc ⊢ iprop(⌜acc = (I.part c d 0, I.part c d 1)⌝ ∗ loopR I c d) := by
    rw [show Scf.trips k0_t4_loop.lb k0_t4_loop.ub k0_t4_loop.st = 8 from trips4]
    exact BI.Entails.refl _
  ihave H := e $$ H
  icases H with ⟨%h, H⟩
  subst h
  iapply Hk $$ H

end Cert.RingProof
-- ==== Proof.Places.lean ====
module

public import proofs.«01_k».proof.Proof.Heads

@[expose] public section

/-! # Where the blocks and the devices lie -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem xg_split (h : ℕ) (f : Vec F S3x2x512x1024 .bf16) : xgF c h fullShare f ⊢ iprop(xgF c h fullShare.left f ∗ xgF c h fullShare.right f) := by
  unfold xgF; exact (pointsTo_share (PosShare.mem_left_op_right fullShare)).1
theorem xg_join (h : ℕ) (f : Vec F S3x2x512x1024 .bf16) : iprop(xgF c h fullShare.left f ∗ xgF c h fullShare.right f) ⊢ xgF c h fullShare f := by
  unfold xgF; exact (pointsTo_share (PosShare.mem_left_op_right fullShare)).2
theorem x_split : xP I fullShare c ⊢ iprop(xP I fullShare.left c ∗ xP I fullShare.right c) := by
  unfold xP; exact (pointsTo_share (PosShare.mem_left_op_right fullShare)).1
theorem x_join : iprop(xP I fullShare.left c ∗ xP I fullShare.right c) ⊢ xP I fullShare c := by
  unfold xP; exact (pointsTo_share (PosShare.mem_left_op_right fullShare)).2

theorem dev_1 : (⟨k0_dev1 c, k0_dev1_lt c⟩ : Dev nD) = prv c := by revert c; decide +kernel
theorem dev_2 : (⟨k0_dev2 c, k0_dev2_lt c⟩ : Dev nD) = nxt c := by revert c; decide +kernel
theorem dev_3 : (⟨k0_dev3 c, k0_dev3_lt c⟩ : Dev nD) = nxt c := by revert c; decide +kernel
theorem dev_4 : (⟨k0_dev4 c, k0_dev4_lt c⟩ : Dev nD) = nxt c := by revert c; decide +kernel
theorem dev_5 : (⟨k0_dev5 c, k0_dev5_lt c⟩ : Dev nD) = nxt c := by revert c; decide +kernel
theorem dev_6 : (⟨k0_dev6 c, k0_dev6_lt c⟩ : Dev nD) = nxt c := by revert c; decide +kernel
theorem dev_7 : (⟨k0_dev7 c, k0_dev7_lt c⟩ : Dev nD) = nxt c := by revert c; decide +kernel
theorem dev_8 : (⟨k0_dev8 c, k0_dev8_lt c⟩ : Dev nD) = nxt c := by revert c; decide +kernel
theorem off_5_1 : k0_off5 c 1#32 = ![0, 0, 512 * (src c 0).val] := by revert c; decide +kernel
theorem off_5_2 : k0_off5 c 2#32 = ![0, 0, 512 * (src c 1).val] := by revert c; decide +kernel
theorem off_6_1 : k0_off6 c 1#32 = ![0, 512 * (src c 0).val, 0] := by revert c; decide +kernel
theorem off_6_2 : k0_off6 c 2#32 = ![0, 512 * (src c 1).val, 0] := by revert c; decide +kernel
theorem off_7_1 : k0_off7 c 1#32 = ![1, 0, 512 * (src c 0).val] := by revert c; decide +kernel
theorem off_7_2 : k0_off7 c 2#32 = ![1, 0, 512 * (src c 1).val] := by revert c; decide +kernel
theorem off_8_1 : k0_off8 c 1#32 = ![1, 512 * (src c 0).val, 0] := by revert c; decide +kernel
theorem off_8_2 : k0_off8 c 2#32 = ![1, 512 * (src c 1).val, 0] := by revert c; decide +kernel
theorem off_9 : k0_off9 c = ![0, 0, 512 * (src c 2).val] := by revert c; decide +kernel
theorem off_10 : k0_off10 c = ![0, 512 * (src c 2).val, 0] := by revert c; decide +kernel
theorem off_11 : k0_off11 c = ![1, 0, 512 * (src c 2).val] := by revert c; decide +kernel
theorem off_12 : k0_off12 c = ![1, 512 * (src c 2).val, 0] := by revert c; decide +kernel

theorem all_tiles (d : Dev nD) (b : Fin 2) :
    (d, b) ∈ [(src c 2, (1 : Fin 2)), (src c 2, 0), (src c 1, 1), (src c 1, 0), (src c 0, 1), (src c 0, 0), (c, 1), (c, 0)] := by
  revert c d b; decide +kernel

end Cert.RingProof
-- ==== Proof.PartA.lean ====
module

public import proofs.«01_k».proof.Proof.Places

@[expose] public section

/-! # Parts 5 to 9 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_5  {α : Type} {Q : α → sProp 𝕄} {kk : _ → Prog (TpuEff nD τ sig (Elt F) Λ₀ .tc) α} :
    iprop(records I K ∗ levAts L lv ∗ ow c (O₀ c) ∗ cred (tallyAt (barCell c) () 2) ∗ atPos ER (barCell c) 0 ∅ 0 ∗ dutyTok ER (barCell (nxt c)) 0 false ∗ dutyTok ER (barCell (prv c)) 0 true ∗ slots (F := F) c)
      ⊢ iprop((∀ r : BitVec 32, iprop(ow c (owing c 6) ∗ semVal (barCell c) 0 ∗ (∃ f, xgF (nxt c) 0 fullShare f) ∗ (∃ f, xgF (nxt c) 1 fullShare f) ∗ (∃ f, xgF (nxt c) 2 fullShare f) ∗ (∃ f, rbF (nxt c) 0 f) ∗ (∃ f, rbF (nxt c) 1 f) ∗ (∃ f, rbF (nxt c) 2 f)) -∗ wp frame (wpE (defs₀ (F := F)) 𝒱₀ (c : Thread nD τ) none) Set.univ (kk ⟨c, (w2 c), r⟩) Q)
        -∗ wp frame (wpE (defs₀ (F := F)) 𝒱₀ (c : Thread nD τ) none) Set.univ (k0_part5 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9  >>= kk) Q) := by
  iintro ⟨#HR, #HL, HO, Hcb, Hab, Htb1, Htb2, Hsl⟩ Hk
  simp only [k0_part5_eq_skeleton]
  unfold k0_part5_skel
  simp only [semSignalWord, semWaitWord, Prog.lift, Prog.bind_op, Prog.bind_ret, Prog.pure_eq_ret, Prog.bind_assoc, wp_deviceId]
  iapply (wp_barrier I K c _ _ (dev_1 c) (dev_2 c)) $$ [HO Hcb Hab Htb1 Htb2 Hsl]
  · isplitr; · iexact HR
    isplitr; · iexact HL
    isplitl [Hcb]; · iexact Hcb
    isplitl [HO]; · iexact HO
    isplitl [Hab]; · iexact Hab
    isplitl [Htb1]; · iexact Htb1
    isplitl [Htb2]; · iexact Htb2
    iexact Hsl
  iintro ⟨HO, Hbp, Hab⟩
  unfold barPay
  icases Hbp with ⟨Hd0, Hd1, Hd2, He0, He1, He2⟩
  iapply Hk $$ [HO Hab Hd0 Hd1 Hd2 He0 He1 He2]
  isplitl [HO]; · iexact HO
  isplitl [Hab]; · iexact Hab
  isplitl [Hd0]; · iexact Hd0
  isplitl [Hd1]; · iexact Hd1
  isplitl [Hd2]; · iexact Hd2
  isplitl [He0]; · iexact He0
  isplitl [He1]; · iexact He1
  iexact He2

theorem part_6  {α : Type} {Q : α → sProp 𝕄} {kk : _ → Prog (TpuEff nD τ sig (Elt F) Λ₀ .tc) α} :
    iprop(emp) ⊢ iprop((wp frame (wpE (defs₀ (F := F)) 𝒱₀ (c : Thread nD τ) none) Set.univ (kk ⟨k0_pay7, k0_pay8, 2#32, k0_pay9, k0_pay10⟩) Q)
        -∗ wp frame (wpE (defs₀ (F := F)) 𝒱₀ (c : Thread nD τ) none) Set.univ (k0_part6 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9  >>= kk) Q) := by
  iintro - Hk
  simp only [k0_part6_eq_skeleton]
  unfold k0_part6_skel
  simp only [semSignalWord, semWaitWord, Prog.lift, Prog.bind_op, Prog.bind_ret, Prog.pure_eq_ret, Prog.bind_assoc, wp_deviceId]
  iexact Hk

theorem part_7 {v13 : BitVec 32} {α : Type} {Q : α → sProp 𝕄} {kk : _ → Prog (TpuEff nD τ sig (Elt F) Λ₀ .tc) α} :
    iprop(records I K ∗ levAts L lv ∗ ow c (owing c 6) ∗ xP I fullShare.left c ∗ (∃ f, xgF (nxt c) 0 fullShare f) ∗ dutyTok ER (dcell (payDev c 0) 0) 0 false ∗ dutyTok ER (dcell (payDev c 3) 3) 0 false)
      ⊢ iprop((∀ r : BitVec 32, iprop(ow c (owing c 5) ∗ cred (tallyAt (dcell c 0) () N)) -∗ wp frame (wpE (defs₀ (F := F)) 𝒱₀ (c : Thread nD τ) none) Set.univ (kk ⟨(freq (F := F)), io, r, (cosT (F := F) (rowWord c)), (sin (angle (F := F) (rowWord c))), (Scalar.ofBits (F := F) .f32 0xBF800000#32)⟩) Q)
        -∗ wp frame (wpE (defs₀ (F := F)) 𝒱₀ (c : Thread nD τ) none) Set.univ (k0_part7 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) v13 k0_pay7 2#32 k0_pay9 k0_pay10 >>= kk) Q) := by
  iintro ⟨#HR, #HL, HO, Hxl, Hd0, Ht0, Ht3⟩ Hk
  simp only [k0_part7_eq_skeleton]
  unfold k0_part7_skel
  simp only [semSignalWord, semWaitWord, Prog.lift, Prog.bind_op, Prog.bind_ret, Prog.pure_eq_ret, Prog.bind_assoc, wp_deviceId]
  iapply (wp_send_x I K c _ (dev_3 c) rfl rfl) $$ [Hxl Hd0 HO Ht0 Ht3]
  · isplitr; · iexact HR
    isplitl [Hxl]; · iexact Hxl
    isplitl [Hd0]; · iexact Hd0
    isplitl [HO]; · iexact HO
    isplitl [Ht0]; · iexact Ht0
    iexact Ht3
  iintro ⟨Hc0, HO⟩
  rw [cos_13, sin_14]
  iapply Hk $$ [HO Hc0]
  isplitl [HO]; · iexact HO
  iexact Hc0

theorem part_8 {v107 : BitVec 32} {α : Type} {Q : α → sProp 𝕄} {kk : _ → Prog (TpuEff nD τ sig (Elt F) Λ₀ .tc) α} :
    iprop(xP I fullShare.right c ∗ wkP I c ∗ wvP I c ∗ kH I c [] ∗ vH I c [])
      ⊢ iprop((iprop(xP I fullShare.right c ∗ wkP I c ∗ wvP I c ∗ kH I c [(c, 0)] ∗ vH I c [(c, 0)]) -∗ wp frame (wpE (defs₀ (F := F)) 𝒱₀ (c : Thread nD τ) none) Set.univ (kk ⟨(sinT (F := F) (rowWord c)), (k0_pay19 (xLoad (I.X c) 1)), (k0_pay20 (I.Wk c)), (constant S512x1024 .f32 0x00000000#32)⟩) Q)
        -∗ wp frame (wpE (defs₀ (F := F)) 𝒱₀ (c : Thread nD τ) none) Set.univ (k0_part8 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c k0_pay8 v107 (cosT (F := F) (rowWord c)) (sin (angle (F := F) (rowWord c))) (Scalar.ofBits (F := F) .f32 0xBF800000#32) >>= kk) Q) := by
  iintro ⟨Hxr, Hwk, Hwv, HK, HV⟩ Hk
  simp only [k0_part8_eq_skeleton]
  unfold k0_part8_skel
  simp only [semSignalWord, semWaitWord, Prog.lift, Prog.bind_op, Prog.bind_ret, Prog.pure_eq_ret, Prog.bind_assoc, wp_deviceId]
  iapply (get_x I c fullShare.right 0 rfl) $$ Hxr; iintro Hxr
  iapply (get_wk I c rfl) $$ Hwk; iintro Hwk
  iapply (get_wv I c rfl) $$ Hwv; iintro Hwv
  iapply (put_k I c [] c 0 (k0_off1_eq c) (tile_17 (rowWord c) (I.X c) 0 (I.Wk c))) $$ HK; iintro HK
  iapply (put_v I c [] c 0 (k0_off2_eq c) (tile_18 (I.X c) 0 (I.Wv c))) $$ HV; iintro HV
  iapply (get_x I c fullShare.right 1 rfl) $$ Hxr; iintro Hxr
  iapply (get_wk I c rfl) $$ Hwk; iintro Hwk
  rw [sinT_15]
  iapply Hk $$ [Hxr Hwk Hwv HK HV]
  isplitl [Hxr]; · iexact Hxr
  isplitl [Hwk]; · iexact Hwk
  isplitl [Hwv]; · iexact Hwv
  isplitl [HK]; · iexact HK
  iexact HV

theorem part_9 {v13 : BitVec 32} {v107 : BitVec 32} {α : Type} {Q : α → sProp 𝕄} {kk : _ → Prog (TpuEff nD τ sig (Elt F) Λ₀ .tc) α} :
    iprop(records I K ∗ levAts L lv ∗ wvP I c ∗ kH I c [(c, 0)] ∗ vH I c [(c, 0)] ∗ atPos ER (dcell c 0) 0 ∅ 0 ∗ cred (tallyAt (dcell c 0) () N) ∗ ow c (owing c 5))
      ⊢ iprop((iprop(wvP I c ∗ kH I c [(c, 1), (c, 0)] ∗ vH I c [(c, 1), (c, 0)] ∗ semVal (dcell c 0) 0 ∗ ow c (owing c 5) ∗ xP I fullShare.left c) -∗ wp frame (wpE (defs₀ (F := F)) 𝒱₀ (c : Thread nD τ) none) Set.univ (kk ⟨⟩) Q)
        -∗ wp frame (wpE (defs₀ (F := F)) 𝒱₀ (c : Thread nD τ) none) Set.univ (k0_part9 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c v13 k0_pay8 v107 (cosT (F := F) (rowWord c)) (sinT (F := F) (rowWord c)) (k0_pay19 (xLoad (I.X c) 1)) (k0_pay20 (I.Wk c)) (constant S512x1024 .f32 0x00000000#32) >>= kk) Q) := by
  iintro ⟨#HR, #HL, Hwv, HK, HV, Ha0, Hc0, HO⟩ Hk
  simp only [k0_part9_eq_skeleton]
  unfold k0_part9_skel
  simp only [semSignalWord, semWaitWord, Prog.lift, Prog.bind_op, Prog.bind_ret, Prog.pure_eq_ret, Prog.bind_assoc, wp_deviceId]
  iapply (get_wv I c rfl) $$ Hwv; iintro Hwv
  iapply (put_k I c [(c, 0)] c 1 (k0_off3_eq c) (tile_21 (rowWord c) (I.X c) 1 (I.Wk c))) $$ HK; iintro HK
  iapply (put_v I c [(c, 0)] c 1 (k0_off4_eq c) (tile_22 (I.X c) 1 (I.Wv c))) $$ HV; iintro HV
  iapply (wp_wait_copy I K c 0 5 rfl N_x (by decide) (by decide)) $$ [Hc0 HO Ha0]
  · isplitr; · iexact HR
    isplitr; · iexact HL
    isplitl [Hc0]; · iexact Hc0
    isplitl [HO]; · iexact HO
    iexact Ha0
  iintro ⟨HO, Hxl, Ha0⟩
  ihave Hxl := (Entails.of_eq (show dmaPay I c 0 = xP I fullShare.left c from rfl)) $$ Hxl
  iapply Hk $$ [Hwv HK HV Ha0 HO Hxl]
  isplitl [Hwv]; · iexact Hwv
  isplitl [HK]; · iexact HK
  isplitl [HV]; · iexact HV
  isplitl [Ha0]; · iexact Ha0
  isplitl [HO]; · iexact HO
  iexact Hxl

end Cert.RingProof
-- ==== Proof.PartB.lean ====
module

public import proofs.«01_k».proof.Proof.Places

@[expose] public section

/-! # Parts 10 to 14 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_10 {v13 : BitVec 32} {α : Type} {Q : α → sProp 𝕄} {kk : _ → Prog (TpuEff nD τ sig (Elt F) Λ₀ .tc) α} :
    iprop(records I K ∗ levAts L lv ∗ atPos ER (dcell c 3) 0 ∅ 0 ∗ cred (tallyAt (dcell c 3) () N) ∗ ow c (owing c 5) ∗ (∃ f, xgF (nxt c) 1 fullShare f) ∗ dutyTok ER (dcell (payDev c 1) 1) 0 false ∗ dutyTok ER (dcell (payDev c 4) 4) 0 false)
      ⊢ iprop((∀ r : BitVec 32, iprop(semVal (dcell c 3) 0 ∗ ow c (owing c 4) ∗ xgF c 0 fullShare.right (xgAll I c) ∗ cred (tallyAt (dcell c 1) () N)) -∗ wp frame (wpE (defs₀ (F := F)) 𝒱₀ (c : Thread nD τ) none) Set.univ (kk ⟨r, (cosT (F := F) (rowWord (src c 0))), (sin (angle (F := F) (rowWord (src c 0)))), (k0_pay26 k0_pay8)⟩) Q)
        -∗ wp frame (wpE (defs₀ (F := F)) 𝒱₀ (c : Thread nD τ) none) Set.univ (k0_part10 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) v13 k0_pay8 (freq (F := F)) io >>= kk) Q) := by
  iintro ⟨#HR, #HL, Ha3, Hc3, HO, Hd1, Ht1, Ht4⟩ Hk
  simp only [k0_part10_eq_skeleton]
  unfold k0_part10_skel
  simp only [semSignalWord, semWaitWord, Prog.lift, Prog.bind_op, Prog.bind_ret, Prog.pure_eq_ret, Prog.bind_assoc, wp_deviceId]
  iapply (wp_wait_copy I K c 3 5 rfl (N_xg 0 _) (by decide) (by decide)) $$ [Hc3 HO Ha3]
  · isplitr; · iexact HR
    isplitr; · iexact HL
    isplitl [Hc3]; · iexact Hc3
    isplitl [HO]; · iexact HO
    iexact Ha3
  iintro ⟨HO, Hg0, Ha3⟩
  ihave Hg0 := (Entails.of_eq (show dmaPay I c 3 = xgF c 0 fullShare (xgAll I c) from rfl)) $$ Hg0
  ihave Hsp := (xg_split c 0 (xgAll I c)) $$ Hg0
  icases Hsp with ⟨Hg0l, Hg0⟩
  iapply (wp_send_xg I K c 0 _ _ 1 4 4 (by decide) rfl rfl rfl (pay_own c (by decide)) (pay_nxt c (by decide)) _ (dev_4 c) rfl rfl) $$ [Hg0l Hd1 HO Ht1 Ht4]
  · isplitr; · iexact HR
    isplitl [Hg0l]; · iexact Hg0l
    isplitl [Hd1]; · iexact Hd1
    isplitl [HO]; · iexact HO
    isplitl [Ht1]; · iexact Ht1
    iexact Ht4
  iintro ⟨Hc1, HO⟩
  rw [cos_24, sin_25]
  iapply Hk $$ [Ha3 HO Hg0 Hc1]
  isplitl [Ha3]; · iexact Ha3
  isplitl [HO]; · iexact HO
  isplitl [Hg0]; · iexact Hg0
  iexact Hc1

theorem part_11 {v211 : BitVec 32} {α : Type} {Q : α → sProp 𝕄} {kk : _ → Prog (TpuEff nD τ sig (Elt F) Λ₀ .tc) α} :
    iprop(xgF c 0 fullShare.right (xgAll I c) ∗ wkP I c ∗ wvP I c ∗ kH I c [(c, 1), (c, 0)] ∗ vH I c [(c, 1), (c, 0)])
      ⊢ iprop((iprop(xgF c 0 fullShare.right (xgAll I c) ∗ wkP I c ∗ wvP I c ∗ kH I c [((src c 0), 0), (c, 1), (c, 0)] ∗ vH I c [((src c 0), 0), (c, 1), (c, 0)]) -∗ wp frame (wpE (defs₀ (F := F)) 𝒱₀ (c : Thread nD τ) none) Set.univ (kk ⟨(sinT (F := F) (rowWord (src c 0))), (k0_pay31 (xLoad4 (I.X (src c 0)) 1)), (k0_pay32 (xLoad4 (I.X (src c 0)) 1) (I.Wk c))⟩) Q)
        -∗ wp frame (wpE (defs₀ (F := F)) 𝒱₀ (c : Thread nD τ) none) Set.univ (k0_part11 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c k0_pay8 v211 (cosT (F := F) (rowWord (src c 0))) (sin (angle (F := F) (rowWord (src c 0)))) (k0_pay26 k0_pay8) >>= kk) Q) := by
  iintro ⟨Hg0, Hwk, Hwv, HK, HV⟩ Hk
  simp only [k0_part11_eq_skeleton]
  unfold k0_part11_skel
  simp only [semSignalWord, semWaitWord, Prog.lift, Prog.bind_op, Prog.bind_ret, Prog.pure_eq_ret, Prog.bind_assoc, wp_deviceId]
  iapply (get_xg I c fullShare.right 0 (by decide) 0 rfl) $$ Hg0; iintro Hg0
  iapply (get_wk I c rfl) $$ Hwk; iintro Hwk
  iapply (get_wv I c rfl) $$ Hwv; iintro Hwv
  iapply (put_k I c [(c, 1), (c, 0)] (src c 0) 0 (off_5_1 c) (tile_29 (rowWord (src c 0)) (I.X (src c 0)) 0 (I.Wk c))) $$ HK; iintro HK
  iapply (put_v I c [(c, 1), (c, 0)] (src c 0) 0 (off_6_1 c) (tile_30 (I.X (src c 0)) 0 (I.Wv c))) $$ HV; iintro HV
  iapply (get_xg I c fullShare.right 0 (by decide) 1 rfl) $$ Hg0; iintro Hg0
  iapply (get_wk I c rfl) $$ Hwk; iintro Hwk
  rw [sinT_27]
  iapply Hk $$ [Hg0 Hwk Hwv HK HV]
  isplitl [Hg0]; · iexact Hg0
  isplitl [Hwk]; · iexact Hwk
  isplitl [Hwv]; · iexact Hwv
  isplitl [HK]; · iexact HK
  iexact HV

theorem part_12 {v13 : BitVec 32} {v211 : BitVec 32} {α : Type} {Q : α → sProp 𝕄} {kk : _ → Prog (TpuEff nD τ sig (Elt F) Λ₀ .tc) α} :
    iprop(records I K ∗ levAts L lv ∗ wvP I c ∗ kH I c [((src c 0), 0), (c, 1), (c, 0)] ∗ vH I c [((src c 0), 0), (c, 1), (c, 0)] ∗ atPos ER (dcell c 1) 0 ∅ 0 ∗ cred (tallyAt (dcell c 1) () N) ∗ ow c (owing c 4))
      ⊢ iprop((iprop(wvP I c ∗ kH I c [((src c 0), 1), ((src c 0), 0), (c, 1), (c, 0)] ∗ vH I c [((src c 0), 1), ((src c 0), 0), (c, 1), (c, 0)] ∗ semVal (dcell c 1) 0 ∗ ow c (owing c 4) ∗ xgF c 0 fullShare.left (xgAll I c)) -∗ wp frame (wpE (defs₀ (F := F)) 𝒱₀ (c : Thread nD τ) none) Set.univ (kk ⟨⟩) Q)
        -∗ wp frame (wpE (defs₀ (F := F)) 𝒱₀ (c : Thread nD τ) none) Set.univ (k0_part12 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c v13 k0_pay8 v211 (cosT (F := F) (rowWord (src c 0))) (sinT (F := F) (rowWord (src c 0))) (k0_pay31 (xLoad4 (I.X (src c 0)) 1)) (k0_pay32 (xLoad4 (I.X (src c 0)) 1) (I.Wk c)) >>= kk) Q) := by
  iintro ⟨#HR, #HL, Hwv, HK, HV, Ha1, Hc1, HO⟩ Hk
  simp only [k0_part12_eq_skeleton]
  unfold k0_part12_skel
  simp only [semSignalWord, semWaitWord, Prog.lift, Prog.bind_op, Prog.bind_ret, Prog.pure_eq_ret, Prog.bind_assoc, wp_deviceId]
  iapply (get_wv I c rfl) $$ Hwv; iintro Hwv
  iapply (put_k I c [((src c 0), 0), (c, 1), (c, 0)] (src c 0) 1 (off_7_1 c) (tile_33 (rowWord (src c 0)) (I.X (src c 0)) 1 (I.Wk c))) $$ HK; iintro HK
  iapply (put_v I c [((src c 0), 0), (c, 1), (c, 0)] (src c 0) 1 (off_8_1 c) (tile_34 (I.X (src c 0)) 1 (I.Wv c))) $$ HV; iintro HV
  iapply (wp_wait_copy I K c 1 4 rfl (N_xg 0 _) (by decide) (by decide)) $$ [Hc1 HO Ha1]
  · isplitr; · iexact HR
    isplitr; · iexact HL
    isplitl [Hc1]; · iexact Hc1
    isplitl [HO]; · iexact HO
    iexact Ha1
  iintro ⟨HO, Hg0l, Ha1⟩
  ihave Hg0l := (Entails.of_eq (show dmaPay I c 1 = xgF c 0 fullShare.left (xgAll I c) from rfl)) $$ Hg0l
  iapply Hk $$ [Hwv HK HV Ha1 HO Hg0l]
  isplitl [Hwv]; · iexact Hwv
  isplitl [HK]; · iexact HK
  isplitl [HV]; · iexact HV
  isplitl [Ha1]; · iexact Ha1
  isplitl [HO]; · iexact HO
  iexact Hg0l

theorem part_13 {v13 : BitVec 32} {α : Type} {Q : α → sProp 𝕄} {kk : _ → Prog (TpuEff nD τ sig (Elt F) Λ₀ .tc) α} :
    iprop(records I K ∗ levAts L lv ∗ atPos ER (dcell c 4) 0 ∅ 0 ∗ cred (tallyAt (dcell c 4) () N) ∗ ow c (owing c 4) ∗ (∃ f, xgF (nxt c) 2 fullShare f) ∗ dutyTok ER (dcell (payDev c 2) 2) 0 false ∗ dutyTok ER (dcell (payDev c 5) 5) 0 false)
      ⊢ iprop((∀ r : BitVec 32, iprop(semVal (dcell c 4) 0 ∗ ow c (owing c 3) ∗ xgF c 1 fullShare.right (xgAll I c) ∗ cred (tallyAt (dcell c 2) () N)) -∗ wp frame (wpE (defs₀ (F := F)) 𝒱₀ (c : Thread nD τ) none) Set.univ (kk ⟨r, (k0_pay35 (w2 c) io)⟩) Q)
        -∗ wp frame (wpE (defs₀ (F := F)) 𝒱₀ (c : Thread nD τ) none) Set.univ (k0_part13 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) v13 io >>= kk) Q) := by
  iintro ⟨#HR, #HL, Ha4, Hc4, HO, Hd2, Ht2, Ht5⟩ Hk
  simp only [k0_part13_eq_skeleton]
  unfold k0_part13_skel
  simp only [semSignalWord, semWaitWord, Prog.lift, Prog.bind_op, Prog.bind_ret, Prog.pure_eq_ret, Prog.bind_assoc, wp_deviceId]
  iapply (wp_wait_copy I K c 4 4 rfl (N_xg 1 _) (by decide) (by decide)) $$ [Hc4 HO Ha4]
  · isplitr; · iexact HR
    isplitr; · iexact HL
    isplitl [Hc4]; · iexact Hc4
    isplitl [HO]; · iexact HO
    iexact Ha4
  iintro ⟨HO, Hg1, Ha4⟩
  ihave Hg1 := (Entails.of_eq (show dmaPay I c 4 = xgF c 1 fullShare (xgAll I c) from rfl)) $$ Hg1
  ihave Hsp := (xg_split c 1 (xgAll I c)) $$ Hg1
  icases Hsp with ⟨Hg1l, Hg1⟩
  iapply (wp_send_xg I K c 1 _ _ 2 5 3 (by decide) rfl rfl rfl (pay_own c (by decide)) (pay_nxt c (by decide)) _ (dev_5 c) rfl rfl) $$ [Hg1l Hd2 HO Ht2 Ht5]
  · isplitr; · iexact HR
    isplitl [Hg1l]; · iexact Hg1l
    isplitl [Hd2]; · iexact Hd2
    isplitl [HO]; · iexact HO
    isplitl [Ht2]; · iexact Ht2
    iexact Ht5
  iintro ⟨Hc2, HO⟩
  iapply Hk $$ [Ha4 HO Hg1 Hc2]
  isplitl [Ha4]; · iexact Ha4
  isplitl [HO]; · iexact HO
  isplitl [Hg1]; · iexact Hg1
  iexact Hc2

theorem part_14 {v319 : BitVec 32} {α : Type} {Q : α → sProp 𝕄} {kk : _ → Prog (TpuEff nD τ sig (Elt F) Λ₀ .tc) α} :
    iprop(xgF c 1 fullShare.right (xgAll I c) ∗ wkP I c ∗ wvP I c ∗ kH I c [((src c 0), 1), ((src c 0), 0), (c, 1), (c, 0)] ∗ vH I c [((src c 0), 1), ((src c 0), 0), (c, 1), (c, 0)])
      ⊢ iprop((iprop(xgF c 1 fullShare.right (xgAll I c) ∗ wkP I c ∗ wvP I c ∗ kH I c [((src c 1), 0), ((src c 0), 1), ((src c 0), 0), (c, 1), (c, 0)] ∗ vH I c [((src c 1), 0), ((src c 0), 1), ((src c 0), 0), (c, 1), (c, 0)]) -∗ wp frame (wpE (defs₀ (F := F)) 𝒱₀ (c : Thread nD τ) none) Set.univ (kk ⟨(cosT (F := F) (rowWord (src c 1))), (sinT (F := F) (rowWord (src c 1)))⟩) Q)
        -∗ wp frame (wpE (defs₀ (F := F)) 𝒱₀ (c : Thread nD τ) none) Set.univ (k0_part14 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c k0_pay8 (freq (F := F)) v319 (k0_pay35 (w2 c) io) >>= kk) Q) := by
  iintro ⟨Hg1, Hwk, Hwv, HK, HV⟩ Hk
  simp only [k0_part14_eq_skeleton]
  unfold k0_part14_skel
  simp only [semSignalWord, semWaitWord, Prog.lift, Prog.bind_op, Prog.bind_ret, Prog.pure_eq_ret, Prog.bind_assoc, wp_deviceId]
  iapply (get_xg I c fullShare.right 1 (by decide) 0 rfl) $$ Hg1; iintro Hg1
  iapply (get_wk I c rfl) $$ Hwk; iintro Hwk
  iapply (get_wv I c rfl) $$ Hwv; iintro Hwv
  iapply (put_k I c [((src c 0), 1), ((src c 0), 0), (c, 1), (c, 0)] (src c 1) 0 (off_5_2 c) (tile_40 c (I.X (src c 1)) 0 (I.Wk c))) $$ HK; iintro HK
  iapply (put_v I c [((src c 0), 1), ((src c 0), 0), (c, 1), (c, 0)] (src c 1) 0 (off_6_2 c) (tile_41 (I.X (src c 1)) 0 (I.Wv c))) $$ HV; iintro HV
  rw [cos_37, sinT_38]
  iapply Hk $$ [Hg1 Hwk Hwv HK HV]
  isplitl [Hg1]; · iexact Hg1
  isplitl [Hwk]; · iexact Hwk
  isplitl [Hwv]; · iexact Hwv
  isplitl [HK]; · iexact HK
  iexact HV

end Cert.RingProof
-- ==== Proof.PartC.lean ====
module

public import proofs.«01_k».proof.Proof.Places

@[expose] public section

/-! # Parts 15 to 18 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_15 {v319 : BitVec 32} {α : Type} {Q : α → sProp 𝕄} {kk : _ → Prog (TpuEff nD τ sig (Elt F) Λ₀ .tc) α} :
    iprop(records I K ∗ levAts L lv ∗ xgF c 1 fullShare.right (xgAll I c) ∗ wkP I c ∗ wvP I c ∗ kH I c [((src c 1), 0), ((src c 0), 1), ((src c 0), 0), (c, 1), (c, 0)] ∗ vH I c [((src c 1), 0), ((src c 0), 1), ((src c 0), 0), (c, 1), (c, 0)] ∗ atPos ER (dcell c 2) 0 ∅ 0 ∗ cred (tallyAt (dcell c 2) () N) ∗ ow c (owing c 3))
      ⊢ iprop((iprop(xgF c 1 fullShare.right (xgAll I c) ∗ wkP I c ∗ wvP I c ∗ kH I c [((src c 1), 1), ((src c 1), 0), ((src c 0), 1), ((src c 0), 0), (c, 1), (c, 0)] ∗ vH I c [((src c 1), 1), ((src c 1), 0), ((src c 0), 1), ((src c 0), 0), (c, 1), (c, 0)] ∗ semVal (dcell c 2) 0 ∗ ow c (owing c 3) ∗ xgF c 1 fullShare.left (xgAll I c)) -∗ wp frame (wpE (defs₀ (F := F)) 𝒱₀ (c : Thread nD τ) none) Set.univ (kk ⟨⟩) Q)
        -∗ wp frame (wpE (defs₀ (F := F)) 𝒱₀ (c : Thread nD τ) none) Set.univ (k0_part15 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c k0_pay8 v319 (cosT (F := F) (rowWord (src c 1))) (sinT (F := F) (rowWord (src c 1))) >>= kk) Q) := by
  iintro ⟨#HR, #HL, Hg1, Hwk, Hwv, HK, HV, Ha2, Hc2, HO⟩ Hk
  simp only [k0_part15_eq_skeleton]
  unfold k0_part15_skel
  simp only [semSignalWord, semWaitWord, Prog.lift, Prog.bind_op, Prog.bind_ret, Prog.pure_eq_ret, Prog.bind_assoc, wp_deviceId]
  iapply (get_xg I c fullShare.right 1 (by decide) 1 rfl) $$ Hg1; iintro Hg1
  iapply (get_wk I c rfl) $$ Hwk; iintro Hwk
  iapply (get_wv I c rfl) $$ Hwv; iintro Hwv
  iapply (put_k I c [((src c 1), 0), ((src c 0), 1), ((src c 0), 0), (c, 1), (c, 0)] (src c 1) 1 (off_7_2 c) (tile_43 (rowWord (src c 1)) (I.X (src c 1)) 1 (I.Wk c))) $$ HK; iintro HK
  iapply (put_v I c [((src c 1), 0), ((src c 0), 1), ((src c 0), 0), (c, 1), (c, 0)] (src c 1) 1 (off_8_2 c) (tile_44 (I.X (src c 1)) 1 (I.Wv c))) $$ HV; iintro HV
  iapply (wp_wait_copy I K c 2 3 rfl (N_xg 1 _) (by decide) (by decide)) $$ [Hc2 HO Ha2]
  · isplitr; · iexact HR
    isplitr; · iexact HL
    isplitl [Hc2]; · iexact Hc2
    isplitl [HO]; · iexact HO
    iexact Ha2
  iintro ⟨HO, Hg1l, Ha2⟩
  ihave Hg1l := (Entails.of_eq (show dmaPay I c 2 = xgF c 1 fullShare.left (xgAll I c) from rfl)) $$ Hg1l
  iapply Hk $$ [Hg1 Hwk Hwv HK HV Ha2 HO Hg1l]
  isplitl [Hg1]; · iexact Hg1
  isplitl [Hwk]; · iexact Hwk
  isplitl [Hwv]; · iexact Hwv
  isplitl [HK]; · iexact HK
  isplitl [HV]; · iexact HV
  isplitl [Ha2]; · iexact Ha2
  isplitl [HO]; · iexact HO
  iexact Hg1l

theorem part_16 {v13 : BitVec 32} {α : Type} {Q : α → sProp 𝕄} {kk : _ → Prog (TpuEff nD τ sig (Elt F) Λ₀ .tc) α} :
    iprop(records I K ∗ levAts L lv ∗ atPos ER (dcell c 5) 0 ∅ 0 ∗ cred (tallyAt (dcell c 5) () N) ∗ ow c (owing c 3))
      ⊢ iprop((∀ r : BitVec 32, iprop(semVal (dcell c 5) 0 ∗ ow c (owing c 3) ∗ xgF c 2 fullShare (xgAll I c)) -∗ wp frame (wpE (defs₀ (F := F)) 𝒱₀ (c : Thread nD τ) none) Set.univ (kk ⟨r, (cosT (F := F) (rowWord (src c 2))), (sinT (F := F) (rowWord (src c 2)))⟩) Q)
        -∗ wp frame (wpE (defs₀ (F := F)) 𝒱₀ (c : Thread nD τ) none) Set.univ (k0_part16 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 (w2 c) v13 k0_pay8 (freq (F := F)) io >>= kk) Q) := by
  iintro ⟨#HR, #HL, Ha5, Hc5, HO⟩ Hk
  simp only [k0_part16_eq_skeleton]
  unfold k0_part16_skel
  simp only [semSignalWord, semWaitWord, Prog.lift, Prog.bind_op, Prog.bind_ret, Prog.pure_eq_ret, Prog.bind_assoc, wp_deviceId]
  iapply (wp_wait_copy I K c 5 3 rfl (N_xg 2 _) (by decide) (by decide)) $$ [Hc5 HO Ha5]
  · isplitr; · iexact HR
    isplitr; · iexact HL
    isplitl [Hc5]; · iexact Hc5
    isplitl [HO]; · iexact HO
    iexact Ha5
  iintro ⟨HO, Hg2, Ha5⟩
  ihave Hg2 := (Entails.of_eq (show dmaPay I c 5 = xgF c 2 fullShare (xgAll I c) from rfl)) $$ Hg2
  rw [cos_46, sinT_47]
  iapply Hk $$ [Ha5 HO Hg2]
  isplitl [Ha5]; · iexact Ha5
  isplitl [HO]; · iexact HO
  iexact Hg2

theorem part_17 {v416 : BitVec 32} {α : Type} {Q : α → sProp 𝕄} {kk : _ → Prog (TpuEff nD τ sig (Elt F) Λ₀ .tc) α} :
    iprop(xgF c 2 fullShare (xgAll I c) ∗ wkP I c ∗ wvP I c ∗ kH I c [((src c 1), 1), ((src c 1), 0), ((src c 0), 1), ((src c 0), 0), (c, 1), (c, 0)] ∗ vH I c [((src c 1), 1), ((src c 1), 0), ((src c 0), 1), ((src c 0), 0), (c, 1), (c, 0)])
      ⊢ iprop((iprop(xgF c 2 fullShare (xgAll I c) ∗ wkP I c ∗ wvP I c ∗ kH I c [((src c 2), 0), ((src c 1), 1), ((src c 1), 0), ((src c 0), 1), ((src c 0), 0), (c, 1), (c, 0)] ∗ vH I c [((src c 2), 0), ((src c 1), 1), ((src c 1), 0), ((src c 0), 1), ((src c 0), 0), (c, 1), (c, 0)]) -∗ wp frame (wpE (defs₀ (F := F)) 𝒱₀ (c : Thread nD τ) none) Set.univ (kk ⟨(k0_pay52 (xLoad4 (I.X (src c 2)) 1) (I.Wk c)), (k0_pay53 (xLoad4 (I.X (src c 2)) 1) (I.Wv c))⟩) Q)
        -∗ wp frame (wpE (defs₀ (F := F)) 𝒱₀ (c : Thread nD τ) none) Set.univ (k0_part17 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c k0_pay8 v416 (cosT (F := F) (rowWord (src c 2))) (sinT (F := F) (rowWord (src c 2))) >>= kk) Q) := by
  iintro ⟨Hg2, Hwk, Hwv, HK, HV⟩ Hk
  simp only [k0_part17_eq_skeleton]
  unfold k0_part17_skel
  simp only [semSignalWord, semWaitWord, Prog.lift, Prog.bind_op, Prog.bind_ret, Prog.pure_eq_ret, Prog.bind_assoc, wp_deviceId]
  iapply (get_xg I c fullShare 2 (by decide) 0 rfl) $$ Hg2; iintro Hg2
  iapply (get_wk I c rfl) $$ Hwk; iintro Hwk
  iapply (get_wv I c rfl) $$ Hwv; iintro Hwv
  iapply (put_k I c [((src c 1), 1), ((src c 1), 0), ((src c 0), 1), ((src c 0), 0), (c, 1), (c, 0)] (src c 2) 0 (off_9 c) (tile_49 (rowWord (src c 2)) (I.X (src c 2)) 0 (I.Wk c))) $$ HK; iintro HK
  iapply (put_v I c [((src c 1), 1), ((src c 1), 0), ((src c 0), 1), ((src c 0), 0), (c, 1), (c, 0)] (src c 2) 0 (off_10 c) (tile_50 (I.X (src c 2)) 0 (I.Wv c))) $$ HV; iintro HV
  iapply (get_xg I c fullShare 2 (by decide) 1 rfl) $$ Hg2; iintro Hg2
  iapply (get_wk I c rfl) $$ Hwk; iintro Hwk
  iapply (get_wv I c rfl) $$ Hwv; iintro Hwv
  iapply Hk $$ [Hg2 Hwk Hwv HK HV]
  isplitl [Hg2]; · iexact Hg2
  isplitl [Hwk]; · iexact Hwk
  isplitl [Hwv]; · iexact Hwv
  isplitl [HK]; · iexact HK
  iexact HV

theorem part_18 {v416 : BitVec 32} {α : Type} {Q : α → sProp 𝕄} {kk : _ → Prog (TpuEff nD τ sig (Elt F) Λ₀ .tc) α} :
    iprop(kH I c [((src c 2), 0), ((src c 1), 1), ((src c 1), 0), ((src c 0), 1), ((src c 0), 0), (c, 1), (c, 0)] ∗ vH I c [((src c 2), 0), ((src c 1), 1), ((src c 1), 0), ((src c 0), 1), ((src c 0), 0), (c, 1), (c, 0)])
      ⊢ iprop((iprop(kE I c ∗ vE I c) -∗ wp frame (wpE (defs₀ (F := F)) 𝒱₀ (c : Thread nD τ) none) Set.univ (kk ⟨(cosT (F := F) (rowWord (src c 0))), (sin (angle (F := F) (rowWord (src c 0)))), (Scalar.ofBits (F := F) .f32 0xBF800000#32), (Scalar.ofBits (F := F) .f32 0x3F800000#32)⟩) Q)
        -∗ wp frame (wpE (defs₀ (F := F)) 𝒱₀ (c : Thread nD τ) none) Set.univ (k0_part18 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) k0_pay8 (freq (F := F)) io v416 (cosT (F := F) (rowWord (src c 2))) (sinT (F := F) (rowWord (src c 2))) (k0_pay52 (xLoad4 (I.X (src c 2)) 1) (I.Wk c)) (k0_pay53 (xLoad4 (I.X (src c 2)) 1) (I.Wv c)) >>= kk) Q) := by
  iintro ⟨HK, HV⟩ Hk
  simp only [k0_part18_eq_skeleton]
  unfold k0_part18_skel
  simp only [semSignalWord, semWaitWord, Prog.lift, Prog.bind_op, Prog.bind_ret, Prog.pure_eq_ret, Prog.bind_assoc, wp_deviceId]
  iapply (put_k I c [((src c 2), 0), ((src c 1), 1), ((src c 1), 0), ((src c 0), 1), ((src c 0), 0), (c, 1), (c, 0)] (src c 2) 1 (off_11 c) (tile_54 (rowWord (src c 2)) (I.X (src c 2)) 1 (I.Wk c))) $$ HK; iintro HK
  ihave HK := (kH_full I c [((src c 2), 1), ((src c 2), 0), ((src c 1), 1), ((src c 1), 0), ((src c 0), 1), ((src c 0), 0), (c, 1), (c, 0)] (all_tiles c)) $$ HK
  iapply (put_v I c [((src c 2), 0), ((src c 1), 1), ((src c 1), 0), ((src c 0), 1), ((src c 0), 0), (c, 1), (c, 0)] (src c 2) 1 (off_12 c) (tile_55 (I.X (src c 2)) 1 (I.Wv c))) $$ HV; iintro HV
  ihave HV := (vH_full I c [((src c 2), 1), ((src c 2), 0), ((src c 1), 1), ((src c 1), 0), ((src c 0), 1), ((src c 0), 0), (c, 1), (c, 0)] (all_tiles c)) $$ HV
  rw [cos_57, sin_58]
  iapply Hk $$ [HK HV]
  isplitl [HK]; · iexact HK
  iexact HV

end Cert.RingProof
-- ==== Proof.PartD.lean ====
module

public import proofs.«01_k».proof.Proof.Places

@[expose] public section

/-! # Parts 19 to 22 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_19  {α : Type} {Q : α → sProp 𝕄} {kk : _ → Prog (TpuEff nD τ sig (Elt F) Λ₀ .tc) α} :
    iprop(xgF c 0 fullShare.right (xgAll I c) ∗ wqP I c ∗ qH I c (src c 0) [])
      ⊢ iprop((iprop(xgF c 0 fullShare.right (xgAll I c) ∗ wqP I c ∗ qH I c (src c 0) [0]) -∗ wp frame (wpE (defs₀ (F := F)) 𝒱₀ (c : Thread nD τ) none) Set.univ (kk ⟨(sinT (F := F) (rowWord (src c 0))), (k0_pay61 (xLoad4 (I.X (src c 0)) 1) (I.Wq c)), (k0_pay62 (xLoad4 (I.X (src c 0)) 1) (I.Wq c)), (k0_pay63 (xLoad4 (I.X (src c 0)) 1) (I.Wq c))⟩) Q)
        -∗ wp frame (wpE (defs₀ (F := F)) 𝒱₀ (c : Thread nD τ) none) Set.univ (k0_part19 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 k0_pay8 (cosT (F := F) (rowWord (src c 0))) (sin (angle (F := F) (rowWord (src c 0)))) (Scalar.ofBits (F := F) .f32 0xBF800000#32) (Scalar.ofBits (F := F) .f32 0x3F800000#32) >>= kk) Q) := by
  iintro ⟨Hg0, Hwq, HQ⟩ Hk
  simp only [k0_part19_eq_skeleton]
  unfold k0_part19_skel
  simp only [semSignalWord, semWaitWord, Prog.lift, Prog.bind_op, Prog.bind_ret, Prog.pure_eq_ret, Prog.bind_assoc, wp_deviceId]
  iapply (get_xg I c fullShare.right 0 (by decide) 0 rfl) $$ Hg0; iintro Hg0
  iapply (get_wq I c rfl) $$ Hwq; iintro Hwq
  iapply (put_q I c (src c 0) [] 0 rfl (tile_60 (rowWord (src c 0)) (I.X (src c 0)) 0 (I.Wq c))) $$ HQ; iintro HQ
  iapply (get_xg I c fullShare.right 0 (by decide) 1 rfl) $$ Hg0; iintro Hg0
  iapply (get_wq I c rfl) $$ Hwq; iintro Hwq
  rw [sinT_59]
  iapply Hk $$ [Hg0 Hwq HQ]
  isplitl [Hg0]; · iexact Hg0
  isplitl [Hwq]; · iexact Hwq
  iexact HQ

theorem part_20 {v13 : BitVec 32} {α : Type} {Q : α → sProp 𝕄} {kk : _ → Prog (TpuEff nD τ sig (Elt F) Λ₀ .tc) α} :
    iprop(records I K ∗ levAts L lv ∗ qH I c (src c 0) [0] ∗ woP I c ∗ kE I c ∗ vE I c ∗ sH I c 0 0 [] ∗ ow c (owing c 3) ∗ (∃ f, rbF (nxt c) 0 f) ∗ dutyTok ER (dcell (payDev c 6) 6) 0 false ∗ dutyTok ER (dcell (payDev c 9) 9) 0 false)
      ⊢ iprop((iprop(qE I c (src c 0) ∗ woP I c ∗ kE I c ∗ vE I c ∗ ow c (owing c 2) ∗ cred (tallyAt (dcell c 6) () N)) -∗ wp frame (wpE (defs₀ (F := F)) 𝒱₀ (c : Thread nD τ) none) Set.univ (kk ⟨⟩) Q)
        -∗ wp frame (wpE (defs₀ (F := F)) 𝒱₀ (c : Thread nD τ) none) Set.univ (k0_part20 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c v13 k0_pay8 (cosT (F := F) (rowWord (src c 0))) (sinT (F := F) (rowWord (src c 0))) (k0_pay61 (xLoad4 (I.X (src c 0)) 1) (I.Wq c)) (k0_pay62 (xLoad4 (I.X (src c 0)) 1) (I.Wq c)) (k0_pay63 (xLoad4 (I.X (src c 0)) 1) (I.Wq c)) >>= kk) Q) := by
  iintro ⟨#HR, #HL, HQ, Hwo, HK, HV, Hs0, HO, He0, Ht6, Ht9⟩ Hk
  simp only [k0_part20_eq_skeleton]
  unfold k0_part20_skel
  simp only [semSignalWord, semWaitWord, Prog.lift, Prog.bind_op, Prog.bind_ret, Prog.pure_eq_ret, Prog.bind_assoc, wp_deviceId]
  iapply (put_q I c (src c 0) [0] 1 rfl (tile_64 (rowWord (src c 0)) (I.X (src c 0)) 1 (I.Wq c))) $$ HQ; iintro HQ
  ihave HQ := (qH_full I c (src c 0)) $$ HQ
  iapply (wp_loop1 I c (src c 0)) $$ [HK HV Hwo HQ]
  · unfold loopR
    isplitl [HK]; · iexact HK
    isplitl [HV]; · iexact HV
    isplitl [Hwo]; · iexact Hwo
    iexact HQ
  unfold loopR
  iintro ⟨HK, HV, Hwo, HQ⟩
  dsimp only []
  iapply (put_s I c 0 0 [] 0 rfl (sum_67 (I.part c (src c 0) 0))) $$ Hs0; iintro Hs0
  iapply (put_s I c 0 0 [0] 1 rfl (sum_68 (I.part c (src c 0) 1))) $$ Hs0; iintro Hs0
  ihave Hs0 := (sH_full I c 0 0) $$ Hs0
  iapply (wp_send_rb I K c 0 0 _ _ 6 9 2 (by decide) (by decide) rfl rfl rfl (pay_own c (by decide)) (pay_nxt c (by decide)) _ (dev_6 c) rfl rfl) $$ [Hs0 He0 HO Ht6 Ht9]
  · isplitr; · iexact HR
    isplitl [Hs0]; · iexact Hs0
    isplitl [He0]; · iexact He0
    isplitl [HO]; · iexact HO
    isplitl [Ht6]; · iexact Ht6
    iexact Ht9
  iintro ⟨Hc6, HO⟩
  iapply Hk $$ [HQ Hwo HK HV HO Hc6]
  isplitl [HQ]; · iexact HQ
  isplitl [Hwo]; · iexact Hwo
  isplitl [HK]; · iexact HK
  isplitl [HV]; · iexact HV
  isplitl [HO]; · iexact HO
  iexact Hc6

theorem part_21  {α : Type} {Q : α → sProp 𝕄} {kk : _ → Prog (TpuEff nD τ sig (Elt F) Λ₀ .tc) α} :
    iprop(xgF c 1 fullShare.right (xgAll I c) ∗ wqP I c)
      ⊢ iprop((iprop(xgF c 1 fullShare.right (xgAll I c) ∗ wqP I c) -∗ wp frame (wpE (defs₀ (F := F)) 𝒱₀ (c : Thread nD τ) none) Set.univ (kk ⟨(cosT (F := F) (rowWord (src c 1))), (sinT (F := F) (rowWord (src c 1))), (k0_pay72 (xLoad4 (I.X (src c 1)) 0) (I.Wq c)), (k0_pay73 (xLoad4 (I.X (src c 1)) 0) (I.Wq c)), (k0_pay74 (xLoad4 (I.X (src c 1)) 0) (I.Wq c))⟩) Q)
        -∗ wp frame (wpE (defs₀ (F := F)) 𝒱₀ (c : Thread nD τ) none) Set.univ (k0_part21 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 (w2 c) k0_pay8 (freq (F := F)) io >>= kk) Q) := by
  iintro ⟨Hg1, Hwq⟩ Hk
  simp only [k0_part21_eq_skeleton]
  unfold k0_part21_skel
  simp only [semSignalWord, semWaitWord, Prog.lift, Prog.bind_op, Prog.bind_ret, Prog.pure_eq_ret, Prog.bind_assoc, wp_deviceId]
  iapply (get_xg I c fullShare.right 1 (by decide) 0 rfl) $$ Hg1; iintro Hg1
  iapply (get_wq I c rfl) $$ Hwq; iintro Hwq
  rw [cos_70, sinT_71]
  iapply Hk $$ [Hg1 Hwq]
  isplitl [Hg1]; · iexact Hg1
  iexact Hwq

theorem part_22 {v13 : BitVec 32} {α : Type} {Q : α → sProp 𝕄} {kk : _ → Prog (TpuEff nD τ sig (Elt F) Λ₀ .tc) α} :
    iprop(qE I c (src c 0) ∗ xgF c 1 fullShare.right (xgAll I c) ∗ wqP I c ∗ woP I c ∗ kE I c ∗ vE I c)
      ⊢ iprop((iprop(qE I c (src c 1) ∗ xgF c 1 fullShare.right (xgAll I c) ∗ wqP I c ∗ woP I c ∗ kE I c ∗ vE I c) -∗ wp frame (wpE (defs₀ (F := F)) 𝒱₀ (c : Thread nD τ) none) Set.univ (kk ⟨(I.part c (src c 1) 0), (I.part c (src c 1) 1)⟩) Q)
        -∗ wp frame (wpE (defs₀ (F := F)) 𝒱₀ (c : Thread nD τ) none) Set.univ (k0_part22 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 k0_pay8 (cosT (F := F) (rowWord (src c 1))) (sinT (F := F) (rowWord (src c 1))) (k0_pay72 (xLoad4 (I.X (src c 1)) 0) (I.Wq c)) (k0_pay73 (xLoad4 (I.X (src c 1)) 0) (I.Wq c)) (k0_pay74 (xLoad4 (I.X (src c 1)) 0) (I.Wq c)) >>= kk) Q) := by
  iintro ⟨HQ, Hg1, Hwq, Hwo, HK, HV⟩ Hk
  simp only [k0_part22_eq_skeleton]
  unfold k0_part22_skel
  simp only [semSignalWord, semWaitWord, Prog.lift, Prog.bind_op, Prog.bind_ret, Prog.pure_eq_ret, Prog.bind_assoc, wp_deviceId]
  ihave HQ := (qE_any I c (src c 0) (src c 1)) $$ HQ
  iapply (put_q I c (src c 1) [] 0 rfl (tile_75 (rowWord (src c 1)) (I.X (src c 1)) 0 (I.Wq c))) $$ HQ; iintro HQ
  iapply (get_xg I c fullShare.right 1 (by decide) 1 rfl) $$ Hg1; iintro Hg1
  iapply (get_wq I c rfl) $$ Hwq; iintro Hwq
  iapply (put_q I c (src c 1) [0] 1 rfl (tile_76 (rowWord (src c 1)) (I.X (src c 1)) 1 (I.Wq c))) $$ HQ; iintro HQ
  ihave HQ := (qH_full I c (src c 1)) $$ HQ
  iapply (wp_loop2 I c (src c 1)) $$ [HK HV Hwo HQ]
  · unfold loopR
    isplitl [HK]; · iexact HK
    isplitl [HV]; · iexact HV
    isplitl [Hwo]; · iexact Hwo
    iexact HQ
  unfold loopR
  iintro ⟨HK, HV, Hwo, HQ⟩
  dsimp only []
  iapply Hk $$ [HQ Hg1 Hwq Hwo HK HV]
  isplitl [HQ]; · iexact HQ
  isplitl [Hg1]; · iexact Hg1
  isplitl [Hwq]; · iexact Hwq
  isplitl [Hwo]; · iexact Hwo
  isplitl [HK]; · iexact HK
  iexact HV

end Cert.RingProof
-- ==== Proof.PartE.lean ====
module

public import proofs.«01_k».proof.Proof.Places

@[expose] public section

/-! # Parts 23 to 26 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_23  {α : Type} {Q : α → sProp 𝕄} {kk : _ → Prog (TpuEff nD τ sig (Elt F) Λ₀ .tc) α} :
    iprop(records I K ∗ levAts L lv ∗ atPos ER (dcell c 9) 0 ∅ 0 ∗ cred (tallyAt (dcell c 9) () N) ∗ ow c (owing c 2) ∗ atPos ER (dcell c 6) 0 ∅ 0 ∗ cred (tallyAt (dcell c 6) () N) ∗ sH I c 1 1 [])
      ⊢ iprop((iprop(semVal (dcell c 9) 0 ∗ ow c (owing c 2) ∗ rbF c 0 (rbAll I c) ∗ semVal (dcell c 6) 0 ∗ sbF c 0 (sbAll I 0 c) ∗ sH I c 1 1 [0]) -∗ wp frame (wpE (defs₀ (F := F)) 𝒱₀ (c : Thread nD τ) none) Set.univ (kk (k0_pay80 (I.part c (src c 1) 1) (tLoad4 (I.sent 0 (prv c) 1)))) Q)
        -∗ wp frame (wpE (defs₀ (F := F)) 𝒱₀ (c : Thread nD τ) none) Set.univ (k0_part23 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 (I.part c (src c 1) 0) (I.part c (src c 1) 1) >>= kk) Q) := by
  iintro ⟨#HR, #HL, Ha9, Hc9, HO, Ha6, Hc6, Hs1⟩ Hk
  simp only [k0_part23_eq_skeleton]
  unfold k0_part23_skel
  simp only [semSignalWord, semWaitWord, Prog.lift, Prog.bind_op, Prog.bind_ret, Prog.pure_eq_ret, Prog.bind_assoc, wp_deviceId]
  iapply (wp_wait_copy I K c 9 2 rfl (N_rb 0 _) (by decide) (by decide)) $$ [Hc9 HO Ha9]
  · isplitr; · iexact HR
    isplitr; · iexact HL
    isplitl [Hc9]; · iexact Hc9
    isplitl [HO]; · iexact HO
    iexact Ha9
  iintro ⟨HO, Hr0, Ha9⟩
  ihave Hr0 := (Entails.of_eq (show dmaPay I c 9 = rbF c 0 (rbAll I c) from rfl)) $$ Hr0
  iapply (wp_wait_copy I K c 6 2 rfl (N_sb 0 _) (by decide) (by decide)) $$ [Hc6 HO Ha6]
  · isplitr; · iexact HR
    isplitr; · iexact HL
    isplitl [Hc6]; · iexact Hc6
    isplitl [HO]; · iexact HO
    iexact Ha6
  iintro ⟨HO, Hs0, Ha6⟩
  ihave Hs0 := (Entails.of_eq (show dmaPay I c 6 = sbF c 0 (sbAll I 0 c) from rfl)) $$ Hs0
  iapply (get_rb I c 0 (by decide) 0 rfl) $$ Hr0; iintro Hr0
  iapply (put_s I c 1 1 [] 0 rfl (sum_79 (I.part c (src c 1) 0) (I.sent 0 (prv c) 0))) $$ Hs1; iintro Hs1
  iapply (get_rb I c 0 (by decide) 1 rfl) $$ Hr0; iintro Hr0
  iapply Hk $$ [Ha9 HO Hr0 Ha6 Hs0 Hs1]
  isplitl [Ha9]; · iexact Ha9
  isplitl [HO]; · iexact HO
  isplitl [Hr0]; · iexact Hr0
  isplitl [Ha6]; · iexact Ha6
  isplitl [Hs0]; · iexact Hs0
  iexact Hs1

theorem part_24 {v13 : BitVec 32} {α : Type} {Q : α → sProp 𝕄} {kk : _ → Prog (TpuEff nD τ sig (Elt F) Λ₀ .tc) α} :
    iprop(records I K ∗ levAts L lv ∗ sH I c 1 1 [0] ∗ ow c (owing c 2) ∗ (∃ f, rbF (nxt c) 1 f) ∗ dutyTok ER (dcell (payDev c 7) 7) 0 false ∗ dutyTok ER (dcell (payDev c 10) 10) 0 false)
      ⊢ iprop((iprop(ow c (owing c 1) ∗ cred (tallyAt (dcell c 7) () N)) -∗ wp frame (wpE (defs₀ (F := F)) 𝒱₀ (c : Thread nD τ) none) Set.univ (kk ⟨(cosT (F := F) (rowWord (src c 2))), (sin (angle (F := F) (rowWord (src c 2)))), (Scalar.ofBits (F := F) .f32 0xBF800000#32)⟩) Q)
        -∗ wp frame (wpE (defs₀ (F := F)) 𝒱₀ (c : Thread nD τ) none) Set.univ (k0_part24 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) v13 (freq (F := F)) io (k0_pay80 (I.part c (src c 1) 1) (tLoad4 (I.sent 0 (prv c) 1))) >>= kk) Q) := by
  iintro ⟨#HR, #HL, Hs1, HO, He1, Ht7, Ht10⟩ Hk
  simp only [k0_part24_eq_skeleton]
  unfold k0_part24_skel
  simp only [semSignalWord, semWaitWord, Prog.lift, Prog.bind_op, Prog.bind_ret, Prog.pure_eq_ret, Prog.bind_assoc, wp_deviceId]
  iapply (put_s I c 1 1 [0] 1 rfl (sum_81 (I.part c (src c 1) 1) (I.sent 0 (prv c) 1))) $$ Hs1; iintro Hs1
  ihave Hs1 := (sH_full I c 1 1) $$ Hs1
  iapply (wp_send_rb I K c 1 1 _ _ 7 10 1 (by decide) (by decide) rfl rfl rfl (pay_own c (by decide)) (pay_nxt c (by decide)) _ (dev_7 c) rfl rfl) $$ [Hs1 He1 HO Ht7 Ht10]
  · isplitr; · iexact HR
    isplitl [Hs1]; · iexact Hs1
    isplitl [He1]; · iexact He1
    isplitl [HO]; · iexact HO
    isplitl [Ht7]; · iexact Ht7
    iexact Ht10
  iintro ⟨Hc7, HO⟩
  rw [cos_83, sin_84]
  iapply Hk $$ [HO Hc7]
  isplitl [HO]; · iexact HO
  iexact Hc7

theorem part_25  {α : Type} {Q : α → sProp 𝕄} {kk : _ → Prog (TpuEff nD τ sig (Elt F) Λ₀ .tc) α} :
    iprop(xgF c 2 fullShare (xgAll I c) ∗ wqP I c ∗ qE I c (src c 1))
      ⊢ iprop((iprop(xgF c 2 fullShare (xgAll I c) ∗ wqP I c ∗ qH I c (src c 2) [0]) -∗ wp frame (wpE (defs₀ (F := F)) 𝒱₀ (c : Thread nD τ) none) Set.univ (kk ⟨(sinT (F := F) (rowWord (src c 2))), (k0_pay87 (xLoad4 (I.X (src c 2)) 1) (I.Wq c)), (k0_pay88 (xLoad4 (I.X (src c 2)) 1) (I.Wq c)), (k0_pay89 (xLoad4 (I.X (src c 2)) 1) (I.Wq c)), (k0_pay90 (xLoad4 (I.X (src c 2)) 1) (I.Wq c))⟩) Q)
        -∗ wp frame (wpE (defs₀ (F := F)) 𝒱₀ (c : Thread nD τ) none) Set.univ (k0_part25 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 k0_pay8 (cosT (F := F) (rowWord (src c 2))) (sin (angle (F := F) (rowWord (src c 2)))) (Scalar.ofBits (F := F) .f32 0xBF800000#32) >>= kk) Q) := by
  iintro ⟨Hg2, Hwq, HQ⟩ Hk
  simp only [k0_part25_eq_skeleton]
  unfold k0_part25_skel
  simp only [semSignalWord, semWaitWord, Prog.lift, Prog.bind_op, Prog.bind_ret, Prog.pure_eq_ret, Prog.bind_assoc, wp_deviceId]
  iapply (get_xg I c fullShare 2 (by decide) 0 rfl) $$ Hg2; iintro Hg2
  iapply (get_wq I c rfl) $$ Hwq; iintro Hwq
  ihave HQ := (qE_any I c (src c 1) (src c 2)) $$ HQ
  iapply (put_q I c (src c 2) [] 0 rfl (tile_86 (rowWord (src c 2)) (I.X (src c 2)) 0 (I.Wq c))) $$ HQ; iintro HQ
  iapply (get_xg I c fullShare 2 (by decide) 1 rfl) $$ Hg2; iintro Hg2
  iapply (get_wq I c rfl) $$ Hwq; iintro Hwq
  rw [sinT_85]
  iapply Hk $$ [Hg2 Hwq HQ]
  isplitl [Hg2]; · iexact Hg2
  isplitl [Hwq]; · iexact Hwq
  iexact HQ

theorem part_26 {v13 : BitVec 32} {α : Type} {Q : α → sProp 𝕄} {kk : _ → Prog (TpuEff nD τ sig (Elt F) Λ₀ .tc) α} :
    iprop(records I K ∗ levAts L lv ∗ qH I c (src c 2) [0] ∗ woP I c ∗ kE I c ∗ vE I c ∗ atPos ER (dcell c 10) 0 ∅ 0 ∗ cred (tallyAt (dcell c 10) () N) ∗ ow c (owing c 1) ∗ atPos ER (dcell c 7) 0 ∅ 0 ∗ cred (tallyAt (dcell c 7) () N))
      ⊢ iprop((iprop(qE I c (src c 2) ∗ woP I c ∗ kE I c ∗ vE I c ∗ semVal (dcell c 10) 0 ∗ ow c (owing c 1) ∗ rbF c 1 (rbAll I c) ∗ semVal (dcell c 7) 0 ∗ sbF c 1 (sbAll I 1 c)) -∗ wp frame (wpE (defs₀ (F := F)) 𝒱₀ (c : Thread nD τ) none) Set.univ (kk ⟨(I.part c (src c 2) 0), (I.part c (src c 2) 1)⟩) Q)
        -∗ wp frame (wpE (defs₀ (F := F)) 𝒱₀ (c : Thread nD τ) none) Set.univ (k0_part26 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 k0_pay8 (cosT (F := F) (rowWord (src c 2))) (sinT (F := F) (rowWord (src c 2))) (k0_pay87 (xLoad4 (I.X (src c 2)) 1) (I.Wq c)) (k0_pay88 (xLoad4 (I.X (src c 2)) 1) (I.Wq c)) (k0_pay89 (xLoad4 (I.X (src c 2)) 1) (I.Wq c)) (k0_pay90 (xLoad4 (I.X (src c 2)) 1) (I.Wq c)) >>= kk) Q) := by
  iintro ⟨#HR, #HL, HQ, Hwo, HK, HV, Ha10, Hc10, HO, Ha7, Hc7⟩ Hk
  simp only [k0_part26_eq_skeleton]
  unfold k0_part26_skel
  simp only [semSignalWord, semWaitWord, Prog.lift, Prog.bind_op, Prog.bind_ret, Prog.pure_eq_ret, Prog.bind_assoc, wp_deviceId]
  iapply (put_q I c (src c 2) [0] 1 rfl (tile_91 (rowWord (src c 2)) (I.X (src c 2)) 1 (I.Wq c))) $$ HQ; iintro HQ
  ihave HQ := (qH_full I c (src c 2)) $$ HQ
  iapply (wp_loop3 I c (src c 2)) $$ [HK HV Hwo HQ]
  · unfold loopR
    isplitl [HK]; · iexact HK
    isplitl [HV]; · iexact HV
    isplitl [Hwo]; · iexact Hwo
    iexact HQ
  unfold loopR
  iintro ⟨HK, HV, Hwo, HQ⟩
  dsimp only []
  iapply (wp_wait_copy I K c 10 1 rfl (N_rb 1 _) (by decide) (by decide)) $$ [Hc10 HO Ha10]
  · isplitr; · iexact HR
    isplitr; · iexact HL
    isplitl [Hc10]; · iexact Hc10
    isplitl [HO]; · iexact HO
    iexact Ha10
  iintro ⟨HO, Hr1, Ha10⟩
  ihave Hr1 := (Entails.of_eq (show dmaPay I c 10 = rbF c 1 (rbAll I c) from rfl)) $$ Hr1
  iapply (wp_wait_copy I K c 7 1 rfl (N_sb 1 _) (by decide) (by decide)) $$ [Hc7 HO Ha7]
  · isplitr; · iexact HR
    isplitr; · iexact HL
    isplitl [Hc7]; · iexact Hc7
    isplitl [HO]; · iexact HO
    iexact Ha7
  iintro ⟨HO, Hs1, Ha7⟩
  ihave Hs1 := (Entails.of_eq (show dmaPay I c 7 = sbF c 1 (sbAll I 1 c) from rfl)) $$ Hs1
  iapply Hk $$ [HQ Hwo HK HV Ha10 HO Hr1 Ha7 Hs1]
  isplitl [HQ]; · iexact HQ
  isplitl [Hwo]; · iexact Hwo
  isplitl [HK]; · iexact HK
  isplitl [HV]; · iexact HV
  isplitl [Ha10]; · iexact Ha10
  isplitl [HO]; · iexact HO
  isplitl [Hr1]; · iexact Hr1
  isplitl [Ha7]; · iexact Ha7
  iexact Hs1

end Cert.RingProof
-- ==== Proof.PartF.lean ====
module

public import proofs.«01_k».proof.Proof.Places

@[expose] public section

/-! # Parts 27 to 29 of the kernel -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

theorem part_27 {v13 : BitVec 32} {α : Type} {Q : α → sProp 𝕄} {kk : _ → Prog (TpuEff nD τ sig (Elt F) Λ₀ .tc) α} :
    iprop(records I K ∗ levAts L lv ∗ rbF c 1 (rbAll I c) ∗ sbF c 0 (sbAll I 0 c) ∗ ow c (owing c 1) ∗ (∃ f, rbF (nxt c) 2 f) ∗ dutyTok ER (dcell (payDev c 8) 8) 0 false ∗ dutyTok ER (dcell (payDev c 11) 11) 0 false)
      ⊢ iprop((iprop(rbF c 1 (rbAll I c) ∗ ow c (owing c 0) ∗ cred (tallyAt (dcell c 8) () N)) -∗ wp frame (wpE (defs₀ (F := F)) 𝒱₀ (c : Thread nD τ) none) Set.univ (kk (Scalar.subi (Scalar.addi (w2 c) 4#32) 1#32)) Q)
        -∗ wp frame (wpE (defs₀ (F := F)) 𝒱₀ (c : Thread nD τ) none) Set.univ (k0_part27 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 c (w2 c) v13 (I.part c (src c 2) 0) (I.part c (src c 2) 1) >>= kk) Q) := by
  iintro ⟨#HR, #HL, Hr1, Hs0, HO, He2, Ht8, Ht11⟩ Hk
  simp only [k0_part27_eq_skeleton]
  unfold k0_part27_skel
  simp only [semSignalWord, semWaitWord, Prog.lift, Prog.bind_op, Prog.bind_ret, Prog.pure_eq_ret, Prog.bind_assoc, wp_deviceId]
  iapply (get_rb I c 1 (by decide) 0 rfl) $$ Hr1; iintro Hr1
  ihave Hs0 := (sbF_any I c 2 0 _) $$ Hs0
  iapply (put_s I c 2 0 [] 0 rfl (sum_94 (I.part c (src c 2) 0) (I.sent 1 (prv c) 0))) $$ Hs0; iintro Hs0
  iapply (get_rb I c 1 (by decide) 1 rfl) $$ Hr1; iintro Hr1
  iapply (put_s I c 2 0 [0] 1 rfl (sum_95 (I.part c (src c 2) 1) (I.sent 1 (prv c) 1))) $$ Hs0; iintro Hs0
  ihave Hs0 := (sH_full I c 2 0) $$ Hs0
  iapply (wp_send_rb I K c 2 0 _ _ 8 11 0 (by decide) (by decide) rfl rfl rfl (pay_own c (by decide)) (pay_nxt c (by decide)) _ (dev_8 c) rfl rfl) $$ [Hs0 He2 HO Ht8 Ht11]
  · isplitr; · iexact HR
    isplitl [Hs0]; · iexact Hs0
    isplitl [He2]; · iexact He2
    isplitl [HO]; · iexact HO
    isplitl [Ht8]; · iexact Ht8
    iexact Ht11
  iintro ⟨Hc8, HO⟩
  iapply Hk $$ [Hr1 HO Hc8]
  isplitl [Hr1]; · iexact Hr1
  isplitl [HO]; · iexact HO
  iexact Hc8

theorem part_28  {α : Type} {Q : α → sProp 𝕄} {kk : _ → Prog (TpuEff nD τ sig (Elt F) Λ₀ .tc) α} :
    iprop(xP I fullShare.right c ∗ wqP I c)
      ⊢ iprop((iprop(xP I fullShare.right c ∗ wqP I c) -∗ wp frame (wpE (defs₀ (F := F)) 𝒱₀ (c : Thread nD τ) none) Set.univ (kk ⟨(cosT (F := F) (rowWord c)), (sinT (F := F) (rowWord c)), (k0_pay99 k0_pay8 (freq (F := F)) io (Scalar.subi (Scalar.addi (w2 c) 4#32) 1#32) (xLoad (I.X c) 0) (I.Wq c))⟩) Q)
        -∗ wp frame (wpE (defs₀ (F := F)) 𝒱₀ (c : Thread nD τ) none) Set.univ (k0_part28 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 k0_pay8 (freq (F := F)) io (Scalar.subi (Scalar.addi (w2 c) 4#32) 1#32) >>= kk) Q) := by
  iintro ⟨Hxr, Hwq⟩ Hk
  simp only [k0_part28_eq_skeleton]
  unfold k0_part28_skel
  simp only [semSignalWord, semWaitWord, Prog.lift, Prog.bind_op, Prog.bind_ret, Prog.pure_eq_ret, Prog.bind_assoc, wp_deviceId]
  iapply (get_x I c fullShare.right 0 rfl) $$ Hxr; iintro Hxr
  iapply (get_wq I c rfl) $$ Hwq; iintro Hwq
  rw [cos_97, sinT_98]
  iapply Hk $$ [Hxr Hwq]
  isplitl [Hxr]; · iexact Hxr
  iexact Hwq

theorem part_29 {v13 : BitVec 32} {α : Type} {Q : α → sProp 𝕄} {kk : _ → Prog (TpuEff nD τ sig (Elt F) Λ₀ .tc) α} :
    iprop(qE I c (src c 2) ∗ xP I fullShare.right c ∗ wqP I c ∗ woP I c ∗ kE I c ∗ vE I c)
      ⊢ iprop((iprop(qE I c c ∗ xP I fullShare.right c ∗ wqP I c ∗ woP I c ∗ kE I c ∗ vE I c) -∗ wp frame (wpE (defs₀ (F := F)) 𝒱₀ (c : Thread nD τ) none) Set.univ (kk ⟨(I.part c c 0), (I.part c c 1)⟩) Q)
        -∗ wp frame (wpE (defs₀ (F := F)) 𝒱₀ (c : Thread nD τ) none) Set.univ (k0_part29 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 v13 k0_pay8 (cosT (F := F) (rowWord c)) (sinT (F := F) (rowWord c)) (k0_pay99 k0_pay8 (freq (F := F)) io (Scalar.subi (Scalar.addi (w2 c) 4#32) 1#32) (xLoad (I.X c) 0) (I.Wq c)) >>= kk) Q) := by
  iintro ⟨HQ, Hxr, Hwq, Hwo, HK, HV⟩ Hk
  simp only [k0_part29_eq_skeleton]
  unfold k0_part29_skel
  simp only [semSignalWord, semWaitWord, Prog.lift, Prog.bind_op, Prog.bind_ret, Prog.pure_eq_ret, Prog.bind_assoc, wp_deviceId]
  ihave HQ := (qE_any I c (src c 2) c) $$ HQ
  iapply (put_q I c c [] 0 rfl (tile_100 c (I.X c) 0 (I.Wq c))) $$ HQ; iintro HQ
  iapply (get_x I c fullShare.right 1 rfl) $$ Hxr; iintro Hxr
  iapply (get_wq I c rfl) $$ Hwq; iintro Hwq
  iapply (put_q I c c [0] 1 rfl (tile_101 (rowWord c) (I.X c) 1 (I.Wq c))) $$ HQ; iintro HQ
  ihave HQ := (qH_full I c c) $$ HQ
  iapply (wp_loop4 I c c) $$ [HK HV Hwo HQ]
  · unfold loopR
    isplitl [HK]; · iexact HK
    isplitl [HV]; · iexact HV
    isplitl [Hwo]; · iexact Hwo
    iexact HQ
  unfold loopR
  iintro ⟨HK, HV, Hwo, HQ⟩
  dsimp only []
  iapply Hk $$ [HQ Hxr Hwq Hwo HK HV]
  isplitl [HQ]; · iexact HQ
  isplitl [Hxr]; · iexact Hxr
  isplitl [Hwq]; · iexact Hwq
  isplitl [Hwo]; · iexact Hwo
  isplitl [HK]; · iexact HK
  iexact HV

end Cert.RingProof
-- ==== Proof.Whole.lean ====
module

public import proofs.«01_k».proof.Proof.PartA
public import proofs.«01_k».proof.Proof.PartB
public import proofs.«01_k».proof.Proof.PartC
public import proofs.«01_k».proof.Proof.PartD
public import proofs.«01_k».proof.Proof.PartE
public import proofs.«01_k».proof.Proof.PartF

@[expose] public section

/-! # The kernel's body, run -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

/-- What a device holds before its first signal, and after its last wait. -/
def before : sProp 𝕄 :=
  iprop(ow c (O₀ c) ∗ xP I fullShare.left c ∗ xP I fullShare.right c ∗ wqP I c ∗ wkP I c ∗ wvP I c ∗ woP I c ∗ kH I c [] ∗ vH I c [] ∗ qH I c (src c 0) [] ∗ sH I c 0 0 [] ∗ sH I c 1 1 [] ∗ atPos ER (dcell c 0) 0 ∅ 0 ∗ dutyTok ER (dcell (payDev c 0) 0) 0 false ∗ atPos ER (dcell c 1) 0 ∅ 0 ∗ dutyTok ER (dcell (payDev c 1) 1) 0 false ∗ atPos ER (dcell c 2) 0 ∅ 0 ∗ dutyTok ER (dcell (payDev c 2) 2) 0 false ∗ atPos ER (dcell c 3) 0 ∅ 0 ∗ dutyTok ER (dcell (payDev c 3) 3) 0 false ∗ atPos ER (dcell c 4) 0 ∅ 0 ∗ dutyTok ER (dcell (payDev c 4) 4) 0 false ∗ atPos ER (dcell c 5) 0 ∅ 0 ∗ dutyTok ER (dcell (payDev c 5) 5) 0 false ∗ atPos ER (dcell c 6) 0 ∅ 0 ∗ dutyTok ER (dcell (payDev c 6) 6) 0 false ∗ atPos ER (dcell c 7) 0 ∅ 0 ∗ dutyTok ER (dcell (payDev c 7) 7) 0 false ∗ atPos ER (dcell c 8) 0 ∅ 0 ∗ dutyTok ER (dcell (payDev c 8) 8) 0 false ∗ atPos ER (dcell c 9) 0 ∅ 0 ∗ dutyTok ER (dcell (payDev c 9) 9) 0 false ∗ atPos ER (dcell c 10) 0 ∅ 0 ∗ dutyTok ER (dcell (payDev c 10) 10) 0 false ∗ atPos ER (dcell c 11) 0 ∅ 0 ∗ dutyTok ER (dcell (payDev c 11) 11) 0 false ∗ cred (tallyAt (dcell c 3) () N) ∗ cred (tallyAt (dcell c 4) () N) ∗ cred (tallyAt (dcell c 5) () N) ∗ cred (tallyAt (dcell c 9) () N) ∗ cred (tallyAt (dcell c 10) () N) ∗ cred (tallyAt (dcell c 11) () N) ∗ cred (tallyAt (barCell c) () 2) ∗ atPos ER (barCell c) 0 ∅ 0 ∗ dutyTok ER (barCell (nxt c)) 0 false ∗ dutyTok ER (barCell (prv c)) 0 true ∗ slots (F := F) c)
def after : sProp 𝕄 :=
  iprop(xP I fullShare.right c ∗ wqP I c ∗ wkP I c ∗ wvP I c ∗ woP I c ∗ kE I c ∗ vE I c ∗ qE I c c ∗ semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ ow c (owing c 0) ∗ semVal (barCell c) 0 ∗ xP I fullShare.left c ∗ xgF c 0 fullShare.right (xgAll I c) ∗ xgF c 0 fullShare.left (xgAll I c) ∗ xgF c 1 fullShare.right (xgAll I c) ∗ xgF c 1 fullShare.left (xgAll I c) ∗ xgF c 2 fullShare (xgAll I c) ∗ rbF c 0 (rbAll I c) ∗ rbF c 1 (rbAll I c) ∗ sbF c 1 (sbAll I 1 c) ∗ rbF c 2 (rbAll I c) ∗ sbF c 0 (sbAll I 2 c))

theorem part_30 {α : Type} {Q : α → sProp 𝕄} {kk : _ → Prog (TpuEff nD τ sig (Elt F) Λ₀ .tc) α} :
    iprop(records I K ∗ levAts L lv ∗ before I c)
      ⊢ iprop((after I c -∗ wp frame (wpE (defs₀ (F := F)) 𝒱₀ (c : Thread nD τ) none) Set.univ (kk ⟨(I.part c c 1), (k0_pay104 (I.part c c 0) (tLoad4 (I.sent 2 (prv c) 0)))⟩) Q)
        -∗ wp frame (wpE (defs₀ (F := F)) 𝒱₀ (c : Thread nD τ) none) Set.univ (k0_part30 xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9 >>= kk) Q) := by
  unfold before after
  iintro ⟨#HR, #HL, HO, Hxl, Hxr, Hwq, Hwk, Hwv, Hwo, HK, HV, HQ, Hs0, Hs1, Ha0, Ht0, Ha1, Ht1, Ha2, Ht2, Ha3, Ht3, Ha4, Ht4, Ha5, Ht5, Ha6, Ht6, Ha7, Ht7, Ha8, Ht8, Ha9, Ht9, Ha10, Ht10, Ha11, Ht11, Hc3, Hc4, Hc5, Hc9, Hc10, Hc11, Hcb, Hab, Htb1, Htb2, Hsl⟩ Hk
  simp only [k0_part30_eq_skeleton]
  unfold k0_part30_skel
  simp only [Prog.bind_assoc]
  iapply (part_5 I K c) $$ [HO Hcb Hab Htb1 Htb2 Hsl]
  · isplitr; · iexact HR
    isplitr; · iexact HL
    isplitl [HO]; · iexact HO
    isplitl [Hcb]; · iexact Hcb
    isplitl [Hab]; · iexact Hab
    isplitl [Htb1]; · iexact Htb1
    isplitl [Htb2]; · iexact Htb2
    iexact Hsl
  iintro %r5
  iintro ⟨HO, Hab, Hd0, Hd1, Hd2, He0, He1, He2⟩
  simp only [Prog.bind_assoc]
  iapply (part_6 (F := F) c) $$ []
  · iempintro
  simp only [Prog.bind_assoc]
  iapply (part_7 I K c) $$ [HO Hxl Hd0 Ht0 Ht3]
  · isplitr; · iexact HR
    isplitr; · iexact HL
    isplitl [HO]; · iexact HO
    isplitl [Hxl]; · iexact Hxl
    isplitl [Hd0]; · iexact Hd0
    isplitl [Ht0]; · iexact Ht0
    iexact Ht3
  iintro %r7
  iintro ⟨HO, Hc0⟩
  simp only [Prog.bind_assoc]
  iapply (part_8 I c) $$ [Hxr Hwk Hwv HK HV]
  · isplitl [Hxr]; · iexact Hxr
    isplitl [Hwk]; · iexact Hwk
    isplitl [Hwv]; · iexact Hwv
    isplitl [HK]; · iexact HK
    iexact HV
  iintro ⟨Hxr, Hwk, Hwv, HK, HV⟩
  simp only [Prog.bind_assoc]
  iapply (part_9 I K c) $$ [Hwv HK HV Ha0 Hc0 HO]
  · isplitr; · iexact HR
    isplitr; · iexact HL
    isplitl [Hwv]; · iexact Hwv
    isplitl [HK]; · iexact HK
    isplitl [HV]; · iexact HV
    isplitl [Ha0]; · iexact Ha0
    isplitl [Hc0]; · iexact Hc0
    iexact HO
  iintro ⟨Hwv, HK, HV, Ha0, HO, Hxl⟩
  simp only [Prog.bind_assoc]
  iapply (part_10 I K c) $$ [Ha3 Hc3 HO Hd1 Ht1 Ht4]
  · isplitr; · iexact HR
    isplitr; · iexact HL
    isplitl [Ha3]; · iexact Ha3
    isplitl [Hc3]; · iexact Hc3
    isplitl [HO]; · iexact HO
    isplitl [Hd1]; · iexact Hd1
    isplitl [Ht1]; · iexact Ht1
    iexact Ht4
  iintro %r10
  iintro ⟨Ha3, HO, Hg0, Hc1⟩
  simp only [Prog.bind_assoc]
  iapply (part_11 I c) $$ [Hg0 Hwk Hwv HK HV]
  · isplitl [Hg0]; · iexact Hg0
    isplitl [Hwk]; · iexact Hwk
    isplitl [Hwv]; · iexact Hwv
    isplitl [HK]; · iexact HK
    iexact HV
  iintro ⟨Hg0, Hwk, Hwv, HK, HV⟩
  simp only [Prog.bind_assoc]
  iapply (part_12 I K c) $$ [Hwv HK HV Ha1 Hc1 HO]
  · isplitr; · iexact HR
    isplitr; · iexact HL
    isplitl [Hwv]; · iexact Hwv
    isplitl [HK]; · iexact HK
    isplitl [HV]; · iexact HV
    isplitl [Ha1]; · iexact Ha1
    isplitl [Hc1]; · iexact Hc1
    iexact HO
  iintro ⟨Hwv, HK, HV, Ha1, HO, Hg0l⟩
  simp only [Prog.bind_assoc]
  iapply (part_13 I K c) $$ [Ha4 Hc4 HO Hd2 Ht2 Ht5]
  · isplitr; · iexact HR
    isplitr; · iexact HL
    isplitl [Ha4]; · iexact Ha4
    isplitl [Hc4]; · iexact Hc4
    isplitl [HO]; · iexact HO
    isplitl [Hd2]; · iexact Hd2
    isplitl [Ht2]; · iexact Ht2
    iexact Ht5
  iintro %r13
  iintro ⟨Ha4, HO, Hg1, Hc2⟩
  simp only [Prog.bind_assoc]
  iapply (part_14 I c) $$ [Hg1 Hwk Hwv HK HV]
  · isplitl [Hg1]; · iexact Hg1
    isplitl [Hwk]; · iexact Hwk
    isplitl [Hwv]; · iexact Hwv
    isplitl [HK]; · iexact HK
    iexact HV
  iintro ⟨Hg1, Hwk, Hwv, HK, HV⟩
  simp only [Prog.bind_assoc]
  iapply (part_15 I K c) $$ [Hg1 Hwk Hwv HK HV Ha2 Hc2 HO]
  · isplitr; · iexact HR
    isplitr; · iexact HL
    isplitl [Hg1]; · iexact Hg1
    isplitl [Hwk]; · iexact Hwk
    isplitl [Hwv]; · iexact Hwv
    isplitl [HK]; · iexact HK
    isplitl [HV]; · iexact HV
    isplitl [Ha2]; · iexact Ha2
    isplitl [Hc2]; · iexact Hc2
    iexact HO
  iintro ⟨Hg1, Hwk, Hwv, HK, HV, Ha2, HO, Hg1l⟩
  simp only [Prog.bind_assoc]
  iapply (part_16 I K c) $$ [Ha5 Hc5 HO]
  · isplitr; · iexact HR
    isplitr; · iexact HL
    isplitl [Ha5]; · iexact Ha5
    isplitl [Hc5]; · iexact Hc5
    iexact HO
  iintro %r16
  iintro ⟨Ha5, HO, Hg2⟩
  simp only [Prog.bind_assoc]
  iapply (part_17 I c) $$ [Hg2 Hwk Hwv HK HV]
  · isplitl [Hg2]; · iexact Hg2
    isplitl [Hwk]; · iexact Hwk
    isplitl [Hwv]; · iexact Hwv
    isplitl [HK]; · iexact HK
    iexact HV
  iintro ⟨Hg2, Hwk, Hwv, HK, HV⟩
  simp only [Prog.bind_assoc]
  iapply (part_18 I c) $$ [HK HV]
  · isplitl [HK]; · iexact HK
    iexact HV
  iintro ⟨HK, HV⟩
  simp only [Prog.bind_assoc]
  iapply (part_19 I c) $$ [Hg0 Hwq HQ]
  · isplitl [Hg0]; · iexact Hg0
    isplitl [Hwq]; · iexact Hwq
    iexact HQ
  iintro ⟨Hg0, Hwq, HQ⟩
  simp only [Prog.bind_assoc]
  iapply (part_20 I K c) $$ [HQ Hwo HK HV Hs0 HO He0 Ht6 Ht9]
  · isplitr; · iexact HR
    isplitr; · iexact HL
    isplitl [HQ]; · iexact HQ
    isplitl [Hwo]; · iexact Hwo
    isplitl [HK]; · iexact HK
    isplitl [HV]; · iexact HV
    isplitl [Hs0]; · iexact Hs0
    isplitl [HO]; · iexact HO
    isplitl [He0]; · iexact He0
    isplitl [Ht6]; · iexact Ht6
    iexact Ht9
  iintro ⟨HQ, Hwo, HK, HV, HO, Hc6⟩
  simp only [Prog.bind_assoc]
  iapply (part_21 I c) $$ [Hg1 Hwq]
  · isplitl [Hg1]; · iexact Hg1
    iexact Hwq
  iintro ⟨Hg1, Hwq⟩
  simp only [Prog.bind_assoc]
  iapply (part_22 I c) $$ [HQ Hg1 Hwq Hwo HK HV]
  · isplitl [HQ]; · iexact HQ
    isplitl [Hg1]; · iexact Hg1
    isplitl [Hwq]; · iexact Hwq
    isplitl [Hwo]; · iexact Hwo
    isplitl [HK]; · iexact HK
    iexact HV
  iintro ⟨HQ, Hg1, Hwq, Hwo, HK, HV⟩
  simp only [Prog.bind_assoc]
  iapply (part_23 I K c) $$ [Ha9 Hc9 HO Ha6 Hc6 Hs1]
  · isplitr; · iexact HR
    isplitr; · iexact HL
    isplitl [Ha9]; · iexact Ha9
    isplitl [Hc9]; · iexact Hc9
    isplitl [HO]; · iexact HO
    isplitl [Ha6]; · iexact Ha6
    isplitl [Hc6]; · iexact Hc6
    iexact Hs1
  iintro ⟨Ha9, HO, Hr0, Ha6, Hs0, Hs1⟩
  simp only [Prog.bind_assoc]
  iapply (part_24 I K c) $$ [Hs1 HO He1 Ht7 Ht10]
  · isplitr; · iexact HR
    isplitr; · iexact HL
    isplitl [Hs1]; · iexact Hs1
    isplitl [HO]; · iexact HO
    isplitl [He1]; · iexact He1
    isplitl [Ht7]; · iexact Ht7
    iexact Ht10
  iintro ⟨HO, Hc7⟩
  simp only [Prog.bind_assoc]
  iapply (part_25 I c) $$ [Hg2 Hwq HQ]
  · isplitl [Hg2]; · iexact Hg2
    isplitl [Hwq]; · iexact Hwq
    iexact HQ
  iintro ⟨Hg2, Hwq, HQ⟩
  simp only [Prog.bind_assoc]
  iapply (part_26 I K c) $$ [HQ Hwo HK HV Ha10 Hc10 HO Ha7 Hc7]
  · isplitr; · iexact HR
    isplitr; · iexact HL
    isplitl [HQ]; · iexact HQ
    isplitl [Hwo]; · iexact Hwo
    isplitl [HK]; · iexact HK
    isplitl [HV]; · iexact HV
    isplitl [Ha10]; · iexact Ha10
    isplitl [Hc10]; · iexact Hc10
    isplitl [HO]; · iexact HO
    isplitl [Ha7]; · iexact Ha7
    iexact Hc7
  iintro ⟨HQ, Hwo, HK, HV, Ha10, HO, Hr1, Ha7, Hs1⟩
  simp only [Prog.bind_assoc]
  iapply (part_27 I K c) $$ [Hr1 Hs0 HO He2 Ht8 Ht11]
  · isplitr; · iexact HR
    isplitr; · iexact HL
    isplitl [Hr1]; · iexact Hr1
    isplitl [Hs0]; · iexact Hs0
    isplitl [HO]; · iexact HO
    isplitl [He2]; · iexact He2
    isplitl [Ht8]; · iexact Ht8
    iexact Ht11
  iintro ⟨Hr1, HO, Hc8⟩
  simp only [Prog.bind_assoc]
  iapply (part_28 I c) $$ [Hxr Hwq]
  · isplitl [Hxr]; · iexact Hxr
    iexact Hwq
  iintro ⟨Hxr, Hwq⟩
  simp only [Prog.bind_assoc]
  iapply (part_29 I c) $$ [HQ Hxr Hwq Hwo HK HV]
  · isplitl [HQ]; · iexact HQ
    isplitl [Hxr]; · iexact Hxr
    isplitl [Hwq]; · iexact Hwq
    isplitl [Hwo]; · iexact Hwo
    isplitl [HK]; · iexact HK
    iexact HV
  iintro ⟨HQ, Hxr, Hwq, Hwo, HK, HV⟩
  simp only [Prog.bind_assoc]
  simp only [Prog.lift, Prog.bind_op, Prog.bind_ret, Prog.pure_eq_ret]
  iapply (wp_wait_copy I K c 11 0 rfl (N_rb 2 _) (by decide) (by decide)) $$ [Hc11 HO Ha11]
  · isplitr; · iexact HR
    isplitr; · iexact HL
    isplitl [Hc11]; · iexact Hc11
    isplitl [HO]; · iexact HO
    iexact Ha11
  iintro ⟨HO, Hr2, Ha11⟩
  ihave Hr2 := (Entails.of_eq (show dmaPay I c 11 = rbF c 2 (rbAll I c) from rfl)) $$ Hr2
  iapply (wp_wait_copy I K c 8 0 rfl (N_sb 0 _) (by decide) (by decide)) $$ [Hc8 HO Ha8]
  · isplitr; · iexact HR
    isplitr; · iexact HL
    isplitl [Hc8]; · iexact Hc8
    isplitl [HO]; · iexact HO
    iexact Ha8
  iintro ⟨HO, Hs0, Ha8⟩
  ihave Hs0 := (Entails.of_eq (show dmaPay I c 8 = sbF c 0 (sbAll I 2 c) from rfl)) $$ Hs0
  iapply (get_rb I c 2 (by decide) 0 rfl) $$ Hr2; iintro Hr2
  iapply Hk
  isplitl [Hxr]; · iexact Hxr
  isplitl [Hwq]; · iexact Hwq
  isplitl [Hwk]; · iexact Hwk
  isplitl [Hwv]; · iexact Hwv
  isplitl [Hwo]; · iexact Hwo
  isplitl [HK]; · iexact HK
  isplitl [HV]; · iexact HV
  isplitl [HQ]; · iexact HQ
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [HO]; · iexact HO
  isplitl [Hab]; · iexact Hab
  isplitl [Hxl]; · iexact Hxl
  isplitl [Hg0]; · iexact Hg0
  isplitl [Hg0l]; · iexact Hg0l
  isplitl [Hg1]; · iexact Hg1
  isplitl [Hg1l]; · iexact Hg1l
  isplitl [Hg2]; · iexact Hg2
  isplitl [Hr0]; · iexact Hr0
  isplitl [Hr1]; · iexact Hr1
  isplitl [Hs1]; · iexact Hs1
  isplitl [Hr2]; · iexact Hr2
  iexact Hs0

theorem body_run {Q : PUnit → sProp 𝕄} :
    iprop(records I K ∗ levAts L lv ∗ before I c ∗ oH I c [])
      ⊢ iprop((iprop(after I c ∗ oH I c [1, 0]) -∗ Q ⟨⟩) -∗ wp frame (wpE (defs₀ (F := F)) 𝒱₀ (c : Thread nD τ) none) Set.univ (cc0__body xM (Memref.isWhole_whole _) wqM (Memref.isWhole_whole _) wkM (Memref.isWhole_whole _) wvM (Memref.isWhole_whole _) woM (Memref.isWhole_whole _) outM (Memref.isWhole_whole _) xgM (Memref.isWhole_whole _) kM (Memref.isWhole_whole _) vM (Memref.isWhole_whole _) qM (Memref.isWhole_whole _) sbM (Memref.isWhole_whole _) rbM (Memref.isWhole_whole _) cc0_scratch6 cc0_scratch7 cc0_scratch8 cc0_scratch9) Q) := by
  iintro ⟨#HR, #HL, HB, Ho⟩ Hk
  simp only [cc0__body_eq_skeleton]
  unfold cc0__body_skel
  iapply (part_30 I K c) $$ [HB]
  · isplitr; · iexact HR
    isplitr; · iexact HL
    iexact HB
  unfold after
  iintro ⟨Hxr, Hwq, Hwk, Hwv, Hwo, HK, HV, HQ, Ha0, Ha1, Ha2, Ha3, Ha4, Ha5, Ha6, Ha7, Ha8, Ha9, Ha10, Ha11, HO, Hab, Hxl, Hg0, Hg0l, Hg1, Hg1l, Hg2, Hr0, Hr1, Hs1, Hr2, Hs0⟩
  simp only [Prog.lift, Prog.bind_op, Prog.bind_ret, Prog.pure_eq_ret]
  iapply (put_o I c [] 0 rfl (sum_1 (I.part c c 0) (I.sent 2 (prv c) 0))) $$ Ho; iintro Ho
  iapply (get_rb I c 2 (by decide) 1 rfl) $$ Hr2; iintro Hr2
  iapply (put_o I c [0] 1 rfl (sum_2 (I.part c c 1) (I.sent 2 (prv c) 1))) $$ Ho; iintro Ho
  rw [wp_ret]
  imodintro
  iapply Hk
  isplitr [Ho]
  · isplitl [Hxr]; · iexact Hxr
    isplitl [Hwq]; · iexact Hwq
    isplitl [Hwk]; · iexact Hwk
    isplitl [Hwv]; · iexact Hwv
    isplitl [Hwo]; · iexact Hwo
    isplitl [HK]; · iexact HK
    isplitl [HV]; · iexact HV
    isplitl [HQ]; · iexact HQ
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [HO]; · iexact HO
    isplitl [Hab]; · iexact Hab
    isplitl [Hxl]; · iexact Hxl
    isplitl [Hg0]; · iexact Hg0
    isplitl [Hg0l]; · iexact Hg0l
    isplitl [Hg1]; · iexact Hg1
    isplitl [Hg1l]; · iexact Hg1l
    isplitl [Hg2]; · iexact Hg2
    isplitl [Hr0]; · iexact Hr0
    isplitl [Hr1]; · iexact Hr1
    isplitl [Hs1]; · iexact Hs1
    isplitl [Hr2]; · iexact Hr2
    iexact Hs0
  iexact Ho

end Cert.RingProof
-- ==== Proof.Entry.lean ====
module

public import proofs.«01_k».proof.Proof.Whole
public import proofs.«01_k».proof.Proof.Gen.KernelIdeal.Launch
public import proofs.«01_k».proof.Proof.Gen.KernelIdeal.Points
public import Idealize.ShloMosaic.Lib.Ring

@[expose] public section

/-! # From what the launch hands a device to what its body takes, and back -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 13 → ℕ) (c : Dev nD)

omit [FloatOps F] [Named F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] [Named F] in
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The buffers of slots -/

theorem slots_disj (n : ℕ) (h h' : ℕ) (hne : h ≠ h') : Disjoint (slotSet n h) (slotSet n h') :=
  Finset.disjoint_left.mpr fun i hi hi' => hne ((mem_slotSet.mp hi).symm.trans (mem_slotSet.mp hi'))

theorem slots_cover : (Finset.univ : Finset (Fin 3)).biUnion (fun s => slotSet 3 s.val) = Finset.univ :=
  Finset.eq_univ_of_forall fun i => Finset.mem_biUnion.mpr ⟨i 0, Finset.mem_univ _, mem_slotSet.mpr rfl⟩

theorem slots2_cover : slotSet 2 0 ∪ slotSet 2 1 = Finset.univ :=
  Finset.eq_univ_of_forall fun i => Finset.mem_union.mpr
    ((by decide : ∀ k : Fin 2, k.val = 0 ∨ k.val = 1) (i 0) |>.imp (fun h => mem_slotSet.mpr h) fun h => mem_slotSet.mpr h)

omit [FloatOps F] [Named F] in
theorem xg_open : iprop(∃ f : Buf (Elt F) ((c : Thread nD τ).loc cc0_scratch0), ((c : Thread nD τ).loc cc0_scratch0) ↦{fullShare} f)
    ⊢ (iprop((∃ f, xgF c 0 fullShare f) ∗ (∃ f, xgF c 1 fullShare f) ∗ ∃ f, xgF c 2 fullShare f) : sProp 𝕄) :=
  Ring.slots3_split (ℓ := (c : Thread nD τ).loc cc0_scratch0) (q := fullShare) (fun s : Fin 3 => slotSet 3 s.val) (fun s s' h => slots_disj 3 _ _ fun e => h (Fin.ext e)) slots_cover
    (xgF c 0 fullShare) (xgF c 1 fullShare) (xgF c 2 fullShare) (fun _ => rfl) (fun _ => rfl) (fun _ => rfl)
omit [FloatOps F] [Named F] in
theorem xg_close : (iprop((∃ f, xgF c 0 fullShare f) ∗ (∃ f, xgF c 1 fullShare f) ∗ ∃ f, xgF c 2 fullShare f) : sProp 𝕄)
    ⊢ iprop(∃ f : Buf (Elt F) ((c : Thread nD τ).loc cc0_scratch0), ((c : Thread nD τ).loc cc0_scratch0) ↦{fullShare} f) :=
  Ring.slots3_join (ℓ := (c : Thread nD τ).loc cc0_scratch0) (q := fullShare) (fun s : Fin 3 => slotSet 3 s.val) (fun s s' h => slots_disj 3 _ _ fun e => h (Fin.ext e)) slots_cover
    (xgF c 0 fullShare) (xgF c 1 fullShare) (xgF c 2 fullShare) (fun _ => rfl) (fun _ => rfl) (fun _ => rfl)
omit [FloatOps F] [Named F] in
theorem rb_open : iprop(∃ f : Buf (Elt F) ((c : Thread nD τ).loc cc0_scratch5), ((c : Thread nD τ).loc cc0_scratch5) ↦{fullShare} f)
    ⊢ (iprop((∃ f, rbF c 0 f) ∗ (∃ f, rbF c 1 f) ∗ ∃ f, rbF c 2 f) : sProp 𝕄) :=
  Ring.slots3_split (ℓ := (c : Thread nD τ).loc cc0_scratch5) (q := fullShare) (fun s : Fin 3 => slotSet 3 s.val) (fun s s' h => slots_disj 3 _ _ fun e => h (Fin.ext e)) slots_cover
    (rbF c 0) (rbF c 1) (rbF c 2) (fun _ => rfl) (fun _ => rfl) (fun _ => rfl)
omit [FloatOps F] [Named F] in
theorem rb_close : (iprop((∃ f, rbF c 0 f) ∗ (∃ f, rbF c 1 f) ∗ ∃ f, rbF c 2 f) : sProp 𝕄)
    ⊢ iprop(∃ f : Buf (Elt F) ((c : Thread nD τ).loc cc0_scratch5), ((c : Thread nD τ).loc cc0_scratch5) ↦{fullShare} f) :=
  Ring.slots3_join (ℓ := (c : Thread nD τ).loc cc0_scratch5) (q := fullShare) (fun s : Fin 3 => slotSet 3 s.val) (fun s s' h => slots_disj 3 _ _ fun e => h (Fin.ext e)) slots_cover
    (rbF c 0) (rbF c 1) (rbF c 2) (fun _ => rfl) (fun _ => rfl) (fun _ => rfl)

theorem sb_open : iprop(∃ f : Buf (Elt F) ((c : Thread nD τ).loc cc0_scratch4), ((c : Thread nD τ).loc cc0_scratch4) ↦{fullShare} f)
    ⊢ iprop(sH I c 0 0 [] ∗ sH I c 1 1 []) := by
  iintro ⟨%f, H⟩
  ihave H := (Entails.of_eq (congrArg (fun S => (((c : Thread nD τ).loc cc0_scratch4) ↦[S]{fullShare} f : sProp 𝕄)) slots2_cover.symm)) $$ H
  ihave H := (pointsTo_union (slots_disj 2 0 1 (by decide))).1 $$ H
  icases H with ⟨H0, H1⟩
  isplitl [H0]
  · iapply (sbF_any I c 0 0 f); unfold sbF; iexact H0
  iapply (sbF_any I c 1 1 f); unfold sbF; iexact H1
omit [FloatOps F] [Named F] in
theorem sb_close (f g : Vec F S2x2x512x1024 .bf16) : (iprop(sbF c 0 f ∗ sbF c 1 g) : sProp 𝕄)
    ⊢ iprop(∃ f : Buf (Elt F) ((c : Thread nD τ).loc cc0_scratch4), ((c : Thread nD τ).loc cc0_scratch4) ↦{fullShare} f) := by
  unfold sbF
  iintro ⟨H0, H1⟩
  iexists (slotSet 2 1).piecewise g f
  iapply (Entails.of_eq (congrArg (fun S => (((c : Thread nD τ).loc cc0_scratch4) ↦[S]{fullShare} (slotSet 2 1).piecewise g f : sProp 𝕄)) slots2_cover))
  iapply (pointsTo_join (slots_disj 2 0 1 (by decide)))
  isplitl [H0]; · iexact H0
  iexact H1

/-! ## The whole -/

/-- A staged block, held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The six staged blocks, and what the launch and the last device left. -/
def entry : sProp 𝕄 :=
  iprop(linear c ∗ credits c ∗ ow c (O₀ c) ∗ scratch c
    ∗ stg c cc0_stg0_0 (I.X c) ∗ stg c cc0_stg1_0 (I.Wq c) ∗ stg c cc0_stg2_0 (I.Wk c) ∗ stg c cc0_stg3_0 (I.Wv c) ∗ stg c cc0_stg4_0 (I.Wo c)
    ∗ ∃ f, stg c cc0_stg5_0 f)

def exit : sProp 𝕄 :=
  iprop(Φ₁ c ∗ ow c 0
    ∗ stg c cc0_stg0_0 (I.X c) ∗ stg c cc0_stg1_0 (I.Wq c) ∗ stg c cc0_stg2_0 (I.Wk c) ∗ stg c cc0_stg3_0 (I.Wv c) ∗ stg c cc0_stg4_0 (I.Wo c)
    ∗ stg c cc0_stg5_0 (outAt I c))

theorem x_in : stg c cc0_stg0_0 (I.X c) ⊢ xP I fullShare c := by
  unfold xP; simp only [Memref.view_whole, View.set_whole]
  iintro ⟨%f, %hf, H⟩; subst hf; iexact H
theorem x_out : xP I fullShare c ⊢ stg c cc0_stg0_0 (I.X c) := by
  unfold xP; simp only [Memref.view_whole, View.set_whole]
  iintro H; iexists (I.X c); isplitr; · (ipureintro; rfl)
  iexact H
theorem wq_in : stg c cc0_stg1_0 (I.Wq c) ⊢ wqP I c := by
  unfold wqP; simp only [Memref.view_whole, View.set_whole]
  iintro ⟨%f, %hf, H⟩; subst hf; iexact H
theorem wq_out : wqP I c ⊢ stg c cc0_stg1_0 (I.Wq c) := by
  unfold wqP; simp only [Memref.view_whole, View.set_whole]
  iintro H; iexists (I.Wq c); isplitr; · (ipureintro; rfl)
  iexact H
theorem wk_in : stg c cc0_stg2_0 (I.Wk c) ⊢ wkP I c := by
  unfold wkP; simp only [Memref.view_whole, View.set_whole]
  iintro ⟨%f, %hf, H⟩; subst hf; iexact H
theorem wk_out : wkP I c ⊢ stg c cc0_stg2_0 (I.Wk c) := by
  unfold wkP; simp only [Memref.view_whole, View.set_whole]
  iintro H; iexists (I.Wk c); isplitr; · (ipureintro; rfl)
  iexact H
theorem wv_in : stg c cc0_stg3_0 (I.Wv c) ⊢ wvP I c := by
  unfold wvP; simp only [Memref.view_whole, View.set_whole]
  iintro ⟨%f, %hf, H⟩; subst hf; iexact H
theorem wv_out : wvP I c ⊢ stg c cc0_stg3_0 (I.Wv c) := by
  unfold wvP; simp only [Memref.view_whole, View.set_whole]
  iintro H; iexists (I.Wv c); isplitr; · (ipureintro; rfl)
  iexact H
theorem wo_in : stg c cc0_stg4_0 (I.Wo c) ⊢ woP I c := by
  unfold woP; simp only [Memref.view_whole, View.set_whole]
  iintro ⟨%f, %hf, H⟩; subst hf; iexact H
theorem wo_out : woP I c ⊢ stg c cc0_stg4_0 (I.Wo c) := by
  unfold woP; simp only [Memref.view_whole, View.set_whole]
  iintro H; iexists (I.Wo c); isplitr; · (ipureintro; rfl)
  iexact H
theorem k_open : iprop(∃ f : Buf (Elt F) ((c : Thread nD τ).loc cc0_scratch1), ((c : Thread nD τ).loc cc0_scratch1) ↦{fullShare} f)
    ⊢ kH I c [] := by
  unfold kH holds; simp only [Memref.view_whole, View.set_whole]
  iintro ⟨%f, H⟩; iexists f; isplitr; · (ipureintro; exact fun i hi => absurd hi List.not_mem_nil)
  iexact H
theorem k_close : kE I c ⊢ iprop(∃ f : Buf (Elt F) ((c : Thread nD τ).loc cc0_scratch1), ((c : Thread nD τ).loc cc0_scratch1) ↦{fullShare} f) := by
  unfold kE; simp only [Memref.view_whole, View.set_whole]
  iintro H; iexists _; iexact H
theorem v_open : iprop(∃ f : Buf (Elt F) ((c : Thread nD τ).loc cc0_scratch2), ((c : Thread nD τ).loc cc0_scratch2) ↦{fullShare} f)
    ⊢ vH I c [] := by
  unfold vH holds; simp only [Memref.view_whole, View.set_whole]
  iintro ⟨%f, H⟩; iexists f; isplitr; · (ipureintro; exact fun i hi => absurd hi List.not_mem_nil)
  iexact H
theorem v_close : vE I c ⊢ iprop(∃ f : Buf (Elt F) ((c : Thread nD τ).loc cc0_scratch2), ((c : Thread nD τ).loc cc0_scratch2) ↦{fullShare} f) := by
  unfold vE; simp only [Memref.view_whole, View.set_whole]
  iintro H; iexists _; iexact H
theorem q_open (d : Dev nD) : iprop(∃ f : Buf (Elt F) ((c : Thread nD τ).loc cc0_scratch3), ((c : Thread nD τ).loc cc0_scratch3) ↦{fullShare} f)
    ⊢ qH I c d [] := by
  unfold qH holds; simp only [Memref.view_whole, View.set_whole]
  iintro ⟨%f, H⟩; iexists f; isplitr; · (ipureintro; exact fun i hi => absurd hi List.not_mem_nil)
  iexact H
theorem q_close (d : Dev nD) : qE I c d ⊢ iprop(∃ f : Buf (Elt F) ((c : Thread nD τ).loc cc0_scratch3), ((c : Thread nD τ).loc cc0_scratch3) ↦{fullShare} f) := by
  unfold qE; simp only [Memref.view_whole, View.set_whole]
  iintro H; iexists _; iexact H
theorem o_open : iprop(∃ f, stg (F := F) c cc0_stg5_0 f) ⊢ oH I c [] := by
  unfold oH holds; simp only [Memref.view_whole, View.set_whole]
  iintro ⟨%d, %f, -, H⟩; iexists f; isplitr; · (ipureintro; exact fun i hi => absurd hi List.not_mem_nil)
  iexact H
theorem o_close : oH I c [1, 0] ⊢ stg c cc0_stg5_0 (outAt I c) := by
  unfold oH holds; simp only [Memref.view_whole, View.set_whole]
  iintro ⟨%g, %hg, H⟩; iexists g; isplitr
  · ipureintro
    exact funext fun i => hg i ((by decide : ∀ b : Fin 2, b ∈ [(1 : Fin 2), 0]) _)
  iexact H

set_option maxHeartbeats 1600000 in
/-- What a device is handed is what its body takes. -/
theorem open_entry : entry I c ⊢ iprop(before I c ∗ oH I c []) := by
  unfold entry linear credits scratch
  rw [bigSep_fin13, bigSep_fin12]
  iintro ⟨⟨⟨Hab, Ha0, Ha1, Ha2, Ha3, Ha4, Ha5, Ha6, Ha7, Ha8, Ha9, Ha10, Ha11⟩, ⟨Ht0, Ht1, Ht2, Ht3, Ht4, Ht5, Ht6, Ht7, Ht8, Ht9, Ht10, Ht11⟩, Htb1, Htb2⟩, ⟨Hcb, Hc3, Hc4, Hc5, Hc9, Hc10, Hc11⟩, HO, ⟨Hxg, Hk, Hv, Hq, Hsb, Hrb⟩,
    Hx, Hwq, Hwk, Hwv, Hwo, Ho⟩
  ihave Hx := (x_in I c) $$ Hx
  ihave Hx := (x_split I c) $$ Hx
  icases Hx with ⟨Hxl, Hxr⟩
  ihave Hwq := (wq_in I c) $$ Hwq
  ihave Hwk := (wk_in I c) $$ Hwk
  ihave Hwv := (wv_in I c) $$ Hwv
  ihave Hwo := (wo_in I c) $$ Hwo
  ihave HK := (k_open I c) $$ Hk
  ihave HV := (v_open I c) $$ Hv
  ihave HQ := (q_open I c (src c 0)) $$ Hq
  ihave Hsb := (sb_open I c) $$ Hsb
  icases Hsb with ⟨Hs0, Hs1⟩
  ihave Hxg := (xg_open c) $$ Hxg
  icases Hxg with ⟨Hg0, Hg1, Hg2⟩
  ihave Hrb := (rb_open c) $$ Hrb
  icases Hrb with ⟨Hr0, Hr1, Hr2⟩
  ihave Ho := (o_open I c) $$ Ho
  isplitr [Ho]
  · unfold before
    isplitl [HO]; · iexact HO
    isplitl [Hxl]; · iexact Hxl
    isplitl [Hxr]; · iexact Hxr
    isplitl [Hwq]; · iexact Hwq
    isplitl [Hwk]; · iexact Hwk
    isplitl [Hwv]; · iexact Hwv
    isplitl [Hwo]; · iexact Hwo
    isplitl [HK]; · iexact HK
    isplitl [HV]; · iexact HV
    isplitl [HQ]; · iexact HQ
    isplitl [Hs0]; · iexact Hs0
    isplitl [Hs1]; · iexact Hs1
    isplitl [Ha0]; · iexact Ha0
    isplitl [Ht0]; · iexact Ht0
    isplitl [Ha1]; · iexact Ha1
    isplitl [Ht1]; · iexact Ht1
    isplitl [Ha2]; · iexact Ha2
    isplitl [Ht2]; · iexact Ht2
    isplitl [Ha3]; · iexact Ha3
    isplitl [Ht3]; · iexact Ht3
    isplitl [Ha4]; · iexact Ha4
    isplitl [Ht4]; · iexact Ht4
    isplitl [Ha5]; · iexact Ha5
    isplitl [Ht5]; · iexact Ht5
    isplitl [Ha6]; · iexact Ha6
    isplitl [Ht6]; · iexact Ht6
    isplitl [Ha7]; · iexact Ha7
    isplitl [Ht7]; · iexact Ht7
    isplitl [Ha8]; · iexact Ha8
    isplitl [Ht8]; · iexact Ht8
    isplitl [Ha9]; · iexact Ha9
    isplitl [Ht9]; · iexact Ht9
    isplitl [Ha10]; · iexact Ha10
    isplitl [Ht10]; · iexact Ht10
    isplitl [Ha11]; · iexact Ha11
    isplitl [Ht11]; · iexact Ht11
    isplitl [Hc3]; · iexact Hc3
    isplitl [Hc4]; · iexact Hc4
    isplitl [Hc5]; · iexact Hc5
    isplitl [Hc9]; · iexact Hc9
    isplitl [Hc10]; · iexact Hc10
    isplitl [Hc11]; · iexact Hc11
    isplitl [Hcb]; · iexact Hcb
    isplitl [Hab]; · iexact Hab
    isplitl [Htb1]; · iexact Htb1
    isplitl [Htb2]; · iexact Htb2
    unfold slots
    isplitl [Hg0]; · iexact Hg0
    isplitl [Hg1]; · iexact Hg1
    isplitl [Hg2]; · iexact Hg2
    isplitl [Hr0]; · iexact Hr0
    isplitl [Hr1]; · iexact Hr1
    iexact Hr2
  iexact Ho

set_option maxHeartbeats 1600000 in
/-- What its body leaves is what a device gives back. -/
theorem close_exit : iprop(after I c ∗ oH I c [1, 0]) ⊢ exit I c := by
  unfold after
  iintro ⟨⟨Hxr, Hwq, Hwk, Hwv, Hwo, HK, HV, HQ, Ha0, Ha1, Ha2, Ha3, Ha4, Ha5, Ha6, Ha7, Ha8, Ha9, Ha10, Ha11, HO, Hab, Hxl, Hg0, Hg0l, Hg1, Hg1l, Hg2, Hr0, Hr1, Hs1, Hr2, Hs0⟩, Ho⟩
  ihave Hx := (x_join I c) $$ [Hxl Hxr]
  · isplitl [Hxl]; · iexact Hxl
    iexact Hxr
  ihave Hg0 := (xg_join c 0 (xgAll I c)) $$ [Hg0 Hg0l]
  · isplitl [Hg0l]; · iexact Hg0l
    iexact Hg0
  ihave Hg1 := (xg_join c 1 (xgAll I c)) $$ [Hg1 Hg1l]
  · isplitl [Hg1l]; · iexact Hg1l
    iexact Hg1
  unfold exit Φ₁ scratch
  rw [bigSep_fin13]
  isplitr [HO Hx Hwq Hwk Hwv Hwo Ho]
  · isplitr [Hab Ha0 Ha1 Ha2 Ha3 Ha4 Ha5 Ha6 Ha7 Ha8 Ha9 Ha10 Ha11]
    · isplitl [Hg0 Hg1 Hg2]
      · iapply (xg_close c)
        isplitl [Hg0]; · iexists _; iexact Hg0
        isplitl [Hg1]; · iexists _; iexact Hg1
        iexists _; iexact Hg2
      isplitl [HK]; · iapply (k_close I c); iexact HK
      isplitl [HV]; · iapply (v_close I c); iexact HV
      isplitl [HQ]; · iapply (q_close I c c); iexact HQ
      isplitl [Hs0 Hs1]
      · iapply (sb_close c (sbAll I 2 c) (sbAll I 1 c))
        isplitl [Hs0]; · iexact Hs0
        iexact Hs1
      iapply (rb_close c)
      isplitl [Hr0]; · iexists _; iexact Hr0
      isplitl [Hr1]; · iexists _; iexact Hr1
      iexists _; iexact Hr2
    isplitl [Hab]; · iexact Hab
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    iexact Ha11
  isplitl [HO]; · iexact HO
  isplitl [Hx]; · iapply (x_out I c); iexact Hx
  isplitl [Hwq]; · iapply (wq_out I c); iexact Hwq
  isplitl [Hwk]; · iapply (wk_out I c); iexact Hwk
  isplitl [Hwv]; · iapply (wv_out I c); iexact Hwv
  isplitl [Hwo]; · iapply (wo_out I c); iexact Hwo
  iapply (o_close I c); iexact Ho

end Cert.RingProof
-- ==== Proof.Run.lean ====
module

public import proofs.«01_k».proof.Proof.Entry
public import Idealize.ShloMosaic.Lib.Pipeline.Launch
public import Idealize.ShloMosaic.Lib.Pipeline.CollectiveSegs

@[expose] public section

/-! # The launch -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The staged blocks: the arguments. -/
def inp : Inp F where
  X c := (win0_0.blk (0 : Fin 1)).view.read (Elt F) (m ((c : Thread nD τ).loc main_arg0))
  Wq c := (win0_1.blk (0 : Fin 1)).view.read (Elt F) (m ((c : Thread nD τ).loc main_arg1))
  Wk c := (win0_2.blk (0 : Fin 1)).view.read (Elt F) (m ((c : Thread nD τ).loc main_arg2))
  Wv c := (win0_3.blk (0 : Fin 1)).view.read (Elt F) (m ((c : Thread nD τ).loc main_arg3))
  Wo c := (win0_4.blk (0 : Fin 1)).view.read (Elt F) (m ((c : Thread nD τ).loc main_arg4))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).X c
    | ⟨1, _⟩ => (inp m).Wq c
    | ⟨2, _⟩ => (inp m).Wk c
    | ⟨3, _⟩ => (inp m).Wv c
    | ⟨4, _⟩ => (inp m).Wo c
    | ⟨5, _⟩ => outAt (inp m) c
  Φ t := match t with
    | ⟨0, _⟩ => Φ₀ (inp m) c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] [Named F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

/-! ## The body's obligation -/

/-- What a device holds at its one point, before and after. -/
def bodyPre (c : Dev nD) : sProp 𝕄 :=
  iprop(Φ₀ (inp m) c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 ((inp m).X c) ∗ stg c cc0_stg1_0 ((inp m).Wq c) ∗ stg c cc0_stg2_0 ((inp m).Wk c)
    ∗ stg c cc0_stg3_0 ((inp m).Wv c) ∗ stg c cc0_stg4_0 ((inp m).Wo c) ∗ stg c cc0_stg5_0 (outAt (inp m) c))

theorem before_0 (c : Dev nD) (d) : (dats m ρ 0 c).before (0 : Fin 6) t₀ d = (inp m).X c := by
  unfold Dat.before; rw [if_pos (fetch0_0 t₀)]; rfl
theorem before_1 (c : Dev nD) (d) : (dats m ρ 0 c).before (1 : Fin 6) t₀ d = (inp m).Wq c := by
  unfold Dat.before; rw [if_pos (fetch0_1 t₀)]; rfl
theorem before_2 (c : Dev nD) (d) : (dats m ρ 0 c).before (2 : Fin 6) t₀ d = (inp m).Wk c := by
  unfold Dat.before; rw [if_pos (fetch0_2 t₀)]; rfl
theorem before_3 (c : Dev nD) (d) : (dats m ρ 0 c).before (3 : Fin 6) t₀ d = (inp m).Wv c := by
  unfold Dat.before; rw [if_pos (fetch0_3 t₀)]; rfl
theorem before_4 (c : Dev nD) (d) : (dats m ρ 0 c).before (4 : Fin 6) t₀ d = (inp m).Wo c := by
  unfold Dat.before; rw [if_pos (fetch0_4 t₀)]; rfl

theorem open_body (K : Dev nD × Fin 13 → ℕ) (c : Dev nD) :
    iprop((linear c ∗ credits c ∗ scratch c) ∗ (dats m ρ 0 c).owesAt () t₀.castSucc
      ∗ (∃ d, stg c cc0_stg0_0 ((dats m ρ 0 c).before (0 : Fin 6) t₀ d)) ∗ (∃ d, stg c cc0_stg1_0 ((dats m ρ 0 c).before (1 : Fin 6) t₀ d))
      ∗ (∃ d, stg c cc0_stg2_0 ((dats m ρ 0 c).before (2 : Fin 6) t₀ d)) ∗ (∃ d, stg c cc0_stg3_0 ((dats m ρ 0 c).before (3 : Fin 6) t₀ d))
      ∗ (∃ d, stg c cc0_stg4_0 ((dats m ρ 0 c).before (4 : Fin 6) t₀ d)) ∗ (∃ d, stg c cc0_stg5_0 ((dats m ρ 0 c).before (5 : Fin 6) t₀ d)))
      ⊢ entry (inp m) c := by
  simp only [before_0, before_1, before_2, before_3, before_4]
  unfold entry ow Dat.owesAt Pipeline.owesWithin
  rw [show (dats m ρ 0 c).owed t₀.castSucc = O₀ c from rfl]
  iintro ⟨⟨Hl, Hc, Hs⟩, ⟨%W, %hW, HO⟩, ⟨%d0, H0⟩, ⟨%d1, H1⟩, ⟨%d2, H2⟩, ⟨%d3, H3⟩, ⟨%d4, H4⟩, ⟨%d5, H5⟩⟩
  isplitl [Hl]; · iexact Hl
  isplitl [Hc]; · iexact Hc
  isplitl [HO]; · iexists W; iexact HO
  isplitl [Hs]; · iexact Hs
  isplitl [H0]; · iexact H0
  isplitl [H1]; · iexact H1
  isplitl [H2]; · iexact H2
  isplitl [H3]; · iexact H3
  isplitl [H4]; · iexact H4
  iexists _; iexact H5

theorem close_body (c : Dev nD) : exit (inp m) c ⊢ bodyPost m ρ c := by
  unfold exit bodyPost ow Dat.owesAt Pipeline.owesWithin
  rw [show (dats m ρ 0 c).owed t₀.succ = 0 from rfl]
  iintro ⟨HF, ⟨%W, HO⟩, H⟩
  isplitl [HF]; · iexact HF
  isplitl [HO]
  · iexists W
    isplitr; · ipureintro; exact fun _ _ => Or.inl trivial
    iexact HO
  iexact H

theorem sound_body (c : Dev nD) : bodyPre m ρ c ⊢ wp frame (wpE (defs₀ (F := F)) 𝒱₀ (c : Thread nD τ) none) Set.univ
    (cc0__body xM (Memref.isWhole_whole _) wqM (Memref.isWhole_whole _) wkM (Memref.isWhole_whole _) wvM (Memref.isWhole_whole _)
      woM (Memref.isWhole_whole _) outM (Memref.isWhole_whole _) xgM (Memref.isWhole_whole _) kM (Memref.isWhole_whole _)
      vM (Memref.isWhole_whole _) qM (Memref.isWhole_whole _) sbM (Memref.isWhole_whole _) rbM (Memref.isWhole_whole _)
      cc0_scratch6 cc0_scratch7 cc0_scratch8 cc0_scratch9) (fun _ => bodyPost m ρ c) := by
  unfold bodyPre Φ₀ start ghost
  iintro ⟨⟨⟨⟨%K, #HR, Hlin⟩, Hcr, #HL⟩, Hs⟩, Hrest⟩
  ihave H := (open_body m ρ K c) $$ [Hlin Hcr Hs Hrest]
  · isplitr [Hrest]
    · isplitl [Hlin]; · iexact Hlin
      isplitl [Hcr]; · iexact Hcr
      iexact Hs
    iexact Hrest
  ihave H := (open_entry (inp m) c) $$ H
  icases H with ⟨HB, Ho⟩
  iapply (body_run (inp m) K c) $$ [HB Ho]
  · isplitr; · iexact HR
    isplitr; · iexact HL
    isplitl [HB]; · iexact HB
    iexact Ho
  iintro H
  iapply (close_body m ρ c)
  iapply (close_exit (inp m) c)
  iexact H

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The counters and the tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide +kernel

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duties of a device's counters: two of its barrier's, one of each other. -/
def tokOf : Dev nD × (Bool ⊕ Fin 12) → GSem nD τ sig × ℕ × Bool
  | (c, .inl b) => (barCell c, 0, b)
  | (c, .inr k) => (dcell c k, 0, false)

theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have h2 := congrArg (fun x : GSem nD τ sig × ℕ × Bool => (x.1.2, x.2.2)) h
  cases j with
  | inl b => cases j' with
    | inl b' => rw [show b = b' from congrArg Prod.snd h2]
    | inr k' => exact absurd (congrArg Prod.fst h2).symm (dma_ne_bar k')
  | inr k => cases j' with
    | inl b' => exact absurd (congrArg Prod.fst h2) (dma_ne_bar k)
    | inr k' =>
      have h3 : (SemLoc.dma (dq k) : SemLoc sig) = .dma (dq k') := congrArg Prod.fst h2
      rw [dq_injective (SemLoc.dma.inj h3)]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own counters; those of the duties it discharges. -/
def toks (c : Dev nD) : sProp 𝕄 :=
  iprop((dutyTok ER (barCell c) 0 false ∗ dutyTok ER (barCell c) 0 true) ∗ bigSep Finset.univ fun k : Fin 12 => dutyTok ER (dcell c k) 0 false)
def payToks (c : Dev nD) : sProp 𝕄 :=
  iprop((bigSep Finset.univ fun k : Fin 12 => dutyTok ER (dcell (payDev c k) k) 0 false)
    ∗ dutyTok ER (barCell (nxt c)) 0 false ∗ dutyTok ER (barCell (prv c)) 0 true)

def G (I : Inp F) (c : Dev nD) : sProp 𝕄 :=
  iprop((bigSep Finset.univ fun k : Fin 13 => roundState ER (ringRd I) (kcell (c, k)) 0)
    ∗ (bigSep Finset.univ fun k : Fin 13 => iprop(atPos ER (kcell (c, k)) 0 ∅ 0 ∗ reached ER (kcell (c, k)) 0)) ∗ toks c)
def G' (I : Inp F) (c : Dev nD) : sProp 𝕄 := iprop(∃ K, ghost I K c)

variable (I : Inp F)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [false, true] (by decide) (by decide), bigSepL_cons_cons, bigSepL_singleton]
    rfl
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    (bigSep Finset.univ fun k : Fin 13 => semVal (kcell (c, k)) 0 : sProp 𝕄)
      = iprop(unscopedSems0 c ∗ Pipeline.ownSems0 (Ix := Unit) (Name := ℕ) (U := UU) (Lvl := ℕ) (Val := Elt F) (τ := τ) osem c) := by
  unfold Pipeline.ownSems0
  rw [unscopedSems0_eq, bigSep_fin13, bigSep_fin12]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 13 => semVal (kcell (c, k)) 0) ∗ bigSep Finset.univ fun k : Fin 13 => roundState ER (ringRd I) (kcell (c, k)) 0)
      ⊢ (|={Set.univ}=> bigSep Finset.univ fun k => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The device whose counter `k` a device pays, as a permutation of the devices. -/
def payEquiv (k : Fin 12) : Dev nD ≃ Dev nD := if k.val / 3 = 0 ∨ k.val / 3 = 2 then Equiv.refl _ else ring
theorem payEquiv_apply (k : Fin 12) (c : Dev nD) : payEquiv k c = payDev c k := by
  unfold payEquiv payDev; split <;> rfl

omit [FloatOps F] [Named F] in
theorem bigSep_swap (Φ : Dev nD → Fin 12 → sProp 𝕄) :
    (bigSep Finset.univ fun c => bigSep Finset.univ fun k => Φ c k) = bigSep Finset.univ fun k => bigSep Finset.univ fun c => Φ c k := by
  rw [← bigSep_univ_prod fun ck : Dev nD × Fin 12 => Φ ck.1 ck.2, ← bigSep_univ_prod fun kc : Fin 12 × Dev nD => Φ kc.2 kc.1]
  exact bigSep_univ_equiv (Equiv.prodComm (Fin 12) (Dev nD)) _

omit [FloatOps F] [Named F] in
/-- The tokens dealt out: each to the device that discharges its duty. -/
theorem toks_around : (bigSep Finset.univ fun c : Dev nD => (toks c : sProp 𝕄)) ⊢ bigSep Finset.univ fun c : Dev nD => payToks c := by
  have h : (bigSep Finset.univ fun c : Dev nD => bigSep Finset.univ fun k : Fin 12 => (dutyTok ER (dcell c k) 0 false : sProp 𝕄))
      = bigSep Finset.univ fun c : Dev nD => bigSep Finset.univ fun k : Fin 12 => dutyTok ER (dcell (payDev c k) k) 0 false := by
    rw [bigSep_swap, bigSep_swap fun (c : Dev nD) (k : Fin 12) => (dutyTok ER (dcell (payDev c k) k) 0 false : sProp 𝕄)]
    refine bigSep_congr fun k _ => ?_
    rw [bigSep_univ_equiv (payEquiv k) fun c : Dev nD => (dutyTok ER (dcell c k) 0 false : sProp 𝕄)]
    simp only [payEquiv_apply]
  unfold toks payToks
  rw [bigSep_sep', bigSep_sep', bigSep_sep', bigSep_sep', h,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3⟩
  isplitl [H3]; · iexact H3
  isplitl [H1]; · iexact H1
  iexact H2

omit [FloatOps F] [Named F] in
theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records I K ∗ linear c) ⊢ G' I c := by
  unfold G' ghost
  iintro H; iexists K; iexact H

theorem regroup :
    (bigSep Finset.univ fun c : Dev nD => iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × Fin 13 => iprop(∃ κ : ℕ, cellInv ER (ringRd I) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (ringRd I) κ (kcell ck) : sProp 𝕄))) $$ HI
  icases HK with ⟨%K, #HI⟩
  ihave Htk := (toks_around (F := F)) $$ Htok
  iapply (bigSep_with_persistent (R := records I K) fun c _ => ghost_intro I K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ linear c from Entails.of_eq (by unfold linear payToks; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

theorem bar_eq_iff {a b : Dev nD} : Iff (barCell a = barCell b) (a = b) :=
  ⟨fun h => congrArg (fun g : GSem nD τ sig => g.1.1) h, fun h => h ▸ rfl⟩
theorem dcell_eq_iff {a b : Dev nD} {k k' : Fin 12} : Iff (dcell a k = dcell b k') (a = b ∧ k = k') :=
  ⟨fun h => ⟨congrArg (fun g : GSem nD τ sig => g.1.1) h, dq_injective (SemLoc.dma.inj (congrArg Prod.snd h))⟩, fun h => by rw [h.1, h.2]⟩
theorem dcell_ne_bar (a b : Dev nD) (k : Fin 12) : dcell a k ≠ barCell b := fun h => dma_ne_bar k (congrArg Prod.snd h)

theorem owing_bar (d c : Dev nD) (n : ℕ) : owing d n (barCell c) () = 0 := by
  by_contra h
  obtain ⟨j, _, hj⟩ := owing_pos (Nat.pos_of_ne_zero h)
  exact dcell_ne_bar _ _ _ hj.symm

/-- What a device owes another's barrier: a unit if it is one of its neighbours, for each side. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owing_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem tally_dma (d c : Dev nD) (k k' : Fin 12) :
    tallyAt (dcell (nxt d) k') () N (dcell c k) () = if d = prv c ∧ k' = k then N else 0 := by
  rw [tallyAt_apply]
  refine if_congr ⟨fun h => ?_, fun h => ?_⟩ rfl rfl
  · obtain ⟨h1, h2⟩ := dcell_eq_iff.mp h.1
    exact ⟨by rw [h1, prv_nxt], h2.symm⟩
  · exact ⟨by rw [h.1, nxt_prv, h.2], rfl⟩

/-- What a device owes another's copy counter `rk j`: a copy's units if it is the device before. -/
theorem owing_dma (d c : Dev nD) (j : ℕ) (hj : j < 6) : owing d 6 (dcell c (rk j)) () = if d = prv c then N else 0 := by
  simp only [owing, Pi.add_apply, Finsupp.add_apply, Pi.zero_apply, Finsupp.zero_apply, Nat.zero_add]
  rw [tally_dma, tally_dma, tally_dma, tally_dma, tally_dma, tally_dma]
  by_cases h : d = prv c
  · simp only [h, true_and, if_true]
    interval_cases j <;> rfl
  · simp only [h, false_and, if_false, Nat.add_zero]

theorem owed_dma (d c : Dev nD) (j : ℕ) (hj : j < 6) : O₀ d (dcell c (rk j)) () = if d = prv c then N else 0 := by
  unfold O₀ O₁
  rw [Pi.add_apply, Finsupp.add_apply, Pi.add_apply, Finsupp.add_apply, tallyAt_ne_cell (dcell_ne_bar _ _ _), tallyAt_ne_cell (dcell_ne_bar _ _ _),
    Finsupp.zero_apply, Nat.add_zero, Nat.add_zero, owing_dma d c j hj]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_dma (c : Dev nD) (j : ℕ) (hj : j < 6) :
    tallyOn (dcell c (rk j)) (launchCredit (Pipeline.owing O₀) 0 (dcell c (rk j))) = (tallyAt (dcell c (rk j)) () N : CellTallies nD τ sig Unit) := by
  unfold tallyAt; refine congrArg _ (Finsupp.ext fun u => ?_); cases u
  rw [Pipeline.launchCredit_owing, Finsupp.single_eq_same, Finset.sum_congr rfl fun d _ => owed_dma d c j hj, Finset.sum_ite_eq' Finset.univ (prv c) fun _ => N,
    if_pos (Finset.mem_univ _)]

/-- The counters a device waits on for another. -/
def waited : Fin 7 → SemLoc sig
  | 0 => .reg barS | 1 => .dma (dq 3) | 2 => .dma (dq 4) | 3 => .dma (dq 5) | 4 => .dma (dq 9) | 5 => .dma (dq 10) | 6 => .dma (dq 11)
theorem waited_injective : Function.Injective waited := by decide +kernel

omit [FloatOps F] [Named F] in
theorem creds (c : Dev nD) : (Pipeline.launchCred O₀ c : sProp 𝕄) ⊢ credits c := by
  unfold Pipeline.launchCred credits
  refine (bigSep_subset (t := Finset.univ.map ⟨waited, waited_injective⟩) (Finset.subset_univ _)).trans ?_
  rw [bigSep_map, bigSep_univ_eq_bigSepL [0, 1, 2, 3, 4, 5, 6] (by decide) (by decide), ← launch_bar c, ← (show _ = (tallyAt (dcell c 3) () N : CellTallies nD τ sig Unit) from launch_dma c 5 (by decide)), ← (show _ = (tallyAt (dcell c 4) () N : CellTallies nD τ sig Unit) from launch_dma c 4 (by decide)),
    ← (show _ = (tallyAt (dcell c 5) () N : CellTallies nD τ sig Unit) from launch_dma c 3 (by decide)), ← (show _ = (tallyAt (dcell c 9) () N : CellTallies nD τ sig Unit) from launch_dma c 2 (by decide)), ← (show _ = (tallyAt (dcell c 10) () N : CellTallies nD τ sig Unit) from launch_dma c 1 (by decide)), ← (show _ = (tallyAt (dcell c 11) () N : CellTallies nD τ sig Unit) from launch_dma c 0 (by decide))]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start (inp m) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (inp m) c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Hu, Hs⟩
  isplitl [Hu]; · iexact Hu
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair run of the four devices ends, each device's result array holding
    what was computed, its arguments what they held, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_in (c : Dev nD) (w : Fin cfg0.W) (hw : w ≠ (5 : Fin 6)) : finalA m ρ c w = (s₀ m ρ).mem ((cfg0.win w).arr.view.loc (c : Thread nD τ)) := by
  unfold finalA
  refine (dats (F := F) m ρ 0 c).arrAt_in w ?_ _
  revert w
  exact (by decide : ∀ w : Fin 6, w ≠ 5 → (cfg0.win w).isOut = false)

end Cert.RingProof
-- ==== Proof.Args.lean ====
module

public import proofs.«01_k».proof.Proof.Run

@[expose] public section

/-! # The run, read at the arguments and the result -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

/-- The arguments of device `c` are `m`'s. -/
def Args (m m' : (ℓ : Loc nD τ sig) → Buf (Elt F) ℓ) (c : Dev nD) : Prop :=
  m' ((c : Thread nD τ).loc main_arg0) = m ((c : Thread nD τ).loc main_arg0)
  ∧ m' ((c : Thread nD τ).loc main_arg1) = m ((c : Thread nD τ).loc main_arg1)
  ∧ m' ((c : Thread nD τ).loc main_arg2) = m ((c : Thread nD τ).loc main_arg2)
  ∧ m' ((c : Thread nD τ).loc main_arg3) = m ((c : Thread nD τ).loc main_arg3)
  ∧ m' ((c : Thread nD τ).loc main_arg4) = m ((c : Thread nD τ).loc main_arg4)

theorem args_of {r : PUnit × MemSt nD τ sig (Elt F)} (h : QC m ρ r) (c : Dev nD) : Args m r.2.mem c :=
  ⟨(h c (0 : Fin 6)).trans (finalA_in m ρ c 0 (by decide)), (h c (1 : Fin 6)).trans (finalA_in m ρ c 1 (by decide)),
    (h c (2 : Fin 6)).trans (finalA_in m ρ c 2 (by decide)), (h c (3 : Fin 6)).trans (finalA_in m ρ c 3 (by decide)),
    (h c (4 : Fin 6)).trans (finalA_in m ρ c 4 (by decide))⟩

theorem frame_run : θ_run defs (onTc (τ := τ) (main (F := F))) (s₀ m ρ) (fun r => (∀ c, Args m r.2.mem c) ∧ r.2.sem = fun _ => 0) :=
  (θ_run defs _ _).mono (fun _ h => ⟨args_of m ρ h.1, h.2⟩) (run_main m ρ)

end Cert.RingProof
-- ==== Proof.KernelFrames.lean ====
module

public import proofs.«01_k».proof.Proof.Args
public import proofs.«01_k».proof.Defs
public import proofs.«01_k».proof.Proof.Gen.Kernel

@[expose] public section

/-! # The frames of the kernel

The run of the idealized print is proved at any floats with the named constant. At the machine's
own floats the named constant is read as the bits it replaced, and the run is the kernel's. -/

noncomputable section

namespace Cert.RingProof

open Idealize.ShloMosaic Idealize.SL.Sem

/-- A named constant at the machine's own values is the bits it replaced. -/
local instance namedBits : Named Bits := ⟨fun _ _ φ b => Scalar.ofBits φ b⟩

set_option maxHeartbeats 4000000

/-- The two prints have one body table. -/
theorem bodies_eq : (Cert.KernelIdeal.defs₀ (F := Bits)) = (Cert.Kernel.defs₀ (F := Bits)) := by
  funext p l a
  cases p with
  | tc =>
    match l, a with
    | 0, (t, s) => rfl
  | scScalar _ => rfl
  | scVector _ _ => rfl

theorem defs_eq : (Cert.KernelIdeal.defs (F := Bits)) = (Cert.Kernel.defs (F := Bits)) :=
  congrArg (Pipeline.defs (Cert.Kernel.pcfgs (F := Bits))) bodies_eq

theorem main_eq : (Cert.KernelIdeal.main (F := Bits)) = (Cert.Kernel.main (F := Bits)) := rfl

theorem frame_kernel : Cert.quiescent_Kernel := by
  intro m ρ _
  have h := frame_run (F := Bits) m ρ
  rw [defs_eq] at h
  exact h

theorem frame_ideal : Cert.quiescent_KernelIdeal := fun m ρ _ => frame_run (F := Ideal) m ρ

end Cert.RingProof
-- ==== Proof.RefFrame.lean ====
module

public import proofs.«01_k».proof.Defs
public import proofs.«01_k».proof.Proof.Gen.ReferenceIdeal.Run
public import Idealize.ShloMosaic.Lib.Quiescent

@[expose] public section

/-! # The frame of the reference

The reference is one device's host program and has no semaphore at all. -/

noncomputable section

namespace Cert.RingProof

open Idealize.ShloMosaic Idealize.SL.Sem

theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

end Cert.RingProof
-- ==== Proof.Spec.lean ====
module

public import Idealize.ShloMosaic.PureOps.Ideal.Laws
public import Mathlib.Analysis.SpecialFunctions.Pow.Real
public import Mathlib.Analysis.SpecialFunctions.Trigonometric.Basic

@[expose] public section

/-!
# The attention layer over the reals

The weights of the attention are reals. The values and the output weights are any extended reals: multiplication by a
positive real distributes over their sums.

Columns of the projections are natural numbers: head `g` has the columns `128 * g + d` for `d < 128`. Rows are
positions in the whole sequence.
-/

noncomputable section

namespace Cert.RingProof

open Idealize.ShloMosaic
open scoped BigOperators

/-- A sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_coe_coe (a : ℝ) {b : ℝ} (h : b ≠ 0) : Ideal.div (a : EReal) (b : EReal) = ((a / b : ℝ) : EReal) := by
  rw [Ideal.div_coe h, ← EReal.coe_mul, mul_one_div]

/-- The frequency of a column: that of its pair of lanes within its head. -/
def laneFreq (n : ℕ) : ℝ := 1 / (10000 : ℝ) ^ (((2 * (n % 128 / 2) : ℕ) : ℝ) / 128)

/-- The angle of a row and a column. -/
def ang (r n : ℕ) : ℝ := (r : ℝ) * laneFreq n

theorem laneFreq_exp (n : ℕ) :
    laneFreq n = Real.exp (((2 * (n % 128 / 2) : ℕ) : ℝ) * (1 / 128) * -(Real.log 10000)) := by
  unfold laneFreq
  rw [Real.rpow_def_of_pos (by norm_num), one_div, ← Real.exp_neg]
  congr 1
  ring

/-- The rotation of a row of columns: each pair of lanes by its angle. -/
def rotR (t : ℕ → ℝ) (r n : ℕ) : ℝ :=
  if n % 2 = 0 then t n * Real.cos (ang r n) + -t (n + 1) * Real.sin (ang r n)
  else t n * Real.cos (ang r n) + t (n - 1) * Real.sin (ang r n)

theorem rotR_scale (t : ℕ → ℝ) (a : ℝ) (r n : ℕ) : rotR (fun m => t m * a) r n = rotR t r n * a := by
  unfold rotR
  split <;> ring

/-- The scale of the scores. -/
def scale : ℝ := (Ideal.ofBits .f32 0x3DB504F3#32).toReal

theorem ofBits_scale : Ideal.ofBits .f32 0x3DB504F3#32 = ((scale : ℝ) : EReal) := by
  refine (EReal.coe_toReal ?_ ?_).symm <;>
  · simp [Ideal.ofBits, Ideal.ieee, -EReal.coe_mul]

/-- A positive real multiplies a sum of extended reals term by term. -/
theorem sum_mul_pos {ι : Type*} (s : Finset ι) (f : ι → EReal) {c : ℝ} (h : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.2 h) (EReal.coe_ne_top _)]

/-- A weighted sum divided by a positive real: the weights may be divided first. -/
theorem div_sum {ι : Type*} [Fintype ι] (a : ι → ℝ) (v : ι → EReal) {l : ℝ} (h : 0 < l) :
    Ideal.div (∑ j, (a j : EReal) * v j) (l : EReal) = ∑ j, ((a j / l : ℝ) : EReal) * v j := by
  rw [Ideal.div_coe h.ne', sum_mul_pos _ _ (one_div_pos.2 h).le]
  refine Finset.sum_congr rfl fun j _ => ?_
  rw [mul_right_comm, ← EReal.coe_mul, mul_one_div]

section Layer

variable (x : Fin 2 → ℕ → Fin 1024 → ℝ) (wq wk : Fin 1024 → ℕ → ℝ) (wv : Fin 1024 → ℕ → EReal) (wo : ℕ → Fin 1024 → EReal)

/-- A projection. -/
def projR (w : Fin 1024 → ℕ → ℝ) (b : Fin 2) (r n : ℕ) : ℝ := ∑ k : Fin 1024, x b r k * w k n

/-- The values. -/
def valR (b : Fin 2) (r n : ℕ) : EReal := ∑ k : Fin 1024, ((x b r k : ℝ) : EReal) * wv k n

def keyR (b : Fin 2) (r n : ℕ) : ℝ := rotR (projR x wk b r) r n
def queR (b : Fin 2) (r n : ℕ) : ℝ := rotR (projR x wq b r) r n

/-- The scaled score of head `g` at rows `i` and `j`. -/
def scoreR (b : Fin 2) (g i j : ℕ) : ℝ :=
  (∑ d : Fin 128, queR x wq b i (128 * g + d.val) * keyR x wk b j (128 * g + d.val)) * scale

/-- The sum of a row of exponentials. -/
def denR (b : Fin 2) (g i : ℕ) : ℝ := ∑ j : Fin 2048, Real.exp (scoreR x wq wk b g i j.val)

theorem denR_pos (b : Fin 2) (g i : ℕ) : 0 < denR x wq wk b g i :=
  Finset.sum_pos (fun _ _ => Real.exp_pos _) ⟨0, Finset.mem_univ _⟩

/-- The weight of row `j` in the attention of head `g` at row `i`. -/
def weightR (b : Fin 2) (g i j : ℕ) : ℝ := Real.exp (scoreR x wq wk b g i j) / denR x wq wk b g i

/-- The attention of head `g` at row `i`, lane `d`. -/
def ctxR (b : Fin 2) (g i d : ℕ) : EReal :=
  ∑ j : Fin 2048, ((weightR x wq wk b g i j.val : ℝ) : EReal) * valR x wv b j.val (128 * g + d)

/-- Head `g`'s share of the output. -/
def headR (b : Fin 2) (g i : ℕ) (n : Fin 1024) : EReal :=
  ∑ d : Fin 128, ctxR x wq wk wv b g i d.val * wo (128 * g + d.val) n

/-- Device `c`'s share of the output: that of its eight heads. -/
def shareR (c : ℕ) (b : Fin 2) (i : ℕ) (n : Fin 1024) : EReal :=
  ∑ h : Fin 8, headR x wq wk wv wo b (8 * c + h.val) i n

/-- The output. -/
def outR (b : Fin 2) (i : ℕ) (n : Fin 1024) : EReal := ∑ c : Fin 4, shareR x wq wk wv wo c.val b i n

end Layer

end Cert.RingProof
-- ==== Proof.Finite.lean ====
module

public import proofs.«01_k».proof.Defs
public import proofs.«01_k».proof.Proof.Run
public import proofs.«01_k».proof.Proof.Spec
public import proofs.«01_k».proof.Proof.Gen.Pre_finite_KernelIdeal
public import Idealize.ShloMosaic.Lib.ReduceAll
public import Idealize.ShloMosaic.PureOps.Ideal

@[expose] public section

/-! The precondition, and the arrays the windows read and write -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window)

/-! ## Finite entries -/

/-- The word of the precondition's bound is the top of the extended reals. -/
theorem bound_top : Ideal.ofBits .f32 0x7F800000#32 = ⊤ := by simp [Ideal.ofBits, Ideal.ieee]

/-- What is below the top in absolute value is a real. -/
theorem real_of_lt (x : EReal) (h : max x (-x) < ⊤) : x = ((x.toReal : ℝ) : EReal) := by
  have h1 := lt_of_le_of_lt (le_max_left x (-x)) h
  have h2 := lt_of_le_of_lt (le_max_right x (-x)) h
  refine (EReal.coe_toReal h1.ne ?_).symm
  rintro rfl
  simp at h2

theorem real_of_cmp (x : EReal) (h : Ideal.cmp .olt (max x (-x)) (Ideal.ofBits .f32 0x7F800000#32) = 1#1) :
    x = ((x.toReal : ℝ) : EReal) := by
  rw [bound_top] at h
  apply real_of_lt
  by_contra hc
  simp [Ideal.cmp, hc] at h

theorem and_one {a b : BitVec 1} (h : a &&& b = 1#1) : a = 1#1 ∧ b = 1#1 := by
  revert a b; decide

instance scalarIdx : Subsingleton (Cert.Pre_finite_KernelIdeal.S_.Idx) := ⟨fun a b => funext fun i => i.elim0⟩

/-- Every entry of the three arrays the precondition is of is a real. -/
theorem finite_entries (x0 : FVec Ideal Cert.Pre_finite_KernelIdeal.S2x512x1024 .bf16)
    (x1 x2 x3 x4 : FVec Ideal Cert.Pre_finite_KernelIdeal.S1024x1024 .bf16)
    (h : Cert.Pre_finite_KernelIdeal.fn (F := Ideal) x0 x1 x2 x3 x4 = fun _ => 1#1) :
    (∀ i, (x0 i : EReal) = (((x0 i : EReal).toReal : ℝ) : EReal)) ∧ (∀ i, (x1 i : EReal) = (((x1 i : EReal).toReal : ℝ) : EReal))
    ∧ (∀ i, (x2 i : EReal) = (((x2 i : EReal).toReal : ℝ) : EReal)) := by
  have h0 := congrFun h (fun a => a.elim0)
  unfold Cert.Pre_finite_KernelIdeal.fn at h0
  obtain ⟨h0, e2⟩ := and_one h0
  obtain ⟨e0, e1⟩ := and_one h0
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i)⟩

/-! ## The windows are whole arrays -/

section
variable {F : FTy → Type} [FloatOps F] [Named F]
variable (m : (ℓ : Loc nD τ sig) → Buf (Elt F) ℓ) (ρ : Dev nD → PrngReg)

omit [FloatOps F] [Named F] in
theorem read_0 (A : S2x512x1024.Idx → F .bf16) : (win0_0.blk (0 : Fin 1)).view.read (Elt F) A = A := by
  funext i
  show A _ = A i
  refine congrArg A (funext fun a => Fin.ext ?_)
  exact win0_0.rect_emb_val_of_index_zero (0 : Fin 1) a rfl i
omit [FloatOps F] [Named F] in
theorem read_1 (A : S1024x1024.Idx → F .bf16) : (win0_1.blk (0 : Fin 1)).view.read (Elt F) A = A := by
  funext i
  show A _ = A i
  refine congrArg A (funext fun a => Fin.ext ?_)
  exact win0_1.rect_emb_val_of_index_zero (0 : Fin 1) a rfl i
omit [FloatOps F] [Named F] in
theorem read_2 (A : S1024x1024.Idx → F .bf16) : (win0_2.blk (0 : Fin 1)).view.read (Elt F) A = A := by
  funext i
  show A _ = A i
  refine congrArg A (funext fun a => Fin.ext ?_)
  exact win0_2.rect_emb_val_of_index_zero (0 : Fin 1) a rfl i
omit [FloatOps F] [Named F] in
theorem read_3 (A : S1024x1024.Idx → F .bf16) : (win0_3.blk (0 : Fin 1)).view.read (Elt F) A = A := by
  funext i
  show A _ = A i
  refine congrArg A (funext fun a => Fin.ext ?_)
  exact win0_3.rect_emb_val_of_index_zero (0 : Fin 1) a rfl i
omit [FloatOps F] [Named F] in
theorem read_4 (A : S1024x1024.Idx → F .bf16) : (win0_4.blk (0 : Fin 1)).view.read (Elt F) A = A := by
  funext i
  show A _ = A i
  refine congrArg A (funext fun a => Fin.ext ?_)
  exact win0_4.rect_emb_val_of_index_zero (0 : Fin 1) a rfl i

theorem emb_5 (t : Fin cfg0.N) (i : ((cfg0.win (5 : Fin 6)).xblock (cfg0.grid.coords t)).Idx) :
    ((cfg0.win (5 : Fin 6)).blk t).view.emb i = i := by
  obtain rfl := fin_N t
  refine funext fun a => Fin.ext ?_
  exact win0_5.rect_emb_val_of_index_zero (0 : Fin 1) a rfl i

/-- The result array at the end of the run. -/
theorem final_out (c : Dev nD) : finalA m ρ c (5 : Fin 6) = outAt (inp m) c := by
  refine (dats m ρ 0 c).arrAt_eq_of_cover (5 : Fin 6) (outAt (inp m) c) (fun t _ => ?_) (fun i => ⟨t₀, flush0_5 t₀, ?_⟩)
  · obtain rfl := fin_N t
    funext i
    exact congrArg (outAt (inp m) c) (emb_5 t₀ i).symm
  · have h := ((cfg0.win (5 : Fin 6)).blk t₀).view.emb_mem_set i
    rwa [emb_5 t₀ i] at h

end

end Cert.RingProof
-- ==== Proof.Lanes.lean ====
module

public import proofs.«01_k».proof.Proof.Vals
public import proofs.«01_k».proof.Proof.Spec
public import Idealize.ShloMosaic.Lib.ValueIdx
public import Idealize.ShloMosaic.Lib.ValueLayout
public import Idealize.ShloMosaic.Lib.IdealHost
public import Idealize.ShloMosaic.Lib.Pipeline.Value

@[expose] public section

/-! # The rotary tables over the reals -/

noncomputable section

namespace Cert.RingProof

open Cert.KernelIdeal Cert.KernelIdeal.Gen
open Idealize.ShloMosaic Idealize.ShloMosaic.ValueIdx
open scoped BigOperators

/-! ## Words -/

theorem evenLane_zero : ∀ j : Fin 1024, evenLane (ix2 (0 : Fin 512) j) = if j.val % 2 = 0 then 1#1 else 0#1 := by
  decide +kernel

theorem evenLane_apply (r : Fin 512) (j : Fin 1024) : evenLane (ix2 r j) = if j.val % 2 = 0 then 1#1 else 0#1 :=
  (show evenLane (ix2 r j) = evenLane (ix2 (0 : Fin 512) j) from rfl).trans (evenLane_zero j)

/-- Twice the pair number of each lane within its head, as the kernel computes it. -/
def pairWord : IVec S512x1024 32 :=
  muli (select
    (andi (cmpi .ne k0_pay10 (broadcast S512x1024
        (Scalar.subi (Scalar.extui (Scalar.cmpi .sgt 2#32 0#32)) (Scalar.extui (Scalar.cmpi .slt 2#32 0#32)))))
      (cmpi .ne (remsi k0_pay7 (broadcast S512x1024 2#32)) (broadcast S512x1024 0#32)))
    (subi k0_pay9 (broadcast S512x1024 1#32)) k0_pay9) (broadcast S512x1024 2#32)

theorem pairWord_zero : ∀ j : Fin 1024, (pairWord (ix2 (0 : Fin 512) j)).toInt = (2 * (j.val % 128 / 2) : ℕ) := by
  decide +kernel

theorem pairWord_apply (r : Fin 512) (j : Fin 1024) : (pairWord (ix2 r j)).toInt = (2 * (j.val % 128 / 2) : ℕ) :=
  (show (pairWord (ix2 r j)).toInt = (pairWord (ix2 (0 : Fin 512) j)).toInt from rfl).trans (pairWord_zero j)

theorem ofBits_inv128 : Ideal.ofBits .f32 0x3C000000#32 = (((1 : ℝ) / 128 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

theorem named_base : (Named.named (F := Ideal) κ "neg_log_base" (φ := .f32) 0xC1135D8E#32) = ((-(Real.log 10000) : ℝ) : EReal) :=
  rfl

theorem freq_apply (r : Fin 512) (j : Fin 1024) : freq (F := Ideal) (ix2 r j) = ((laneFreq j.val : ℝ) : EReal) := by
  show Ideal.exp ((((pairWord (ix2 r j)).toInt : ℝ) : EReal) * Ideal.ofBits .f32 0x3C000000#32
    * Named.named (F := Ideal) κ "neg_log_base" (φ := .f32) 0xC1135D8E#32) = _
  rw [pairWord_apply, ofBits_inv128, named_base, ← EReal.coe_mul, ← EReal.coe_mul, Ideal.exp_coe, laneFreq_exp]
  norm_cast

theorem rowWord_toInt (d : Dev nD) (r : Fin 512) :
    (BitVec.ofNat 32 r.val + rowWord d).toInt = (512 * d.val + r.val : ℕ) := by
  have h1 : d.val < 4 := d.isLt
  have h2 := r.isLt
  unfold rowWord
  rw [← BitVec.ofNat_add, BitVec.toInt_ofNat']
  simp only [Int.bmod]
  omega

theorem laneFreq_dev (c j : ℕ) : laneFreq (1024 * c + j) = laneFreq j := by
  unfold laneFreq
  rw [show (1024 * c + j) % 128 = j % 128 by omega]

theorem angle_apply (d : Dev nD) (c : ℕ) (r : Fin 512) (j : Fin 1024) :
    angle (F := Ideal) (rowWord d) (ix2 r j) = ((ang (512 * d.val + r.val) (1024 * c + j.val) : ℝ) : EReal) := by
  show (((iota .tc S512x1024 32 [0] iota_S512x1024_d0_w32 (ix2 r j) + rowWord d).toInt : ℝ) : EReal)
    * freq (F := Ideal) (ix2 r j) = _
  rw [iota_single_apply]
  show (((BitVec.ofNat 32 r.val + rowWord d).toInt : ℝ) : EReal) * _ = _
  rw [rowWord_toInt, freq_apply, ← EReal.coe_mul, ang, laneFreq_dev]
  norm_cast

/-! ## The neighbours of a lane -/

theorem rollL_apply (t : FVec Ideal S512x1024 .bf16) (r : Fin 512) (j : Fin 1024) (h : j.val + 1 < 1024) :
    rollL t (ix2 r j) = t (ix2 r ⟨j.val + 1, h⟩) := by
  unfold rollL
  rw [concatenate_pair_apply_left (s₁ := S512x1023) (s₂ := S512x1) (t := S512x1024) (1 : Fin 2) _ _ _ (ix2 r j) rfl (ix2 (n0 := 512) (n1 := 1023) r ⟨j.val, by omega⟩)
    (fun b => by match b with | ⟨0, _⟩ => rfl | ⟨1, _⟩ => rfl)]
  exact slice2_axis1_apply 1 t _ r _ _ (Nat.add_comm _ _)

theorem rollR_apply (t : FVec Ideal S512x1024 .bf16) (r : Fin 512) (j : Fin 1024) (h : 0 < j.val) :
    rollR t (ix2 r j) = t (ix2 r ⟨j.val - 1, by have := j.isLt; omega⟩) := by
  unfold rollR
  rw [concatenate_pair_apply_right (s₁ := S512x1) (s₂ := S512x1023) (t := S512x1024) (1 : Fin 2) _ _ _ (ix2 r j) rfl rfl
    (ix2 (n0 := 512) (n1 := 1023) r ⟨j.val - 1, by have := j.isLt; omega⟩)
    (fun b hb => by match b with | ⟨0, _⟩ => rfl | ⟨1, _⟩ => exact absurd rfl hb)
    (show j.val - 1 + 1 = j.val by omega)]
  exact slice2_axis1_apply 0 t _ r _ _ (Nat.zero_add _).symm

/-! ## The rotation -/

theorem rope_apply (t : FVec Ideal S512x1024 .bf16) (T : ℕ → ℝ) (d : Dev nD) (c : ℕ) (r : Fin 512)
    (ht : ∀ j : Fin 1024, t (ix2 r j) = ((T (1024 * c + j.val) : ℝ) : EReal)) (j : Fin 1024) :
    rope t (rowWord d) (ix2 r j) = ((rotR T (512 * d.val + r.val) (1024 * c + j.val) : ℝ) : EReal) := by
  have hj := j.isLt
  show t (ix2 r j) * Ideal.cos (angle (F := Ideal) (rowWord d) (ix2 r j))
    + Scalar.select (evenLane (ix2 r j)) (rollL t (ix2 r j)) (rollR t (ix2 r j))
      * (Ideal.sin (angle (F := Ideal) (rowWord d) (ix2 r j))
        * Scalar.select (evenLane (ix2 r j)) (Ideal.ofBits .f32 0xBF800000#32) (Ideal.ofBits .f32 0x3F800000#32)) = _
  rw [angle_apply d c, Ideal.cos_coe, Ideal.sin_coe, ht, evenLane_apply, rotR]
  by_cases he : j.val % 2 = 0
  · rw [if_pos he, if_pos (by omega), select_one, select_one, rollL_apply t r j (by omega), ht, ofBits_neg_one,
      ← EReal.coe_mul, ← EReal.coe_mul, ← EReal.coe_mul, ← EReal.coe_add]
    congr 1
    show _ + T (1024 * c + (j.val + 1)) * _ = _
    rw [← Nat.add_assoc]
    ring
  · rw [if_neg he, if_neg (by omega), select_zero, select_zero, rollR_apply t r j (by omega), ht, Ideal.ofBits_one_f32,
      mul_one, ← EReal.coe_mul, ← EReal.coe_mul, ← EReal.coe_add]
    congr 1
    show _ + T (1024 * c + (j.val - 1)) * _ = _
    rw [show 1024 * c + (j.val - 1) = 1024 * c + j.val - 1 by omega]

end Cert.RingProof
-- ==== Proof.KernelValue.lean ====
module

public import proofs.«01_k».proof.Proof.Lanes
public import Idealize.ShloMosaic.Lib.MatmulPlain
public import Mathlib.Tactic.IntervalCases

@[expose] public section

/-!
# The kernel's result over the reals

`X d` holds rows `512 * d` onward of the sequence, the weights of device `c` the columns (rows, for the output
projection) `1024 * c` onward; the sequence, the query weights and the key weights are finite. Then the result of device `c` is the output of the layer over the reals at
rows `512 * c` onward.
-/

noncomputable section

namespace Cert.RingProof

open Cert.KernelIdeal Cert.KernelIdeal.Gen
open Idealize.ShloMosaic Idealize.ShloMosaic.ValueIdx
open scoped BigOperators

/-! ## A product of reals -/

theorem sum_mul_coe {ι : Type} [Fintype ι] (f g : ι → EReal) (a b : ι → ℝ) (hf : ∀ k, f k = ((a k : ℝ) : EReal))
    (hg : ∀ k, g k = ((b k : ℝ) : EReal)) : ∑ k, f k * g k = ((∑ k, a k * b k : ℝ) : EReal) := by
  rw [← coe_sum]
  refine Finset.sum_congr rfl fun k _ => ?_
  rw [hf, hg, EReal.coe_mul]

theorem product_any {M K N : ℕ} (lhs : FVec Ideal ⟨2, ![M, K]⟩ .bf16) (rhs : FVec Ideal ⟨2, ![K, N]⟩ .bf16)
    (i : Fin M) (j : Fin N) (a b : Fin K → EReal) (ha : ∀ k, lhs (ix2 i k) = a k) (hb : ∀ k, rhs (ix2 k j) = b k) :
    FloatOps.matmul (F := Ideal) (DotDims.plain M K N) none lhs rhs (constant ⟨2, ![M, N]⟩ .f32 0x00000000#32) (ix2 i j)
      = ∑ k, a k * b k := by
  rw [Ideal.matmul_plain_apply]
  show Ideal.ofBits .f32 0x00000000#32 + _ = _
  rw [Ideal.ofBits_zero_f32, zero_add]
  exact Finset.sum_congr rfl fun k _ => congrArg₂ (· * ·) (ha k) (hb k)

theorem product_apply {M K N : ℕ} (lhs : FVec Ideal ⟨2, ![M, K]⟩ .bf16) (rhs : FVec Ideal ⟨2, ![K, N]⟩ .bf16)
    (i : Fin M) (j : Fin N) (a b : Fin K → ℝ) (ha : ∀ k, lhs (ix2 i k) = ((a k : ℝ) : EReal))
    (hb : ∀ k, rhs (ix2 k j) = ((b k : ℝ) : EReal)) :
    FloatOps.matmul (F := Ideal) (DotDims.plain M K N) none lhs rhs (constant ⟨2, ![M, N]⟩ .f32 0x00000000#32) (ix2 i j)
      = ((∑ k, a k * b k : ℝ) : EReal) := by
  rw [Ideal.matmul_plain_apply]
  show Ideal.ofBits .f32 0x00000000#32 + _ = _
  rw [Ideal.ofBits_zero_f32, zero_add]
  exact sum_mul_coe _ _ a b ha hb

theorem proj_apply (x : FVec Ideal S512x1024 .bf16) (w : FVec Ideal S1024x1024 .bf16) (r : Fin 512) (j : Fin 1024)
    (a b : Fin 1024 → ℝ) (ha : ∀ k, x (ix2 r k) = ((a k : ℝ) : EReal)) (hb : ∀ k, w (ix2 k j) = ((b k : ℝ) : EReal)) :
    proj x w (ix2 r j) = ((∑ k, a k * b k : ℝ) : EReal) :=
  product_apply (M := 512) (K := 1024) (N := 1024) x w r j a b ha hb

/-! ## Attention of one head -/

theorem rowSum_apply (e : FVec Ideal S256x2048 .f32) (i : Fin 256) (a : Fin 2048 → ℝ)
    (ha : ∀ j, e (ix2 i j) = ((a j : ℝ) : EReal)) :
    multiReduction (F := Ideal) .add [1] S256 e 0x00000000#32 reduces_S256x2048_S256 (.inl rfl) rfl (ix1 i)
      = ((∑ j, a j : ℝ) : EReal) := by
  refine (Ideal.multiReduction_add_single e _ reduces_S256x2048_S256 (.inl rfl) rfl (ix1 i)).trans ?_
  rw [← coe_sum]
  refine Finset.sum_congr rfl fun j _ => ?_
  rw [show reduces_S256x2048_S256.lift (ix1 i) j = ix2 (n0 := 256) (n1 := 2048) i j from by
    funext ax; apply Fin.ext
    match ax with
    | ⟨0, _⟩ => rfl
    | ⟨1, _⟩ => rfl]
  exact ha j

theorem spread_apply (l : FVec Ideal S256 .f32) (i : Fin 256) (d : Fin 128) :
    broadcastTo S256x128 (shapeCast S256x1 l shapeCasts_S256_S256x1) broadcasts_S256x1_S256x128 (ix2 i d) = l (ix1 i) := by
  rw [broadcastTo_apply _ _ (ix2 i d) (ix2 (n0 := 256) (n1 := 1) i (0 : Fin 1)) fun ax => by
    match ax with
    | ⟨0, _⟩ => rfl
    | ⟨1, _⟩ => rfl]
  refine shapeCast_apply l _ _ _ ?_
  rw [Shape.rowMajor_val_one, Shape.rowMajor_val_two]
  show i.val = i.val * 1 + 0
  omega

theorem headHalf_apply (q : FVec Ideal S256x128 .bf16) (k : FVec Ideal S128x2048 .bf16) (v : FVec Ideal S2048x128 .bf16)
    (wo : FVec Ideal S128x1024 .bf16) (i : Fin 256) (n : Fin 1024)
    (Q : Fin 128 → ℝ) (K : Fin 128 → Fin 2048 → ℝ) (V : Fin 2048 → Fin 128 → EReal) (O : Fin 128 → EReal)
    (hq : ∀ d, q (ix2 i d) = ((Q d : ℝ) : EReal)) (hk : ∀ d j, k (ix2 d j) = ((K d j : ℝ) : EReal))
    (hv : ∀ j d, v (ix2 j d) = V j d) (hwo : ∀ d, wo (ix2 d n) = O d) :
    headHalf q k v wo (ix2 i n)
      = ∑ d, (∑ j, ((Real.exp (∑ d', Q d' * K d' j) / (∑ j', Real.exp (∑ d', Q d' * K d' j')) : ℝ) : EReal) * V j d) * O d := by
  have hpos : 0 < ∑ j : Fin 2048, Real.exp (∑ d', Q d' * K d' j) :=
    Finset.sum_pos (fun _ _ => Real.exp_pos _) ⟨0, Finset.mem_univ _⟩
  have he : ∀ j : Fin 2048, (exp (FloatOps.matmul (F := Ideal) (DotDims.plain 256 128 2048) none q k
      (constant S256x2048 .f32 0x00000000#32)) : FVec Ideal S256x2048 .f32) (ix2 i j)
      = ((Real.exp (∑ d', Q d' * K d' j) : ℝ) : EReal) := by
    intro j
    show Ideal.exp _ = _
    rw [product_apply (M := 256) (K := 128) (N := 2048) q k i j Q (fun d => K d j) hq (fun d => hk d j), Ideal.exp_coe]
  refine product_any (M := 256) (K := 128) (N := 1024) _ wo i n _ O (fun d => ?_) hwo
  show Ideal.div _ _ = _
  refine Eq.trans (congrArg₂ Ideal.div
    (product_any (M := 256) (K := 2048) (N := 128) _ v i d _ (fun j => V j d) he (fun j => hv j d))
    ((spread_apply _ i d).trans (rowSum_apply _ i _ he))) ?_
  exact div_sum _ _ hpos

/-- The two halves of a chunk, one over the other. -/
theorem halves_apply (ua ub : FVec Ideal S256x1024 .f32) (r : Fin 512) (n : Fin 1024) (y : EReal)
    (ha : ∀ h : r.val < 256, ua (ix2 ⟨r.val, h⟩ n) = y)
    (hb : ∀ h : 256 ≤ r.val, ub (ix2 ⟨r.val - 256, by have := r.isLt; omega⟩ n) = y) :
    concatenate S512x1024 0 [⟨S256x1024, ua⟩, ⟨S256x1024, ub⟩] concatenates_S256x1024_S256x1024_S512x1024_d0 (ix2 r n) = y := by
  have hr := r.isLt
  by_cases h : r.val < 256
  · rw [concatenate_pair_apply_left (s₁ := S256x1024) (s₂ := S256x1024) (t := S512x1024) (0 : Fin 2) _ _ _ (ix2 r n) rfl
      (ix2 (n0 := 256) (n1 := 1024) ⟨r.val, h⟩ n) (fun b => by match b with | ⟨0, _⟩ => rfl | ⟨1, _⟩ => rfl)]
    exact ha h
  · rw [concatenate_pair_apply_right (s₁ := S256x1024) (s₂ := S256x1024) (t := S512x1024) (0 : Fin 2) _ _ _ (ix2 r n) rfl rfl
      (ix2 (n0 := 256) (n1 := 1024) ⟨r.val - 256, by omega⟩ n)
      (fun b hb => by match b with | ⟨0, _⟩ => exact absurd rfl hb | ⟨1, _⟩ => rfl)
      (show r.val - 256 + 256 = r.val by omega)]
    exact hb (by omega)

/-! ## What the buffers hold -/

section Layer

variable (x : Fin 2 → ℕ → Fin 1024 → ℝ) (wq wk : Fin 1024 → ℕ → ℝ) (wv : Fin 1024 → ℕ → EReal) (wo : ℕ → Fin 1024 → EReal)
variable (X : Dev nD → Vec Ideal S2x512x1024 .bf16) (Wq Wk Wv Wo : Dev nD → Vec Ideal S1024x1024 .bf16)
variable (hX : ∀ (d : Dev nD) (b : Fin 2) (r : Fin 512) (k : Fin 1024), X d (ix3 b r k) = ((x b (512 * d.val + r.val) k : ℝ) : EReal))
variable (hq : ∀ (c : Dev nD) (k j : Fin 1024), Wq c (ix2 k j) = ((wq k (1024 * c.val + j.val) : ℝ) : EReal))
variable (hk : ∀ (c : Dev nD) (k j : Fin 1024), Wk c (ix2 k j) = ((wk k (1024 * c.val + j.val) : ℝ) : EReal))
variable (hv : ∀ (c : Dev nD) (k j : Fin 1024), Wv c (ix2 k j) = wv k (1024 * c.val + j.val))
variable (ho : ∀ (c : Dev nD) (k n : Fin 1024), Wo c (ix2 k n) = wo (1024 * c.val + k.val) n)

include hX in
theorem proj_row (W : Dev nD → Vec Ideal S1024x1024 .bf16) (w : Fin 1024 → ℕ → ℝ)
    (hw : ∀ (c : Dev nD) (k j : Fin 1024), W c (ix2 k j) = ((w k (1024 * c.val + j.val) : ℝ) : EReal))
    (c d : Dev nD) (b : Fin 2) (r : Fin 512) (j : Fin 1024) :
    proj (xRow (X d) b) (W c) (ix2 r j) = ((projR x w b (512 * d.val + r.val) (1024 * c.val + j.val) : ℝ) : EReal) :=
  proj_apply _ _ r j _ _ (fun k => hX d b r k) (fun k => hw c k j)

theorem chunk_row (j : Fin 2048) : 512 * (chunkOf j).val + (rowOf j).val = j.val := Nat.div_add_mod _ _

include hX hk in
theorem kAll_apply (c : Dev nD) (b : Fin 2) (l : Fin 1024) (j : Fin 2048) :
    kAll X Wk c (ix3 b l j) = ((keyR x wk b j.val (1024 * c.val + l.val) : ℝ) : EReal) := by
  show transpose S1024x512 [1, 0] _ _ (ix2 l (rowOf j)) = _
  rw [transpose_ix2_apply]
  refine (rope_apply _ (projR x wk b j.val) (chunkOf j) c.val (rowOf j) (fun l' => ?_) l).trans ?_
  · refine (proj_row x X hX Wk wk hk c (chunkOf j) b (rowOf j) l').trans ?_
    rw [chunk_row]
  · rw [chunk_row]; rfl

include hX hv in
theorem vAll_apply (c : Dev nD) (b : Fin 2) (j : Fin 2048) (l : Fin 1024) :
    vAll X Wv c (ix3 b j l) = valR x wv b j.val (1024 * c.val + l.val) := by
  refine (product_any (M := 512) (K := 1024) (N := 1024) _ _ (rowOf j) l _ _
    (fun k => hX (chunkOf j) b (rowOf j) k) (fun k => hv c k l)).trans ?_
  simp only [chunk_row]
  rfl

include hX hq in
theorem qAll_apply (c d : Dev nD) (b : Fin 2) (r : Fin 512) (l : Fin 1024) :
    qAll X Wq c d (ix3 b r l)
      = ((queR x wq b (512 * d.val + r.val) (1024 * c.val + l.val) * scale : ℝ) : EReal) := by
  refine (rope_apply _ (fun n => projR x wq b (512 * d.val + r.val) n * scale) d c.val r (fun l' => ?_) l).trans ?_
  · show proj (xRow (X d) b) (Wq c) (ix2 r l') * Ideal.ofBits .f32 0x3DB504F3#32 = _
    rw [proj_row x X hX Wq wq hq c d b r l', ofBits_scale, ← EReal.coe_mul]
  · rw [rotR_scale]; rfl

include hX hq hk hv ho in
theorem headHalf_value (c d : Dev nD) (b e : Fin 2) (h : Fin 8) (i : Fin 256) (n : Fin 1024) :
    headHalf (qHead (qAll X Wq c d) b e h) (kHead (kAll X Wk c) b h) (vHead (vAll X Wv c) b h) (oHead (Wo c) h) (ix2 i n)
      = headR x wq wk wv wo b (8 * c.val + h.val) (512 * d.val + (256 * e.val + i.val)) n := by
  have hg : ∀ l : Fin 128, 1024 * c.val + (128 * h.val + l.val) = 128 * (8 * c.val + h.val) + l.val := fun l => by omega
  refine (headHalf_apply _ _ _ _ i n
    (fun l => queR x wq b (512 * d.val + (256 * e.val + i.val)) (128 * (8 * c.val + h.val) + l.val) * scale)
    (fun l j => keyR x wk b j.val (128 * (8 * c.val + h.val) + l.val))
    (fun j l => valR x wv b j.val (128 * (8 * c.val + h.val) + l.val))
    (fun l => wo (128 * (8 * c.val + h.val) + l.val) n)
    (fun l => ?_) (fun l j => ?_) (fun j l => ?_) (fun l => ?_)).trans ?_
  · refine (qAll_apply x wq X Wq hX hq c d b _ _).trans ?_
    rw [← hg]
  · refine (kAll_apply x wk X Wk hX hk c b _ _).trans ?_
    rw [← hg]
  · refine (vAll_apply x wv X Wv hX hv c b _ _).trans ?_
    rw [← hg]
  · refine (ho c _ _).trans ?_
    rw [← hg]
  · have hs : ∀ j : Fin 2048, (∑ d' : Fin 128, queR x wq b (512 * d.val + (256 * e.val + i.val)) (128 * (8 * c.val + h.val) + d'.val) * scale
        * keyR x wk b j.val (128 * (8 * c.val + h.val) + d'.val))
        = scoreR x wq wk b (8 * c.val + h.val) (512 * d.val + (256 * e.val + i.val)) j.val := fun j => by
      rw [scoreR, Finset.sum_mul]
      exact Finset.sum_congr rfl fun _ _ => by ring
    simp only [hs]
    rfl

include hX hq hk hv ho in
theorem headStep_value (acc : FVec Ideal S512x1024 .f32) (c d : Dev nD) (b : Fin 2) (h : Fin 8) (r : Fin 512) (n : Fin 1024) :
    headStep acc (kHead (kAll X Wk c) b h) (vHead (vAll X Wv c) b h) (oHead (Wo c) h)
        (qHead (qAll X Wq c d) b 0 h) (qHead (qAll X Wq c d) b 1 h) (ix2 r n)
      = acc (ix2 r n) + headR x wq wk wv wo b (8 * c.val + h.val) (512 * d.val + r.val) n := by
  show acc (ix2 r n) + concatenate S512x1024 0 _ _ (ix2 r n) = _
  congr 1
  refine halves_apply _ _ r n _ (fun hr => ?_) (fun hr => ?_)
  · refine (headHalf_value x wq wk wv wo X Wq Wk Wv Wo hX hq hk hv ho c d b 0 h ⟨r.val, hr⟩ n).trans ?_
    rw [show 256 * (0 : Fin 2).val + r.val = r.val by show 256 * 0 + r.val = _; omega]
  · refine (headHalf_value x wq wk wv wo X Wq Wk Wv Wo hX hq hk hv ho c d b 1 h ⟨r.val - 256, _⟩ n).trans ?_
    rw [show 256 * (1 : Fin 2).val + (r.val - 256) = r.val by show 256 * 1 + (r.val - 256) = _; omega]

include hX hq hk hv ho in
theorem headSum_value (c d : Dev nD) (b : Fin 2) (r : Fin 512) (n : Fin 1024) (N : ℕ) (hN : N ≤ 8) :
    headSum (kAll X Wk c) (vAll X Wv c) (Wo c) (qAll X Wq c d) b N (ix2 r n)
      = ∑ h ∈ Finset.range N, headR x wq wk wv wo b (8 * c.val + h) (512 * d.val + r.val) n := by
  induction N with
  | zero => exact Ideal.ofBits_zero_f32
  | succ N ih =>
    rw [headSum, dif_pos (by omega), headStep_value x wq wk wv wo X Wq Wk Wv Wo hX hq hk hv ho, ih (by omega),
      Finset.sum_range_succ]

include hX hq hk hv ho in
theorem part_value (c d : Dev nD) (b : Fin 2) (r : Fin 512) (n : Fin 1024) :
    part X Wq Wk Wv Wo c d b (ix2 r n)
      = shareR x wq wk wv wo c.val b (512 * d.val + r.val) n := by
  refine (headSum_value x wq wk wv wo X Wq Wk Wv Wo hX hq hk hv ho c d b r n 8 le_rfl).trans ?_
  rw [shareR, Finset.sum_range]

include hX hq hk hv ho in
/-- The result of a device. -/
theorem result_value (c : Dev nD) (b : Fin 2) (r : Fin 512) (n : Fin 1024) :
    result X Wq Wk Wv Wo c b (ix2 r n) = outR x wq wk wv wo b (512 * c.val + r.val) n := by
  have hp := fun c' d => part_value x wq wk wv wo X Wq Wk Wv Wo hX hq hk hv ho c' d b r n
  show part X Wq Wk Wv Wo c c b (ix2 r n)
    + (part X Wq Wk Wv Wo (prv c) (src (prv c) 2) b (ix2 r n)
      + (part X Wq Wk Wv Wo (prv (prv c)) (src (prv (prv c)) 1) b (ix2 r n)
        + part X Wq Wk Wv Wo (prv (prv (prv c))) (src (prv (prv (prv c))) 0) b (ix2 r n))) = _
  have h2 : src (prv c) 2 = c := by revert c; decide
  have h1 : src (prv (prv c)) 1 = c := by revert c; decide
  have h0 : src (prv (prv (prv c))) 0 = c := by revert c; decide
  rw [h2, h1, h0, hp, hp, hp, hp]
  rw [outR, Fin.sum_univ_four]
  generalize shareR x wq wk wv wo = S
  generalize 512 * c.val + r.val = row
  clear h0 h1 h2
  have e1 : (prv c).val = (c.val + 3) % 4 := rfl
  have e2 : (prv (prv c)).val = ((c.val + 3) % 4 + 3) % 4 := rfl
  have e3 : (prv (prv (prv c))).val = (((c.val + 3) % 4 + 3) % 4 + 3) % 4 := rfl
  have hc : c.val < 4 := c.isLt
  rw [e1, e2, e3]
  generalize c.val = m at hc ⊢
  show _ = S 0 b row n + S 1 b row n + S 2 b row n + S 3 b row n
  interval_cases m
  · show S 0 b row n + (S 3 b row n + (S 2 b row n + S 1 b row n)) = _; abel
  · show S 1 b row n + (S 0 b row n + (S 3 b row n + S 2 b row n)) = _; abel
  · show S 2 b row n + (S 1 b row n + (S 0 b row n + S 3 b row n)) = _; abel
  · show S 3 b row n + (S 2 b row n + (S 1 b row n + S 0 b row n)) = _; abel

end Layer

end Cert.RingProof
-- ==== Proof.ReferenceValue.lean ====
module

public import proofs.«01_k».proof.Defs
public import proofs.«01_k».proof.Proof.Gen.ReferenceIdeal.Read
public import proofs.«01_k».proof.Proof.Spec
public import Idealize.ShloMosaic.Lib.ValueIdx
public import Idealize.ShloMosaic.Lib.KernelVsHost
public import Idealize.ShloMosaic.Lib.IdealHost

@[expose] public section

/-!
# The reference's result over the reals

The sequence, the query weights and the key weights are finite. The reference computes the layer: it subtracts each row's greatest score before
the exponentials, and divides the weights before the product with the values. Neither changes the result over the
reals.
-/

noncomputable section

namespace Cert.RingProof.Ref

open Cert.ReferenceIdeal Cert.ReferenceIdeal.Gen Cert.ReferenceIdeal.Read
open Idealize.ShloMosaic Idealize.ShloMosaic.ValueIdx
open scoped BigOperators

/-! ## Reals -/

theorem dot_coe {ι : Type} [Fintype ι] (f g : ι → EReal) (a b : ι → ℝ) (hf : ∀ k, f k = ((a k : ℝ) : EReal))
    (hg : ∀ k, g k = ((b k : ℝ) : EReal)) : ∑ k, f k * g k = ((∑ k, a k * b k : ℝ) : EReal) := by
  rw [← coe_sum]
  refine Finset.sum_congr rfl fun k _ => ?_
  rw [hf, hg, EReal.coe_mul]

/-- A sum over `m * n` numbers by quotient and remainder. -/
theorem sum_split {M : Type} [AddCommMonoid M] (m n : ℕ) (f : ℕ → M) : ∑ k : Fin (m * n), f k.val = ∑ a : Fin m, ∑ b : Fin n, f (n * a.val + b.val) := by
  rw [← finProdFinEquiv.sum_comp, Fintype.sum_prod_type]
  refine Finset.sum_congr rfl fun a _ => Finset.sum_congr rfl fun b _ => ?_
  congr 1
  show b.val + n * a.val = _
  omega

/-- The greatest of finitely many reals, at least one, is a real. -/
theorem fold_max_real {n : ℕ} (hn : 0 < n) (f : Fin n → EReal) (a : Fin n → ℝ) (hf : ∀ k, f k = ((a k : ℝ) : EReal)) :
    ∃ M : ℝ, (Finset.univ : Finset (Fin n)).fold max (⊥ : EReal) f = (M : EReal) := by
  have key : ∀ s : Finset (Fin n), (s = ∅ ∧ s.fold max (⊥ : EReal) f = ⊥) ∨ ∃ M : ℝ, s.fold max (⊥ : EReal) f = (M : EReal) := by
    intro s
    induction s using Finset.induction_on with
    | empty => exact .inl ⟨rfl, rfl⟩
    | insert i s hi ih =>
      right
      rw [Finset.fold_insert hi, hf]
      rcases ih with ⟨_, h⟩ | ⟨M, h⟩
      · exact ⟨a i, by rw [h]; exact max_eq_left bot_le⟩
      · exact ⟨max (a i) M, by rw [h]; exact (EReal.coe_strictMono.monotone.map_max).symm⟩
  rcases key Finset.univ with ⟨h, _⟩ | h
  · exact absurd h (Finset.univ_nonempty_iff.mpr ⟨⟨0, hn⟩⟩).ne_empty
  · exact h

/-- A softmax weight with the exponents shifted. -/
theorem weight_shift {n : ℕ} (s : Fin n → ℝ) (M : ℝ) (j : Fin n) :
    Real.exp (s j - M) / ∑ j', Real.exp (s j' - M) = Real.exp (s j) / ∑ j', Real.exp (s j') := by
  have h2 : (∑ j, Real.exp (s j) / Real.exp M) = (∑ j, Real.exp (s j)) / Real.exp M := (Finset.sum_div _ _ _).symm
  simp only [Real.exp_sub]
  rw [h2, div_div_div_cancel_right₀ (Real.exp_ne_zero M)]

/-! ## Angles -/

theorem ofBits_128 : Ideal.ofBits .f32 0x43000000#32 = ((128 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- The word of a pair's even lane. -/
theorem evenWord : ∀ p : Fin 64, (IntOp.addi 0#32 (IntOp.muli 2#32 (BitVec.ofNat 32 p.val))).toInt = (2 * p.val : ℕ) := by
  decide +kernel

theorem v16_apply (p : Fin 64) (n : ℕ) (hn : n % 128 / 2 = p.val) :
    val_main_v16 (F := Ideal) (ix1 p) = ((laneFreq n : ℝ) : EReal) := by
  rw [val_main_v16_apply, val_main_v15_apply, val_main_v14_apply, val_main_v13_apply, val_main_v12_apply, val_main_v11_apply,
    val_main_v10_apply, val_main_v9_apply, val_main_v8_apply, val_main_v7_apply, val_main_v6_apply]
  show Ideal.div (Ideal.ofBits .f32 0x3F800000#32) (Ideal.pow (Ideal.ofBits .f32 0x461C4000#32)
    (Ideal.div (((IntOp.addi 0#32 (IntOp.muli 2#32 (BitVec.ofNat 32 p.val))).toInt : ℝ) : EReal) (Ideal.ofBits .f32 0x43000000#32))) = _
  rw [evenWord, ofBits_128, ofBits_10000, Ideal.ofBits_one_f32, div_coe_coe _ (by norm_num), Ideal.pow_coe_coe,
    ← EReal.coe_one, div_coe_coe _ (show Real.rpow 10000 _ ≠ 0 from ne_of_gt (Real.rpow_pos_of_pos (by norm_num) _)), laneFreq,
    hn, Int.cast_natCast]
  rfl

theorem row_toInt : ∀ r : Fin 2048, (BitVec.ofNat 32 r.val).toInt = (r.val : ℕ) := by
  intro r
  have := r.isLt
  rw [BitVec.toInt_ofNat']
  simp only [Int.bmod]
  omega

theorem v23_apply (r : Fin 2048) (p : Fin 64) (n : ℕ) (hn : n % 128 / 2 = p.val) :
    val_main_v23 (F := Ideal) (ix2 r p) = ((ang r.val n : ℝ) : EReal) := by
  rw [val_main_v23_apply, val_main_v21_apply, val_main_v20_apply, val_main_v18_apply, val_main_v17_apply, val_main_v22_apply,
    val_main_v19_apply, show idx_main_v19 (idx_main_v22 (ix2 r p)) = ix1 p from
      funext fun a => match a with | ⟨0, _⟩ => rfl, v16_apply p n hn]
  show (((BitVec.ofNat 32 r.val).toInt : ℝ) : EReal) * _ = _
  rw [row_toInt, ← EReal.coe_mul]
  rfl

/-- The pair of a lane. -/
def pairOf (l : Fin 128) : Fin 64 := ⟨l.val / 2, by have := l.isLt; omega⟩

theorem v26_apply (r : Fin 2048) (l : Fin 128) (n : ℕ) (hn : n % 128 = l.val) :
    val_main_v26 (F := Ideal) (ix2 r l) = ((Real.cos (ang r.val n) : ℝ) : EReal) := by
  have hr := r.isLt
  have hl := l.isLt
  rw [val_main_v26_apply, val_main_v25_apply, show idx_main_v25 (idx_main_v26 (ix2 r l)) = ix2 r (pairOf l) from by
    funext a; apply Fin.ext
    match a with
    | ⟨0, _⟩ => show (r.val * 128 + l.val) / 128 = r.val; omega
    | ⟨1, _⟩ => show (r.val * 128 + l.val) / 2 % 64 = l.val / 2; omega, val_main_v24_apply,
    v23_apply r (pairOf l) n (by rw [hn]; rfl)]
  rfl

theorem v29_apply (r : Fin 2048) (l : Fin 128) (n : ℕ) (hn : n % 128 = l.val) :
    val_main_v29 (F := Ideal) (ix2 r l) = ((Real.sin (ang r.val n) : ℝ) : EReal) := by
  have hr := r.isLt
  have hl := l.isLt
  rw [val_main_v29_apply, val_main_v28_apply, show idx_main_v28 (idx_main_v29 (ix2 r l)) = ix2 r (pairOf l) from by
    funext a; apply Fin.ext
    match a with
    | ⟨0, _⟩ => show (r.val * 128 + l.val) / 128 = r.val; omega
    | ⟨1, _⟩ => show (r.val * 128 + l.val) / 2 % 64 = l.val / 2; omega, val_main_v27_apply,
    v23_apply r (pairOf l) n (by rw [hn]; rfl)]
  rfl

/-! ## The layer -/

section Layer

variable (x : Fin 2 → ℕ → Fin 1024 → ℝ) (wq wk : Fin 1024 → ℕ → ℝ) (wv : Fin 1024 → ℕ → EReal) (wo : ℕ → Fin 1024 → EReal)
variable (x0 : (⟨S2x2048x1024, .bf16⟩ : BufTy).Contents (Elt Ideal)) (x1 x2 x3 : (⟨S1024x4096, .bf16⟩ : BufTy).Contents (Elt Ideal))
variable (x4 : (⟨S4096x1024, .bf16⟩ : BufTy).Contents (Elt Ideal))
variable (hX : ∀ (b : Fin 2) (r : Fin 2048) (k : Fin 1024), x0 (ix3 b r k) = ((x b r.val k : ℝ) : EReal))
variable (hq : ∀ (k : Fin 1024) (n : Fin 4096), x1 (ix2 k n) = ((wq k n.val : ℝ) : EReal))
variable (hk : ∀ (k : Fin 1024) (n : Fin 4096), x2 (ix2 k n) = ((wk k n.val : ℝ) : EReal))
variable (hv : ∀ (k : Fin 1024) (n : Fin 4096), x3 (ix2 k n) = wv k n.val)
variable (ho : ∀ (k : Fin 4096) (n : Fin 1024), x4 (ix2 k n) = wo k.val n)

include hX in
theorem v31_any (w : Fin 1024 → ℕ → EReal) (y : (⟨S1024x4096, .bf16⟩ : BufTy).Contents (Elt Ideal))
    (hw : ∀ (k : Fin 1024) (n : Fin 4096), y (ix2 k n) = w k n.val)
    (b : Fin 2) (r : Fin 2048) (g : Fin 32) (l : Fin 128) :
    val_main_v31 (F := Ideal) x0 y (ix4 b r g l) = valR x w b r.val (128 * g.val + l.val) := by
  have hb := b.isLt
  have hr := r.isLt
  have hg := g.isLt
  have hl := l.isLt
  rw [val_main_v31_apply, val_main_v30_apply]
  refine Finset.sum_congr rfl fun k _ => congrArg₂ (· * ·) ?_ ?_
  · rw [val_main_v0_apply, show lidx_main_v30 (idx_main_v31 (ix4 b r g l)) k = ix3 b r k from by
      funext a; apply Fin.ext
      match a with
      | ⟨0, _⟩ => show (((b.val * 2048 + r.val) * 32 + g.val) * 128 + l.val) / 8388608 = b.val; omega
      | ⟨1, _⟩ => show (((b.val * 2048 + r.val) * 32 + g.val) * 128 + l.val) / 4096 % 2048 = r.val; omega
      | ⟨2, _⟩ => rfl]
    exact hX b r k
  · rw [val_main_v1_apply, show ridx_main_v30 (idx_main_v31 (ix4 b r g l)) k
        = ix2 k (⟨128 * g.val + l.val, by omega⟩ : Fin 4096) from by
      funext a; apply Fin.ext
      match a with
      | ⟨0, _⟩ => rfl
      | ⟨1, _⟩ => show (((b.val * 2048 + r.val) * 32 + g.val) * 128 + l.val) % 4096 = 128 * g.val + l.val; omega]
    exact hw k _

include hX in
theorem v31_value (w : Fin 1024 → ℕ → ℝ) (y : (⟨S1024x4096, .bf16⟩ : BufTy).Contents (Elt Ideal))
    (hw : ∀ (k : Fin 1024) (n : Fin 4096), y (ix2 k n) = ((w k n.val : ℝ) : EReal))
    (b : Fin 2) (r : Fin 2048) (g : Fin 32) (l : Fin 128) :
    val_main_v31 (F := Ideal) x0 y (ix4 b r g l) = ((projR x w b r.val (128 * g.val + l.val) : ℝ) : EReal) :=
  (v31_any x x0 hX (fun k n => ((w k n : ℝ) : EReal)) y hw b r g l).trans
    (dot_coe _ _ _ _ (fun _ => rfl) (fun _ => rfl))

/-- The two lanes of a pair. -/
theorem pair_idx (b : Fin 2) (r : Fin 2048) (g : Fin 32) (p : Fin 64) (e : Fin 2) (l : Fin 128) (hl : l.val = 2 * p.val + e.val) :
    idx_main_v32 (ix5 b r g p e) = ix4 b r g l := by
  have hb := b.isLt
  have hr := r.isLt
  have hg := g.isLt
  have hp := p.isLt
  have he := e.isLt
  funext a; apply Fin.ext
  match a with
  | ⟨0, _⟩ => show ((((b.val * 2048 + r.val) * 32 + g.val) * 64 + p.val) * 2 + e.val) / 8388608 = b.val; omega
  | ⟨1, _⟩ => show ((((b.val * 2048 + r.val) * 32 + g.val) * 64 + p.val) * 2 + e.val) / 4096 % 2048 = r.val; omega
  | ⟨2, _⟩ => show ((((b.val * 2048 + r.val) * 32 + g.val) * 64 + p.val) * 2 + e.val) / 128 % 32 = g.val; omega
  | ⟨3, _⟩ => show ((((b.val * 2048 + r.val) * 32 + g.val) * 64 + p.val) * 2 + e.val) % 128 = l.val; omega

theorem drop_idx (b : Fin 2) (r : Fin 2048) (g : Fin 32) (p : Fin 64) :
    idx_main_v34 (ix4 b r g p) = ix5 b r g p (0 : Fin 1) := by
  have hb := b.isLt
  have hr := r.isLt
  have hg := g.isLt
  have hp := p.isLt
  funext a; apply Fin.ext
  match a with
  | ⟨0, _⟩ => show (((b.val * 2048 + r.val) * 32 + g.val) * 64 + p.val) / 4194304 = b.val; omega
  | ⟨1, _⟩ => show (((b.val * 2048 + r.val) * 32 + g.val) * 64 + p.val) / 2048 % 2048 = r.val; omega
  | ⟨2, _⟩ => show (((b.val * 2048 + r.val) * 32 + g.val) * 64 + p.val) / 64 % 32 = g.val; omega
  | ⟨3, _⟩ => show (((b.val * 2048 + r.val) * 32 + g.val) * 64 + p.val) / 1 % 64 = p.val; omega
  | ⟨4, _⟩ => rfl

/-- The reference's swap of the two lanes of a pair. -/
theorem v40_even (y : (⟨S1024x4096, .bf16⟩ : BufTy).Contents (Elt Ideal)) (b : Fin 2) (r : Fin 2048) (g : Fin 32) (p : Fin 64)
    (l : Fin 128) (hl : l.val = 2 * p.val + 1) :
    val_main_v40 (F := Ideal) x0 y (ix5 b r g p (0 : Fin 2)) = -val_main_v31 (F := Ideal) x0 y (ix4 b r g l) := by
  unfold val_main_v40
  rw [concatenate_pair_apply_left (s₁ := S2x2048x32x64x1) (s₂ := S2x2048x32x64x1) (t := S2x2048x32x64x2) (4 : Fin 5) _ _ _
      (ix5 b r g p (0 : Fin 2)) rfl (ix5 (n0 := 2) (n1 := 2048) (n2 := 32) (n3 := 64) (n4 := 1) b r g p (0 : Fin 1))
      (fun a => by match a with | ⟨0, _⟩ => rfl | ⟨1, _⟩ => rfl | ⟨2, _⟩ => rfl | ⟨3, _⟩ => rfl | ⟨4, _⟩ => rfl),
    val_main_v38_apply, show idx_main_v38 (ix5 b r g p (0 : Fin 1)) = ix4 b r g p from by
      funext a; match a with | ⟨0, _⟩ => rfl | ⟨1, _⟩ => rfl | ⟨2, _⟩ => rfl | ⟨3, _⟩ => rfl,
    val_main_v35_apply, val_main_v34_apply, drop_idx, val_main_v33_apply,
    show idx_main_v33 (ix5 b r g p (0 : Fin 1)) = ix5 b r g p (1 : Fin 2) from by
      funext a; match a with | ⟨0, _⟩ => rfl | ⟨1, _⟩ => rfl | ⟨2, _⟩ => rfl | ⟨3, _⟩ => rfl | ⟨4, _⟩ => rfl,
    val_main_v32_apply, pair_idx b r g p 1 l hl]
  rfl

theorem v40_odd (y : (⟨S1024x4096, .bf16⟩ : BufTy).Contents (Elt Ideal)) (b : Fin 2) (r : Fin 2048) (g : Fin 32) (p : Fin 64)
    (l : Fin 128) (hl : l.val = 2 * p.val) :
    val_main_v40 (F := Ideal) x0 y (ix5 b r g p (1 : Fin 2)) = val_main_v31 (F := Ideal) x0 y (ix4 b r g l) := by
  unfold val_main_v40
  rw [concatenate_pair_apply_right (s₁ := S2x2048x32x64x1) (s₂ := S2x2048x32x64x1) (t := S2x2048x32x64x2) (4 : Fin 5) _ _ _
      (ix5 b r g p (1 : Fin 2)) rfl rfl (ix5 (n0 := 2) (n1 := 2048) (n2 := 32) (n3 := 64) (n4 := 1) b r g p (0 : Fin 1))
      (fun a ha => by match a with | ⟨0, _⟩ => rfl | ⟨1, _⟩ => rfl | ⟨2, _⟩ => rfl | ⟨3, _⟩ => rfl | ⟨4, _⟩ => exact absurd rfl ha) rfl,
    val_main_v39_apply, show idx_main_v39 (ix5 b r g p (0 : Fin 1)) = ix4 b r g p from by
      funext a; match a with | ⟨0, _⟩ => rfl | ⟨1, _⟩ => rfl | ⟨2, _⟩ => rfl | ⟨3, _⟩ => rfl,
    val_main_v37_apply, show idx_main_v37 (ix4 b r g p) = ix5 b r g p (0 : Fin 1) from drop_idx b r g p, val_main_v36_apply,
    show idx_main_v36 (ix5 b r g p (0 : Fin 1)) = ix5 b r g p (0 : Fin 2) from by
      funext a; match a with | ⟨0, _⟩ => rfl | ⟨1, _⟩ => rfl | ⟨2, _⟩ => rfl | ⟨3, _⟩ => rfl | ⟨4, _⟩ => rfl,
    val_main_v32_apply, pair_idx b r g p 0 l hl]

include hX in
theorem v48_value (w : Fin 1024 → ℕ → ℝ) (y : (⟨S1024x4096, .bf16⟩ : BufTy).Contents (Elt Ideal))
    (hw : ∀ (k : Fin 1024) (n : Fin 4096), y (ix2 k n) = ((w k n.val : ℝ) : EReal))
    (b : Fin 2) (r : Fin 2048) (g : Fin 32) (l : Fin 128) :
    val_main_v48 (F := Ideal) x0 y (ix4 b r g l)
      = ((rotR (projR x w b r.val) r.val (128 * g.val + l.val) : ℝ) : EReal) := by
  have hb := b.isLt
  have hr := r.isLt
  have hg := g.isLt
  have hl := l.isLt
  have hn : (128 * g.val + l.val) % 128 = l.val := by omega
  have hc : val_main_v43 (F := Ideal) (ix4 b r g l) = ((Real.cos (ang r.val (128 * g.val + l.val)) : ℝ) : EReal) := by
    rw [val_main_v43_apply, val_main_v42_apply]
    exact v26_apply r l _ hn
  have hs : val_main_v46 (F := Ideal) (ix4 b r g l) = ((Real.sin (ang r.val (128 * g.val + l.val)) : ℝ) : EReal) := by
    rw [val_main_v46_apply, val_main_v45_apply]
    exact v29_apply r l _ hn
  have ht := v31_value x x0 hX w y hw b r g
  rw [val_main_v48_apply, val_main_v44_apply, val_main_v47_apply, hc, hs, ht l, val_main_v41_apply]
  have ei : ∀ e : Fin 2, e.val = l.val % 2 → idx_main_v41 (ix4 b r g l) = ix5 b r g (pairOf l) e := by
    intro e he
    funext a; apply Fin.ext
    match a with
    | ⟨0, _⟩ => show (((b.val * 2048 + r.val) * 32 + g.val) * 128 + l.val) / 8388608 = b.val; omega
    | ⟨1, _⟩ => show (((b.val * 2048 + r.val) * 32 + g.val) * 128 + l.val) / 4096 % 2048 = r.val; omega
    | ⟨2, _⟩ => show (((b.val * 2048 + r.val) * 32 + g.val) * 128 + l.val) / 128 % 32 = g.val; omega
    | ⟨3, _⟩ => show (((b.val * 2048 + r.val) * 32 + g.val) * 128 + l.val) / 2 % 64 = l.val / 2; omega
    | ⟨4, _⟩ => show (((b.val * 2048 + r.val) * 32 + g.val) * 128 + l.val) % 2 = e.val; omega
  by_cases hp : l.val % 2 = 0
  · rw [ei 0 (by rw [hp]; rfl), v40_even x0 y b r g (pairOf l) ⟨l.val + 1, by omega⟩
      (by show l.val + 1 = 2 * (l.val / 2) + 1; omega), ht, rotR, if_pos (by omega)]
    show _ * _ + _ * _ = _
    rw [← EReal.coe_neg, ← EReal.coe_mul, ← EReal.coe_mul, ← EReal.coe_add]
    rfl
  · rw [ei 1 (by show 1 = _; omega), v40_odd x0 y b r g (pairOf l) ⟨l.val - 1, by omega⟩
      (by show l.val - 1 = 2 * (l.val / 2); omega), ht, rotR, if_neg (by omega)]
    show _ * _ + _ * _ = _
    rw [← EReal.coe_mul, ← EReal.coe_mul, ← EReal.coe_add, show 128 * g.val + l.val - 1 = 128 * g.val + (l.val - 1) by omega]

include hX hq hk in
theorem v72_value (b : Fin 2) (g : Fin 32) (i j : Fin 2048) :
    val_main_v72 (F := Ideal) x0 x1 x2 (ix4 b g i j) = ((scoreR x wq wk b g.val i.val j.val : ℝ) : EReal) := by
  rw [val_main_v72_apply, val_main_v70_apply, val_main_v71_apply]
  show _ * Ideal.ofBits .f32 0x3DB504F3#32 = _
  rw [ofBits_scale, scoreR, EReal.coe_mul]
  congr 1
  refine dot_coe _ _ _ _ (fun d => ?_) (fun d => ?_)
  · rw [show lidx_main_v70 (ix4 b g i j) d = ix4 b i g d from by
      funext a; match a with | ⟨0, _⟩ => rfl | ⟨1, _⟩ => rfl | ⟨2, _⟩ => rfl | ⟨3, _⟩ => rfl]
    exact v48_value x x0 hX wq x1 hq b i g d
  · rw [show ridx_main_v70 (ix4 b g i j) d = ix4 b j g d from by
      funext a; match a with | ⟨0, _⟩ => rfl | ⟨1, _⟩ => rfl | ⟨2, _⟩ => rfl | ⟨3, _⟩ => rfl]
    exact v48_value x x0 hX wk x2 hk b j g d

theorem reducesScores : S2x32x2048x2048.Reduces [3] S2x32x2048 := by decide

include hX hq hk in
theorem v73_real (b : Fin 2) (g : Fin 32) (i : Fin 2048) :
    ∃ M : ℝ, val_main_v73 (F := Ideal) x0 x1 x2 (ix3 b g i) = (M : EReal) := by
  have hf := hostReduce_maximumf_eq_multiReduction (F := Ideal) (φ := .f32) (val_main_v72 (F := Ideal) x0 x1 x2) 0xFF800000#32
    reducesTo_S2x32x2048x2048_S2x32x2048_d3 h_S_ reducesScores (.inl rfl) rfl
  have h1 : val_main_v73 (F := Ideal) x0 x1 x2 (ix3 b g i)
      = (Finset.univ : Finset (Fin 2048)).fold max (⊥ : EReal)
          (val_main_v72 (F := Ideal) x0 x1 x2 ∘ reducesScores.lift (ix3 b g i)) := by
    refine (congrFun hf (ix3 b g i)).trans ?_
    refine (Ideal.multiReduction_maximumf_single _ _ reducesScores (.inl rfl) rfl (ix3 b g i)).trans ?_
    rw [← ofBits_bot]
    rfl
  rw [h1]
  refine fold_max_real (by decide) _ (fun j => scoreR x wq wk b g.val i.val j.val) fun j => ?_
  rw [Function.comp_apply, show reducesScores.lift (ix3 b g i) j = ix4 b g i j from by
    funext a; apply Fin.ext
    match a with | ⟨0, _⟩ => rfl | ⟨1, _⟩ => rfl | ⟨2, _⟩ => rfl | ⟨3, _⟩ => rfl]
  exact v72_value x wq wk x0 x1 x2 hX hq hk b g i j

include hX hq hk hv in
theorem v82_value (b : Fin 2) (g : Fin 32) (d : Fin 128) (i : Fin 2048) :
    val_main_v82 (F := Ideal) x0 x1 x2 x3 (ix4 b g d i) = ctxR x wq wk wv b g.val i.val d.val := by
  obtain ⟨M, hM⟩ := v73_real x wq wk x0 x1 x2 hX hq hk b g i
  have he : ∀ j : Fin 2048, val_main_v77 (F := Ideal) x0 x1 x2 (ix4 b g i j)
      = ((Real.exp (scoreR x wq wk b g.val i.val j.val - M) : ℝ) : EReal) := by
    intro j
    rw [val_main_v77_apply, val_main_v76_apply, v72_value x wq wk x0 x1 x2 hX hq hk b g i j, val_main_v75_apply,
      val_main_v74_apply, show idx_main_v74 (idx_main_v75 (ix4 b g i j)) = ix3 b g i from by
        funext a; match a with | ⟨0, _⟩ => rfl | ⟨1, _⟩ => rfl | ⟨2, _⟩ => rfl, hM]
    show Ideal.exp (((scoreR x wq wk b g.val i.val j.val : ℝ) : EReal) - ((M : ℝ) : EReal)) = _
    rw [← EReal.coe_sub, Ideal.exp_coe]
  have hs : ∀ j : Fin 2048, val_main_v80 (F := Ideal) x0 x1 x2 (ix4 b g i j)
      = ((∑ j' : Fin 2048, Real.exp (scoreR x wq wk b g.val i.val j'.val - M) : ℝ) : EReal) := by
    intro j
    rw [val_main_v80_apply, val_main_v79_apply, show idx_main_v79 (idx_main_v80 (ix4 b g i j)) = ix3 b g i from by
        funext a; match a with | ⟨0, _⟩ => rfl | ⟨1, _⟩ => rfl | ⟨2, _⟩ => rfl, val_main_v78_apply]
    show Ideal.ofBits .f32 0x00000000#32 + _ = _
    rw [Ideal.ofBits_zero_f32, zero_add, ← coe_sum]
    refine Finset.sum_congr rfl fun j' _ => ?_
    rw [show idx_main_v78 (ix3 b g i) j' = ix4 b g i j' from by
        funext a; match a with | ⟨0, _⟩ => rfl | ⟨1, _⟩ => rfl | ⟨2, _⟩ => rfl | ⟨3, _⟩ => rfl]
    exact he j'
  have hpos : (∑ j' : Fin 2048, Real.exp (scoreR x wq wk b g.val i.val j'.val - M)) ≠ 0 :=
    ne_of_gt (Finset.sum_pos (fun _ _ => Real.exp_pos _) ⟨0, Finset.mem_univ _⟩)
  rw [val_main_v82_apply, ctxR]
  refine Finset.sum_congr rfl fun j _ => (congrArg₂ (· * ·) ?_ ?_).trans (mul_comm _ _)
  · rw [show lidx_main_v82 (ix4 b g d i) j = ix4 b j g d from by
        funext a; match a with | ⟨0, _⟩ => rfl | ⟨1, _⟩ => rfl | ⟨2, _⟩ => rfl | ⟨3, _⟩ => rfl]
    exact v31_any x x0 hX wv x3 hv b j g d
  · rw [show ridx_main_v82 (ix4 b g d i) j = ix4 b g i j from by
        funext a; match a with | ⟨0, _⟩ => rfl | ⟨1, _⟩ => rfl | ⟨2, _⟩ => rfl | ⟨3, _⟩ => rfl, val_main_v81_apply, he, hs]
    refine (div_coe_coe _ hpos).trans ?_
    rw [weightR, denR, ← weight_shift (fun j : Fin 2048 => scoreR x wq wk b g.val i.val j.val) M j]

/-- The head and the lane of a column. -/
def headOf (n : Fin 4096) : Fin 32 := ⟨n.val / 128, by have := n.isLt; omega⟩
def laneOf (n : Fin 4096) : Fin 128 := ⟨n.val % 128, Nat.mod_lt _ (by decide)⟩

include hX hq hk hv in
theorem v84_value (b : Fin 2) (i : Fin 2048) (n : Fin 4096) :
    val_main_v84 (F := Ideal) x0 x1 x2 x3 (ix3 b i n)
      = ctxR x wq wk wv b (n.val / 128) i.val (n.val % 128) := by
  have hb := b.isLt
  have hi := i.isLt
  have hn := n.isLt
  rw [val_main_v84_apply, val_main_v83_apply, show idx_main_v83 (idx_main_v84 (ix3 b i n)) = ix4 b (headOf n) (laneOf n) i from by
    funext a; apply Fin.ext
    match a with
    | ⟨0, _⟩ => show ((b.val * 2048 + i.val) * 4096 + n.val) / 8388608 = b.val; omega
    | ⟨1, _⟩ => show ((b.val * 2048 + i.val) * 4096 + n.val) / 128 % 32 = n.val / 128; omega
    | ⟨2, _⟩ => show ((b.val * 2048 + i.val) * 4096 + n.val) % 128 = n.val % 128; omega
    | ⟨3, _⟩ => show ((b.val * 2048 + i.val) * 4096 + n.val) / 4096 % 2048 = i.val; omega]
  exact v82_value x wq wk wv x0 x1 x2 x3 hX hq hk hv b (headOf n) (laneOf n) i

theorem outR_eq (b : Fin 2) (i : ℕ) (n : Fin 1024) :
    outR x wq wk wv wo b i n = ∑ k : Fin 4096, ctxR x wq wk wv b (k.val / 128) i (k.val % 128) * wo k.val n := by
  rw [show (∑ k : Fin 4096, ctxR x wq wk wv b (k.val / 128) i (k.val % 128) * wo k.val n)
      = ∑ g : Fin 32, ∑ d : Fin 128, ctxR x wq wk wv b ((128 * g.val + d.val) / 128) i ((128 * g.val + d.val) % 128)
          * wo (128 * g.val + d.val) n from
    sum_split 32 128 fun k => ctxR x wq wk wv b (k / 128) i (k % 128) * wo k n]
  have hh : ∀ g : Fin 32, (∑ d : Fin 128, ctxR x wq wk wv b ((128 * g.val + d.val) / 128) i ((128 * g.val + d.val) % 128)
      * wo (128 * g.val + d.val) n) = headR x wq wk wv wo b g.val i n := by
    intro g
    refine Finset.sum_congr rfl fun d _ => ?_
    have := d.isLt
    rw [show (128 * g.val + d.val) / 128 = g.val by omega, show (128 * g.val + d.val) % 128 = d.val by omega]
  simp only [hh]
  exact (sum_split 4 8 fun g => headR x wq wk wv wo b g i n).symm

include hX hq hk hv ho in
/-- The reference's result. -/
theorem reference_value (b : Fin 2) (i : Fin 2048) (n : Fin 1024) :
    val_main_v85 (F := Ideal) x0 x1 x2 x3 x4 (ix3 b i n) = outR x wq wk wv wo b i.val n := by
  rw [val_main_v85_apply, outR_eq]
  refine Finset.sum_congr rfl fun k _ => congrArg₂ (· * ·) ?_ ?_
  · rw [show lidx_main_v85 (ix3 b i n) k = ix3 b i k from by
        funext a; match a with | ⟨0, _⟩ => rfl | ⟨1, _⟩ => rfl | ⟨2, _⟩ => rfl]
    exact v84_value x wq wk wv x0 x1 x2 x3 hX hq hk hv b i k
  · rw [val_main_v4_apply, show ridx_main_v85 (ix3 b i n) k = ix2 k n from by
        funext a; match a with | ⟨0, _⟩ => rfl | ⟨1, _⟩ => rfl]
    exact ho k n

end Layer

end Cert.RingProof.Ref
-- ==== Proof.Algebraic.lean ====
module

public import proofs.«01_k».proof.Defs
public import proofs.«01_k».proof.Proof.Finite
public import proofs.«01_k».proof.Proof.Args
public import proofs.«01_k».proof.Proof.KernelValue
public import proofs.«01_k».proof.Proof.ReferenceValue
public import proofs.«01_k».proof.Proof.Gen.ReferenceIdeal.Run

@[expose] public section

/-! The kernel computes the reference's layer -/

noncomputable section

namespace Cert.RingProof

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The whole arrays and their blocks -/

abbrev xS : Shape := ⟨3, ![2, 2048, 1024]⟩
abbrev wS : Shape := ⟨2, ![1024, 4096]⟩
abbrev oS : Shape := ⟨2, ![4096, 1024]⟩
abbrev xB : Shape := ⟨3, ![2, 512, 1024]⟩
abbrev wB : Shape := ⟨2, ![1024, 1024]⟩

theorem tx : Layout.Tiles xB xS 1 4 := by decide
theorem tw : Layout.Tiles wB wS 1 4 := by decide
theorem ty : Layout.Tiles wB oS 0 4 := by decide

theorem idx_x (c : Fin 4) (b : Fin 2) (r : Fin 512) (k : Fin 1024) (h : 512 * c.val + r.val < 2048) :
    tx.idx c (ix3 b r k) = ix3 b ⟨512 * c.val + r.val, h⟩ k := by
  funext a
  match a with
  | ⟨0, _⟩ => rfl
  | ⟨1, _⟩ => exact Fin.ext (show c.val * 512 + r.val = 512 * c.val + r.val by omega)
  | ⟨2, _⟩ => rfl

theorem idx_w (c : Fin 4) (k j : Fin 1024) (h : 1024 * c.val + j.val < 4096) :
    tw.idx c (ix2 k j) = ix2 k ⟨1024 * c.val + j.val, h⟩ := by
  funext a
  match a with
  | ⟨0, _⟩ => rfl
  | ⟨1, _⟩ => exact Fin.ext (show c.val * 1024 + j.val = 1024 * c.val + j.val by omega)

theorem idx_o (c : Fin 4) (k n : Fin 1024) (h : 1024 * c.val + k.val < 4096) :
    ty.idx c (ix2 k n) = ix2 ⟨1024 * c.val + k.val, h⟩ n := by
  funext a
  match a with
  | ⟨0, _⟩ => exact Fin.ext (show c.val * 1024 + k.val = 1024 * c.val + k.val by omega)
  | ⟨1, _⟩ => rfl

/-- The reals an array holds, read at any numbers. -/
def realX (a : xS.Idx → EReal) (b : Fin 2) (r : ℕ) (k : Fin 1024) : ℝ :=
  if h : r < 2048 then (a (ix3 b ⟨r, h⟩ k)).toReal else 0
def realW (a : wS.Idx → EReal) (k : Fin 1024) (n : ℕ) : ℝ := if h : n < 4096 then (a (ix2 k ⟨n, h⟩)).toReal else 0

/-- What an array holds, read at any numbers. -/
def entryW (a : wS.Idx → EReal) (k : Fin 1024) (n : ℕ) : EReal := if h : n < 4096 then a (ix2 k ⟨n, h⟩) else 0
def entryO (a : oS.Idx → EReal) (k : ℕ) (n : Fin 1024) : EReal := if h : k < 4096 then a (ix2 ⟨k, h⟩ n) else 0

section

variable (a : xS.Idx → EReal) (w : wS.Idx → EReal) (o : oS.Idx → EReal)

theorem blockX (hf : ∀ (c : Fin 4) i, a (tx.idx c i) = (((a (tx.idx c i)).toReal : ℝ) : EReal))
    (c : Fin 4) (b : Fin 2) (r : Fin 512) (k : Fin 1024) :
    a (tx.idx c (ix3 b r k)) = ((realX a b (512 * c.val + r.val) k : ℝ) : EReal) := by
  have h : 512 * c.val + r.val < 2048 := by omega
  rw [hf c (ix3 b r k), idx_x c b r k h, realX, dif_pos h]

theorem blockW (hf : ∀ (c : Fin 4) i, w (tw.idx c i) = (((w (tw.idx c i)).toReal : ℝ) : EReal))
    (c : Fin 4) (k j : Fin 1024) : w (tw.idx c (ix2 k j)) = ((realW w k (1024 * c.val + j.val) : ℝ) : EReal) := by
  have h : 1024 * c.val + j.val < 4096 := by omega
  rw [hf c (ix2 k j), idx_w c k j h, realW, dif_pos h]

theorem blockE (c : Fin 4) (k j : Fin 1024) : w (tw.idx c (ix2 k j)) = entryW w k (1024 * c.val + j.val) := by
  have h : 1024 * c.val + j.val < 4096 := by omega
  rw [idx_w c k j h, entryW, dif_pos h]

theorem blockO (c : Fin 4) (k n : Fin 1024) : o (ty.idx c (ix2 k n)) = entryO o (1024 * c.val + k.val) n := by
  have h : 1024 * c.val + k.val < 4096 := by omega
  rw [idx_o c k n h, entryO, dif_pos h]

theorem wholeX (hf : ∀ (c : Fin 4) i, a (tx.idx c i) = (((a (tx.idx c i)).toReal : ℝ) : EReal))
    (b : Fin 2) (r : Fin 2048) (k : Fin 1024) : a (ix3 b r k) = ((realX a b r.val k : ℝ) : EReal) := by
  have h := blockX a hf ⟨r.val / 512, by omega⟩ b ⟨r.val % 512, by omega⟩ k
  have e : 512 * (r.val / 512) + r.val % 512 = r.val := by omega
  rw [idx_x ⟨r.val / 512, by omega⟩ b ⟨r.val % 512, by omega⟩ k (by simp only; omega)] at h
  simp only [e] at h
  exact h

theorem wholeW (hf : ∀ (c : Fin 4) i, w (tw.idx c i) = (((w (tw.idx c i)).toReal : ℝ) : EReal))
    (k : Fin 1024) (n : Fin 4096) : w (ix2 k n) = ((realW w k n.val : ℝ) : EReal) := by
  have h := blockW w hf ⟨n.val / 1024, by omega⟩ k ⟨n.val % 1024, by omega⟩
  have e : 1024 * (n.val / 1024) + n.val % 1024 = n.val := by omega
  rw [idx_w ⟨n.val / 1024, by omega⟩ k ⟨n.val % 1024, by omega⟩ (by simp only; omega)] at h
  simp only [e] at h
  exact h

theorem wholeE (k : Fin 1024) (n : Fin 4096) : w (ix2 k n) = entryW w k n.val := by rw [entryW, dif_pos n.isLt]

theorem wholeO (k : Fin 4096) (n : Fin 1024) : o (ix2 k n) = entryO o k.val n := by rw [entryO, dif_pos k.isLt]

end

/-- On blocks of arrays whose first three are real, each device's result is its block of the reference's. -/
theorem result_block (a0 : FVec Ideal xS .bf16) (a1 a2 a3 : FVec Ideal wS .bf16) (a4 : FVec Ideal oS .bf16)
    (I : Inp Ideal)
    (h0 : ∀ c : Dev nD, I.X c = Layout.block xB xS 1 4 c a0 tx) (h1 : ∀ c : Dev nD, I.Wq c = Layout.block wB wS 1 4 c a1 tw)
    (h2 : ∀ c : Dev nD, I.Wk c = Layout.block wB wS 1 4 c a2 tw) (h3 : ∀ c : Dev nD, I.Wv c = Layout.block wB wS 1 4 c a3 tw)
    (h4 : ∀ c : Dev nD, I.Wo c = Layout.block wB oS 0 4 c a4 ty)
    (f0 : ∀ (c : Dev nD) i, (I.X c i : EReal) = (((I.X c i : EReal).toReal : ℝ) : EReal))
    (f1 : ∀ (c : Dev nD) i, (I.Wq c i : EReal) = (((I.Wq c i : EReal).toReal : ℝ) : EReal))
    (f2 : ∀ (c : Dev nD) i, (I.Wk c i : EReal) = (((I.Wk c i : EReal).toReal : ℝ) : EReal)) (c : Dev nD) :
    outAt I c = Layout.block xB xS 1 4 c (Cert.ReferenceIdeal.Read.val_main_v85 (F := Ideal) a0 a1 a2 a3 a4) tx := by
  have g0 : ∀ (c : Fin 4) i, (a0 (tx.idx c i) : EReal) = (((a0 (tx.idx c i) : EReal).toReal : ℝ) : EReal) := fun c i => by
    have := f0 c i; rw [h0 c] at this; exact this
  have g1 : ∀ (c : Fin 4) i, (a1 (tw.idx c i) : EReal) = (((a1 (tw.idx c i) : EReal).toReal : ℝ) : EReal) := fun c i => by
    have := f1 c i; rw [h1 c] at this; exact this
  have g2 : ∀ (c : Fin 4) i, (a2 (tw.idx c i) : EReal) = (((a2 (tw.idx c i) : EReal).toReal : ℝ) : EReal) := fun c i => by
    have := f2 c i; rw [h2 c] at this; exact this
  have key : ∀ (b : Fin 2) (r : Fin 512) (n : Fin 1024), outAt I c (ix3 b r n)
      = Cert.ReferenceIdeal.Read.val_main_v85 (F := Ideal) a0 a1 a2 a3 a4 (tx.idx c (ix3 b r n)) := fun b r n => by
    have hr : 512 * c.val + r.val < 2048 := by have := show c.val < 4 from c.isLt; omega
    rw [idx_x c b r n hr]
    refine Eq.trans ?_ (Ref.reference_value (realX a0) (realW a1) (realW a2) (entryW a3) (entryO a4) a0 a1 a2 a3 a4
      (wholeX a0 g0) (wholeW a1 g1) (wholeW a2 g2) (wholeE a3) (wholeO a4) b ⟨512 * c.val + r.val, hr⟩ n).symm
    exact result_value (realX a0) (realW a1) (realW a2) (entryW a3) (entryO a4) I.X I.Wq I.Wk I.Wv I.Wo
      (fun d b r k => (congrFun (h0 d) _).trans (blockX a0 g0 d b r k))
      (fun d k j => (congrFun (h1 d) _).trans (blockW a1 g1 d k j))
      (fun d k j => (congrFun (h2 d) _).trans (blockW a2 g2 d k j))
      (fun d k j => (congrFun (h3 d) _).trans (blockE a3 d k j))
      (fun d k n => (congrFun (h4 d) _).trans (blockO a4 d k n)) c b r n
  funext i
  have hi : i = ix3 (i 0) (i 1) (i 2) := by
    funext a; match a with | ⟨0, _⟩ => rfl | ⟨1, _⟩ => rfl | ⟨2, _⟩ => rfl
  rw [hi]
  exact key (i 0) (i 1) (i 2)

theorem algebraic : Cert.algebraic_KernelIdeal_ReferenceIdeal_pre_finite_KernelIdeal := by
  intro m g m' g' hpre hm
  refine ⟨Cert.ReferenceIdeal.Value.res_main_v85 m' 0, ?_, ?_⟩
  · refine (θ_run defs _ _).mono (fun r h c => ?_) (run_main (F := Ideal) m g)
    refine ⟨(h.1 c (5 : Fin 6)).trans ((final_out m g c).trans ?_), args_of m g h.1 c⟩
    rw [Cert.ReferenceIdeal.Read.val_main_v85_eq m' 0]
    have hf := fun d => finite_entries _ _ _ _ _ (hpre d)
    refine result_block _ _ _ _ _ (inp m)
      (fun d => (read_0 _).trans (hm d).1) (fun d => (read_1 _).trans (hm d).2.1) (fun d => (read_2 _).trans (hm d).2.2.1)
      (fun d => (read_3 _).trans (hm d).2.2.2.1) (fun d => (read_4 _).trans (hm d).2.2.2.2)
      (fun d i => ?_) (fun d i => ?_) (fun d i => ?_) c
    · rw [show (inp m).X d = m ((d : Thread nD τ).loc main_arg0) from read_0 (F := Ideal) (m ((d : Thread nD τ).loc main_arg0))]; exact (hf d).1 i
    · rw [show (inp m).Wq d = m ((d : Thread nD τ).loc main_arg1) from read_1 (F := Ideal) (m ((d : Thread nD τ).loc main_arg1))]; exact (hf d).2.1 i
    · rw [show (inp m).Wk d = m ((d : Thread nD τ).loc main_arg2) from read_2 (F := Ideal) (m ((d : Thread nD τ).loc main_arg2))]; exact (hf d).2.2 i
  · exact (θ_run Cert.ReferenceIdeal.defs _ _).mono (fun _ h => h 0) (Cert.ReferenceIdeal.Value.run (F := Ideal) m' g')

end Cert.RingProof
-- ==== Proof.lean ====
module

public import proofs.«01_k».proof.Defs
public import proofs.«01_k».proof.Proof.KernelFrames
public import proofs.«01_k».proof.Proof.RefFrame
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Algebraic

@[expose] public section

/-! # The claim -/

noncomputable section

namespace Cert.Proof

open Idealize.ShloMosaic Idealize.SL.Sem

/-- The named constant of the idealized print is the real its table gives. -/
theorem preserves : Cert.preserves_Kernel_KernelIdeal :=
  IdealRules.named_const.statement Cert.KernelIdeal.κ "neg_log_base" .f32 0xC1135D8E#32
    ((-(Real.log 10000) : ℝ) : EReal) rfl

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.RingProof.frame_kernel, Cert.RingProof.frame_ideal,
    fun m g _ => Cert.RingProof.frame_ideal m g trivial, Cert.RingProof.frame_reference,
    fun m g _ => Cert.RingProof.frame_reference m g trivial, preserves, Cert.RingProof.algebraic⟩

end Cert.Proof

end
